-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x32x128 : S_.BroadcastsInDim S1x2048x32x128 (![] : Fin 0 → Fin S1x2048x32x128.rank)
  reducesTo_S1x2048x32x128_S_d0_1_2_3 : S1x2048x32x128.ReducesTo [0, 1, 2, 3] S_

variable [Facts]

def fn_part1 {F : FTy → Type} [FloatOps F] (main_arg2 : FVec F S1x2048x32x128 .bf16) (main_v12 : IVec S_ 1) (main_v14 : IVec S1x2048x32x128 1) (main_v15 : FVec F S1x2048x32x128 .bf16) : IVec S_ 1 :=
  let main_v16 : IVec S1x2048x32x128 1 := cmpf .ogt main_arg2 main_v15
  let main_v17 : IVec S1x2048x32x128 1 := andi main_v14 main_v16
  let main_c_6 : IVec S_ 1 := constantI S_ 1 1#1
  let main_v18 : IVec S_ 1 := (fun x v => Host.reduce IntOp.andi x v reducesTo_S1x2048x32x128_S_d0_1_2_3 h_S_) main_v17 main_c_6
  let main_v19 : IVec S_ 1 := andi main_v12 main_v18
  main_v19

def fn {F : FTy → Type} [FloatOps F] (main_arg0 : FVec F S1x2048x1024 .bf16) (main_arg1 : FVec F S1024x1024 .bf16) (main_arg2 : FVec F S1x2048x32x128 .bf16) (main_arg3 : FVec F S1x2048x32x128 .bf16) (main_arg4 : FVec F S1024x1024 .bf16) : IVec S_ 1 :=
  let main_cst : FVec F S_ .bf16 := constant S_ .bf16 0x7F80#16
  let main_v0 : FVec F S1x2048x1024 .bf16 := broadcastInDim S1x2048x1024 ![] bcast_S_S1x2048x1024 main_cst
  let main_v1 : IVec S1x2048x1024 1 := cmpf .olt main_arg0 main_v0
  let main_cst_0 : FVec F S_ .bf16 := constant S_ .bf16 0xFF80#16
  let main_v2 : FVec F S1x2048x1024 .bf16 := broadcastInDim S1x2048x1024 ![] bcast_S_S1x2048x1024 main_cst_0
  let main_v3 : IVec S1x2048x1024 1 := cmpf .ogt main_arg0 main_v2
  let main_v4 : IVec S1x2048x1024 1 := andi main_v1 main_v3
  let main_c : IVec S_ 1 := constantI S_ 1 1#1
  let main_v5 : IVec S_ 1 := (fun x v => Host.reduce IntOp.andi x v reducesTo_S1x2048x1024_S_d0_1_2 h_S_) main_v4 main_c
  let main_cst_1 : FVec F S_ .bf16 := constant S_ .bf16 0x7F80#16
  let main_v6 : FVec F S1024x1024 .bf16 := broadcastInDim S1024x1024 ![] bcast_S_S1024x1024 main_cst_1
  let main_v7 : IVec S1024x1024 1 := cmpf .olt main_arg1 main_v6
  let main_cst_2 : FVec F S_ .bf16 := constant S_ .bf16 0xFF80#16
  let main_v8 : FVec F S1024x1024 .bf16 := broadcastInDim S1024x1024 ![] bcast_S_S1024x1024 main_cst_2
  let main_v9 : IVec S1024x1024 1 := cmpf .ogt main_arg1 main_v8
  let main_v10 : IVec S1024x1024 1 := andi main_v7 main_v9
  let main_c_3 : IVec S_ 1 := constantI S_ 1 1#1
  let main_v11 : IVec S_ 1 := (fun x v => Host.reduce IntOp.andi x v reducesTo_S1024x1024_S_d0_1 h_S_) main_v10 main_c_3
  let main_v12 : IVec S_ 1 := andi main_v5 main_v11
  let main_cst_4 : FVec F S_ .bf16 := constant S_ .bf16 0x7F80#16
  let main_v13 : FVec F S1x2048x32x128 .bf16 := broadcastInDim S1x2048x32x128 ![] bcast_S_S1x2048x32x128 main_cst_4
  let main_v14 : IVec S1x2048x32x128 1 := cmpf .olt main_arg2 main_v13
  let main_cst_5 : FVec F S_ .bf16 := constant S_ .bf16 0xFF80#16
  let main_v15 : FVec F S1x2048x32x128 .bf16 := broadcastInDim S1x2048x32x128 ![] bcast_S_S1x2048x32x128 main_cst_5
  fn_part1 (F := F) main_arg2 main_v12 main_v14 main_v15
-- ==== Pre_finite_inputs_ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x2048x32x128 : S_.BroadcastsInDim S1x2048x32x128 (![] : Fin 0 → Fin S1x2048x32x128.rank)
  reducesTo_S1x2048x32x128_S_d0_1_2_3 : S1x2048x32x128.ReducesTo [0, 1, 2, 3] S_

variable [Facts]

def fn_part1 {F : FTy → Type} [FloatOps F] (main_arg2 : FVec F S1x2048x32x128 .bf16) (main_v12 : IVec S_ 1) (main_v14 : IVec S1x2048x32x128 1) (main_v15 : FVec F S1x2048x32x128 .bf16) : IVec S_ 1 :=
  let main_v16 : IVec S1x2048x32x128 1 := cmpf .ogt main_arg2 main_v15
  let main_v17 : IVec S1x2048x32x128 1 := andi main_v14 main_v16
  let main_c_6 : IVec S_ 1 := constantI S_ 1 1#1
  let main_v18 : IVec S_ 1 := (fun x v => Host.reduce IntOp.andi x v reducesTo_S1x2048x32x128_S_d0_1_2_3 h_S_) main_v17 main_c_6
  let main_v19 : IVec S_ 1 := andi main_v12 main_v18
  main_v19

def fn {F : FTy → Type} [FloatOps F] (main_arg0 : FVec F S1x2048x1024 .bf16) (main_arg1 : FVec F S1024x4096 .bf16) (main_arg2 : FVec F S1x2048x32x128 .bf16) (main_arg3 : FVec F S1x2048x32x128 .bf16) (main_arg4 : FVec F S4096x1024 .bf16) : IVec S_ 1 :=
  let main_cst : FVec F S_ .bf16 := constant S_ .bf16 0x7F80#16
  let main_v0 : FVec F S1x2048x1024 .bf16 := broadcastInDim S1x2048x1024 ![] bcast_S_S1x2048x1024 main_cst
  let main_v1 : IVec S1x2048x1024 1 := cmpf .olt main_arg0 main_v0
  let main_cst_0 : FVec F S_ .bf16 := constant S_ .bf16 0xFF80#16
  let main_v2 : FVec F S1x2048x1024 .bf16 := broadcastInDim S1x2048x1024 ![] bcast_S_S1x2048x1024 main_cst_0
  let main_v3 : IVec S1x2048x1024 1 := cmpf .ogt main_arg0 main_v2
  let main_v4 : IVec S1x2048x1024 1 := andi main_v1 main_v3
  let main_c : IVec S_ 1 := constantI S_ 1 1#1
  let main_v5 : IVec S_ 1 := (fun x v => Host.reduce IntOp.andi x v reducesTo_S1x2048x1024_S_d0_1_2 h_S_) main_v4 main_c
  let main_cst_1 : FVec F S_ .bf16 := constant S_ .bf16 0x7F80#16
  let main_v6 : FVec F S1024x4096 .bf16 := broadcastInDim S1024x4096 ![] bcast_S_S1024x4096 main_cst_1
  let main_v7 : IVec S1024x4096 1 := cmpf .olt main_arg1 main_v6
  let main_cst_2 : FVec F S_ .bf16 := constant S_ .bf16 0xFF80#16
  let main_v8 : FVec F S1024x4096 .bf16 := broadcastInDim S1024x4096 ![] bcast_S_S1024x4096 main_cst_2
  let main_v9 : IVec S1024x4096 1 := cmpf .ogt main_arg1 main_v8
  let main_v10 : IVec S1024x4096 1 := andi main_v7 main_v9
  let main_c_3 : IVec S_ 1 := constantI S_ 1 1#1
  let main_v11 : IVec S_ 1 := (fun x v => Host.reduce IntOp.andi x v reducesTo_S1024x4096_S_d0_1 h_S_) main_v10 main_c_3
  let main_v12 : IVec S_ 1 := andi main_v5 main_v11
  let main_cst_4 : FVec F S_ .bf16 := constant S_ .bf16 0x7F80#16
  let main_v13 : FVec F S1x2048x32x128 .bf16 := broadcastInDim S1x2048x32x128 ![] bcast_S_S1x2048x32x128 main_cst_4
  let main_v14 : IVec S1x2048x32x128 1 := cmpf .olt main_arg2 main_v13
  let main_cst_5 : FVec F S_ .bf16 := constant S_ .bf16 0xFF80#16
  let main_v15 : FVec F S1x2048x32x128 .bf16 := broadcastInDim S1x2048x32x128 ![] bcast_S_S1x2048x32x128 main_cst_5
  fn_part1 (F := F) main_arg2 main_v12 main_v14 main_v15
-- ==== Kernel.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S_ : Shape := ⟨0, ![]⟩
abbrev S2048x1024 : Shape := ⟨2, ![2048, 1024]⟩
abbrev S2048x32x128 : Shape := ⟨3, ![2048, 32, 128]⟩
abbrev S2048x8x128 : Shape := ⟨3, ![2048, 8, 128]⟩
abbrev S512x1024 : Shape := ⟨2, ![512, 1024]⟩
abbrev S4x512x512 : Shape := ⟨3, ![4, 512, 512]⟩
abbrev S3x512x512 : Shape := ⟨3, ![3, 512, 512]⟩
abbrev S6 : Shape := ⟨1, ![6]⟩
abbrev S64x1024 : Shape := ⟨2, ![64, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S128x1024 : Shape := ⟨2, ![128, 1024]⟩
abbrev S1x64x1024 : Shape := ⟨3, ![1, 64, 1024]⟩
abbrev S1x512x512 : Shape := ⟨3, ![1, 512, 512]⟩
abbrev S1 : Shape := ⟨1, ![1]⟩

abbrev nBuf : Space → Nat
  | .hbm => 37
  | .vmem => 19
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1x2048x32x128, .bf16⟩
  | .hbm, ⟨3, _⟩ => ⟨S1x2048x32x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x1024, .bf16⟩
  | .hbm, ⟨12, _⟩ => ⟨S2048x32x128, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2048x8x128, .bf16⟩
  | .hbm, ⟨23, _⟩ => ⟨S2048x32x128, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2048x8x128, .bf16⟩
  | .hbm, ⟨34, _⟩ => ⟨S2048x1024, .bf16⟩
  | .hbm, ⟨35, _⟩ => ⟨S2048x1024, .bf16⟩
  | .hbm, ⟨36, _⟩ => ⟨S1x2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1x2048x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S4x512x512, .bf16⟩
  | .local _ .vmem, ⟨14, _⟩ => ⟨S4x512x512, .bf16⟩
  | .local _ .vmem, ⟨15, _⟩ => ⟨S3x512x512, .bf16⟩
  | .local _ .vmem, ⟨16, _⟩ => ⟨S3x512x512, .bf16⟩
  | .local _ .vmem, ⟨17, _⟩ => ⟨S3x512x512, .bf16⟩
  | .local _ .vmem, ⟨18, _⟩ => ⟨S3x512x512, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_off1 (d0 : Dev nD) (c0_i32_717 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v1088 : BitVec 32 := Scalar.muli v2 c128_i32
  let v1089 : BitVec 32 := Scalar.addi c0_i32_717 v1088
  let v1090 : Index := Scalar.indexCast v1089
  let c0_718 : Index := 0#32
  ![v1090.toNat, 0]
def k0_off2 (d0 : Dev nD) (c0_i32_739 : BitVec 32) : Fin 3 → Nat :=
  let c0_740 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_738 : BitVec 32 := 512#32
  let v1120 : BitVec 32 := Scalar.muli v2 c512_i32_738
  let v1121 : BitVec 32 := Scalar.addi v1120 c0_i32_739
  let v1122 : Index := Scalar.indexCast v1121
  let c0_741 : Index := 0#32
  ![0, v1122.toNat, 0]
def k0_off3 (d0 : Dev nD) : Fin 3 → Nat :=
  let c0_765 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_764 : BitVec 32 := 512#32
  let v1175 : BitVec 32 := Scalar.muli v2 c512_i32_764
  let v1176 : Index := Scalar.indexCast v1175
  let c0_766 : Index := 0#32
  ![0, v1176.toNat, 0]
def k0_off4 (d0 : Dev nD) : Fin 3 → Nat :=
  let c0_771 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_770 : BitVec 32 := 512#32
  let v1183 : BitVec 32 := Scalar.muli v2 c512_i32_770
  let v1184 : Index := Scalar.indexCast v1183
  let c512_772 : Index := 512#32
  ![0, v1184.toNat, 512]
def k0_dev1 (d0 : Dev nD) : Nat :=
  let c0_i32_778 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_777 : BitVec 32 := 1#32
  let v1192 : BitVec 32 := Scalar.muli v25 c1_i32_777
  let v1193 : BitVec 32 := Scalar.addi c0_i32_778 v1192
  v1193.toNat
def k0_dev2 (d0 : Dev nD) : Nat :=
  let c0_i32_781 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_780 : BitVec 32 := 1#32
  let v1194 : BitVec 32 := Scalar.muli v13 c1_i32_780
  let v1195 : BitVec 32 := Scalar.addi c0_i32_781 v1194
  v1195.toNat
def k0_dev3 (d0 : Dev nD) : Nat :=
  let c0_i32_787 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_786 : BitVec 32 := 1#32
  let v1196 : BitVec 32 := Scalar.muli v13 c1_i32_786
  let v1197 : BitVec 32 := Scalar.addi c0_i32_787 v1196
  v1197.toNat
def k0_dev4 (d0 : Dev nD) : Nat :=
  let c0_i32_797 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_796 : BitVec 32 := 1#32
  let v1206 : BitVec 32 := Scalar.muli v25 c1_i32_796
  let v1207 : BitVec 32 := Scalar.addi c0_i32_797 v1206
  v1207.toNat
def k0_off5 (d0 : Dev nD) (c0_i32_810 : BitVec 32) (c1_i32_802 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1216 : BitVec 32 := Scalar.addi v2 c1_i32_802
  let c4_i32_803 : BitVec 32 := 4#32
  let c0_i32_804 : BitVec 32 := 0#32
  let v1217 : BitVec 1 := Scalar.cmpi .eq c4_i32_803 c0_i32_804
  let c1_i32_805 : BitVec 32 := 1#32
  let v1218 : BitVec 32 := Scalar.select v1217 c1_i32_805 c4_i32_803
  let v1219 : BitVec 32 := Scalar.remsi v1216 v1218
  let c0_i32_807 : BitVec 32 := 0#32
  let v1221 : BitVec 1 := Scalar.cmpi .slt v1219 c0_i32_807
  let c0_i32_808 : BitVec 32 := 0#32
  let v1222 : BitVec 1 := Scalar.cmpi .slt v1218 c0_i32_808
  let v1223 : BitVec 1 := Scalar.xori v1221 v1222
  let c0_i32_806 : BitVec 32 := 0#32
  let v1220 : BitVec 1 := Scalar.cmpi .ne v1219 c0_i32_806
  let v1224 : BitVec 1 := Scalar.andi v1223 v1220
  let v1225 : BitVec 32 := Scalar.addi v1219 v1218
  let v1226 : BitVec 32 := Scalar.select v1224 v1225 v1219
  let c128_i32_809 : BitVec 32 := 128#32
  let v1227 : BitVec 32 := Scalar.muli v1226 c128_i32_809
  let v1228 : BitVec 32 := Scalar.addi c0_i32_810 v1227
  let v1229 : Index := Scalar.indexCast v1228
  let c0_811 : Index := 0#32
  ![v1229.toNat, 0]
def k0_off6 (d0 : Dev nD) (c1_i32_802 : BitVec 32) (c0_i32_835 : BitVec 32) : Fin 3 → Nat :=
  let c0_836 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1216 : BitVec 32 := Scalar.addi v2 c1_i32_802
  let c4_i32_803 : BitVec 32 := 4#32
  let c0_i32_804 : BitVec 32 := 0#32
  let v1217 : BitVec 1 := Scalar.cmpi .eq c4_i32_803 c0_i32_804
  let c1_i32_805 : BitVec 32 := 1#32
  let v1218 : BitVec 32 := Scalar.select v1217 c1_i32_805 c4_i32_803
  let v1219 : BitVec 32 := Scalar.remsi v1216 v1218
  let c0_i32_807 : BitVec 32 := 0#32
  let v1221 : BitVec 1 := Scalar.cmpi .slt v1219 c0_i32_807
  let c0_i32_808 : BitVec 32 := 0#32
  let v1222 : BitVec 1 := Scalar.cmpi .slt v1218 c0_i32_808
  let v1223 : BitVec 1 := Scalar.xori v1221 v1222
  let c0_i32_806 : BitVec 32 := 0#32
  let v1220 : BitVec 1 := Scalar.cmpi .ne v1219 c0_i32_806
  let v1224 : BitVec 1 := Scalar.andi v1223 v1220
  let v1225 : BitVec 32 := Scalar.addi v1219 v1218
  let v1226 : BitVec 32 := Scalar.select v1224 v1225 v1219
  let c512_i32_834 : BitVec 32 := 512#32
  let v1259 : BitVec 32 := Scalar.muli v1226 c512_i32_834
  let v1260 : BitVec 32 := Scalar.addi v1259 c0_i32_835
  let v1261 : Index := Scalar.indexCast v1260
  let c0_837 : Index := 0#32
  ![0, v1261.toNat, 0]
def k0_off7 (d0 : Dev nD) (c0_i32_967 : BitVec 32) : Fin 3 → Nat :=
  let c0_987 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1440 : BitVec 32 := Scalar.subi v2 c0_i32_967
  let c1_i32_968 : BitVec 32 := 1#32
  let v1441 : BitVec 32 := Scalar.subi v1440 c1_i32_968
  let c4_i32_969 : BitVec 32 := 4#32
  let c0_i32_970 : BitVec 32 := 0#32
  let v1442 : BitVec 1 := Scalar.cmpi .eq c4_i32_969 c0_i32_970
  let c1_i32_971 : BitVec 32 := 1#32
  let v1443 : BitVec 32 := Scalar.select v1442 c1_i32_971 c4_i32_969
  let v1444 : BitVec 32 := Scalar.remsi v1441 v1443
  let c0_i32_973 : BitVec 32 := 0#32
  let v1446 : BitVec 1 := Scalar.cmpi .slt v1444 c0_i32_973
  let c0_i32_974 : BitVec 32 := 0#32
  let v1447 : BitVec 1 := Scalar.cmpi .slt v1443 c0_i32_974
  let v1448 : BitVec 1 := Scalar.xori v1446 v1447
  let c0_i32_972 : BitVec 32 := 0#32
  let v1445 : BitVec 1 := Scalar.cmpi .ne v1444 c0_i32_972
  let v1449 : BitVec 1 := Scalar.andi v1448 v1445
  let v1450 : BitVec 32 := Scalar.addi v1444 v1443
  let v1451 : BitVec 32 := Scalar.select v1449 v1450 v1444
  let c512_i32_986 : BitVec 32 := 512#32
  let v1467 : BitVec 32 := Scalar.muli v1451 c512_i32_986
  let v1468 : Index := Scalar.indexCast v1467
  let c0_988 : Index := 0#32
  ![0, v1468.toNat, 0]
def k0_off8 (d0 : Dev nD) (c0_i32_975 : BitVec 32) : Fin 3 → Nat :=
  let c0_993 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1452 : BitVec 32 := Scalar.addi v2 c0_i32_975
  let c1_i32_976 : BitVec 32 := 1#32
  let v1453 : BitVec 32 := Scalar.addi v1452 c1_i32_976
  let c4_i32_977 : BitVec 32 := 4#32
  let c0_i32_978 : BitVec 32 := 0#32
  let v1454 : BitVec 1 := Scalar.cmpi .eq c4_i32_977 c0_i32_978
  let c1_i32_979 : BitVec 32 := 1#32
  let v1455 : BitVec 32 := Scalar.select v1454 c1_i32_979 c4_i32_977
  let v1456 : BitVec 32 := Scalar.remsi v1453 v1455
  let c0_i32_981 : BitVec 32 := 0#32
  let v1458 : BitVec 1 := Scalar.cmpi .slt v1456 c0_i32_981
  let c0_i32_982 : BitVec 32 := 0#32
  let v1459 : BitVec 1 := Scalar.cmpi .slt v1455 c0_i32_982
  let v1460 : BitVec 1 := Scalar.xori v1458 v1459
  let c0_i32_980 : BitVec 32 := 0#32
  let v1457 : BitVec 1 := Scalar.cmpi .ne v1456 c0_i32_980
  let v1461 : BitVec 1 := Scalar.andi v1460 v1457
  let v1462 : BitVec 32 := Scalar.addi v1456 v1455
  let v1463 : BitVec 32 := Scalar.select v1461 v1462 v1456
  let c512_i32_992 : BitVec 32 := 512#32
  let v1475 : BitVec 32 := Scalar.muli v1463 c512_i32_992
  let v1476 : Index := Scalar.indexCast v1475
  let c512_994 : Index := 512#32
  ![0, v1476.toNat, 512]
def k0_dev5 (d0 : Dev nD) : Nat :=
  let c0_i32_1005 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1004 : BitVec 32 := 1#32
  let v1488 : BitVec 32 := Scalar.muli v13 c1_i32_1004
  let v1489 : BitVec 32 := Scalar.addi c0_i32_1005 v1488
  v1489.toNat
def k0_dev6 (d0 : Dev nD) : Nat :=
  let c0_i32_1015 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1014 : BitVec 32 := 1#32
  let v1498 : BitVec 32 := Scalar.muli v25 c1_i32_1014
  let v1499 : BitVec 32 := Scalar.addi c0_i32_1015 v1498
  v1499.toNat
def k0_dev7 (d0 : Dev nD) : Nat :=
  let c0_i32_1160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1159 : BitVec 32 := 1#32
  let v1682 : BitVec 32 := Scalar.muli v13 c1_i32_1159
  let v1683 : BitVec 32 := Scalar.addi c0_i32_1160 v1682
  v1683.toNat
def k0_dev8 (d0 : Dev nD) : Nat :=
  let c0_i32_1170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1169 : BitVec 32 := 1#32
  let v1692 : BitVec 32 := Scalar.muli v25 c1_i32_1169
  let v1693 : BitVec 32 := Scalar.addi c0_i32_1170 v1692
  v1693.toNat
def k0_dev9 (d0 : Dev nD) : Nat :=
  let c0_i32_1257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1256 : BitVec 32 := 1#32
  let v1788 : BitVec 32 := Scalar.muli v13 c1_i32_1256
  let v1789 : BitVec 32 := Scalar.addi c0_i32_1257 v1788
  v1789.toNat
def k0_dev10 (d0 : Dev nD) : Nat :=
  let c0_i32_1267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1266 : BitVec 32 := 1#32
  let v1798 : BitVec 32 := Scalar.muli v25 c1_i32_1266
  let v1799 : BitVec 32 := Scalar.addi c0_i32_1267 v1798
  v1799.toNat
def k0_off9 (d0 : Dev nD) (c0_i32_1310 : BitVec 32) : Fin 3 → Nat :=
  let c0_1328 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1836 : BitVec 32 := Scalar.subi v2 c0_i32_1310
  let c4_i32_1311 : BitVec 32 := 4#32
  let c0_i32_1312 : BitVec 32 := 0#32
  let v1837 : BitVec 1 := Scalar.cmpi .eq c4_i32_1311 c0_i32_1312
  let c1_i32_1313 : BitVec 32 := 1#32
  let v1838 : BitVec 32 := Scalar.select v1837 c1_i32_1313 c4_i32_1311
  let v1839 : BitVec 32 := Scalar.remsi v1836 v1838
  let c0_i32_1315 : BitVec 32 := 0#32
  let v1841 : BitVec 1 := Scalar.cmpi .slt v1839 c0_i32_1315
  let c0_i32_1316 : BitVec 32 := 0#32
  let v1842 : BitVec 1 := Scalar.cmpi .slt v1838 c0_i32_1316
  let v1843 : BitVec 1 := Scalar.xori v1841 v1842
  let c0_i32_1314 : BitVec 32 := 0#32
  let v1840 : BitVec 1 := Scalar.cmpi .ne v1839 c0_i32_1314
  let v1844 : BitVec 1 := Scalar.andi v1843 v1840
  let v1845 : BitVec 32 := Scalar.addi v1839 v1838
  let v1846 : BitVec 32 := Scalar.select v1844 v1845 v1839
  let c512_i32_1327 : BitVec 32 := 512#32
  let v1861 : BitVec 32 := Scalar.muli v1846 c512_i32_1327
  let v1862 : Index := Scalar.indexCast v1861
  let c0_1329 : Index := 0#32
  ![0, v1862.toNat, 0]
def k0_off10 (d0 : Dev nD) (c0_i32_1317 : BitVec 32) : Fin 3 → Nat :=
  let c0_1334 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1847 : BitVec 32 := Scalar.addi v2 c0_i32_1317
  let c4_i32_1318 : BitVec 32 := 4#32
  let c0_i32_1319 : BitVec 32 := 0#32
  let v1848 : BitVec 1 := Scalar.cmpi .eq c4_i32_1318 c0_i32_1319
  let c1_i32_1320 : BitVec 32 := 1#32
  let v1849 : BitVec 32 := Scalar.select v1848 c1_i32_1320 c4_i32_1318
  let v1850 : BitVec 32 := Scalar.remsi v1847 v1849
  let c0_i32_1322 : BitVec 32 := 0#32
  let v1852 : BitVec 1 := Scalar.cmpi .slt v1850 c0_i32_1322
  let c0_i32_1323 : BitVec 32 := 0#32
  let v1853 : BitVec 1 := Scalar.cmpi .slt v1849 c0_i32_1323
  let v1854 : BitVec 1 := Scalar.xori v1852 v1853
  let c0_i32_1321 : BitVec 32 := 0#32
  let v1851 : BitVec 1 := Scalar.cmpi .ne v1850 c0_i32_1321
  let v1855 : BitVec 1 := Scalar.andi v1854 v1851
  let v1856 : BitVec 32 := Scalar.addi v1850 v1849
  let v1857 : BitVec 32 := Scalar.select v1855 v1856 v1850
  let c512_i32_1333 : BitVec 32 := 512#32
  let v1869 : BitVec 32 := Scalar.muli v1857 c512_i32_1333
  let v1870 : Index := Scalar.indexCast v1869
  let c512_1335 : Index := 512#32
  ![0, v1870.toNat, 512]
def k0_dev11 (d0 : Dev nD) : Nat :=
  let c0_i32_1341 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1340 : BitVec 32 := 1#32
  let v1874 : BitVec 32 := Scalar.muli v13 c1_i32_1340
  let v1875 : BitVec 32 := Scalar.addi c0_i32_1341 v1874
  v1875.toNat
def k0_dev12 (d0 : Dev nD) : Nat :=
  let c0_i32_1351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1350 : BitVec 32 := 1#32
  let v1884 : BitVec 32 := Scalar.muli v25 c1_i32_1350
  let v1885 : BitVec 32 := Scalar.addi c0_i32_1351 v1884
  v1885.toNat
def k0_dev13 (d0 : Dev nD) : Nat :=
  let c0_i32_1424 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1423 : BitVec 32 := 1#32
  let v1960 : BitVec 32 := Scalar.muli v13 c1_i32_1423
  let v1961 : BitVec 32 := Scalar.addi c0_i32_1424 v1960
  v1961.toNat
def k0_dev14 (d0 : Dev nD) : Nat :=
  let c0_i32_1434 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1433 : BitVec 32 := 1#32
  let v1970 : BitVec 32 := Scalar.muli v25 c1_i32_1433
  let v1971 : BitVec 32 := Scalar.addi c0_i32_1434 v1970
  v1971.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S1x2048x4096 : Shape := ⟨3, ![1, 2048, 4096]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x32x2048x2048 : Shape := ⟨4, ![1, 32, 2048, 2048]⟩
abbrev S1x1x2048x2048 : Shape := ⟨4, ![1, 1, 2048, 2048]⟩
abbrev S1x32x2048 : Shape := ⟨3, ![1, 32, 2048]⟩
abbrev S1x32x2048x1 : Shape := ⟨4, ![1, 32, 2048, 1]⟩
abbrev S1x1x2048x1 : Shape := ⟨4, ![1, 1, 2048, 1]⟩
abbrev S1x32x128x2048 : Shape := ⟨4, ![1, 32, 128, 2048]⟩

abbrev nBuf : Space → Nat
  | .hbm => 142
  | .vmem => 0
  | .smem => 0
  | _ => 0

abbrev hbmTy0_0 (i : Nat) : BufTy := match i % 128 with
  | 0 => ⟨S1x2048x1024, .bf16⟩
  | 1 => ⟨S1024x4096, .bf16⟩
  | 2 => ⟨S1x2048x32x128, .bf16⟩
  | 3 => ⟨S1x2048x32x128, .bf16⟩
  | 4 => ⟨S4096x1024, .bf16⟩
  | 5 => ⟨S1x2048x4096, .f32⟩
  | 6 => ⟨S1x2048x4096, .bf16⟩
  | 7 => ⟨S1x2048x32x128, .bf16⟩
  | 8 => ⟨S2048, .i32⟩
  | 9 => ⟨S_, .i32⟩
  | 10 => ⟨S_, .i32⟩
  | 11 => ⟨S2048, .i32⟩
  | 12 => ⟨S2048, .i32⟩
  | 13 => ⟨S2048, .i32⟩
  | 14 => ⟨S_, .i32⟩
  | 15 => ⟨S2048, .i32⟩
  | 16 => ⟨S2048, .i1⟩
  | 17 => ⟨S2048, .i32⟩
  | 18 => ⟨S2048, .i32⟩
  | 19 => ⟨S_, .i32⟩
  | 20 => ⟨S2048, .i32⟩
  | 21 => ⟨S2048, .i1⟩
  | 22 => ⟨S2048, .i1⟩
  | 23 => ⟨S_, .i32⟩
  | 24 => ⟨S2048, .i32⟩
  | 25 => ⟨S2048, .i32⟩
  | 26 => ⟨S2048, .i32⟩
  | 27 => ⟨S2048x1, .i32⟩
  | 28 => ⟨S2048, .i32⟩
  | 29 => ⟨S_, .i32⟩
  | 30 => ⟨S_, .i32⟩
  | 31 => ⟨S2048, .i32⟩
  | 32 => ⟨S2048, .i32⟩
  | 33 => ⟨S2048, .i32⟩
  | 34 => ⟨S_, .i32⟩
  | 35 => ⟨S2048, .i32⟩
  | 36 => ⟨S2048, .i1⟩
  | 37 => ⟨S2048, .i32⟩
  | 38 => ⟨S2048, .i32⟩
  | 39 => ⟨S_, .i32⟩
  | 40 => ⟨S2048, .i32⟩
  | 41 => ⟨S2048, .i1⟩
  | 42 => ⟨S2048, .i1⟩
  | 43 => ⟨S_, .i32⟩
  | 44 => ⟨S2048, .i32⟩
  | 45 => ⟨S2048, .i32⟩
  | 46 => ⟨S2048, .i32⟩
  | 47 => ⟨S1x2048, .i32⟩
  | 48 => ⟨S2048x2048, .i32⟩
  | 49 => ⟨S2048x2048, .i32⟩
  | 50 => ⟨S2048x2048, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x2048, .i32⟩
  | 58 => ⟨S1x2048, .i32⟩
  | 59 => ⟨S_, .i32⟩
  | 60 => ⟨S1x2048, .i32⟩
  | 61 => ⟨S1x2048, .i1⟩
  | 62 => ⟨S_, .i32⟩
  | 63 => ⟨S1x2048, .i32⟩
  | 64 => ⟨S1x2048, .i1⟩
  | 65 => ⟨S_, .i32⟩
  | 66 => ⟨S_, .i1⟩
  | 67 => ⟨S1x2048, .i1⟩
  | 68 => ⟨S1x2048, .i1⟩
  | 69 => ⟨S1x2048, .i1⟩
  | 70 => ⟨S1x2048, .i32⟩
  | 71 => ⟨S1x2048, .i32⟩
  | 72 => ⟨S1x2048, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S2048x1, .i32⟩
  | 80 => ⟨S2048x1, .i32⟩
  | 81 => ⟨S_, .i32⟩
  | 82 => ⟨S2048x1, .i32⟩
  | 83 => ⟨S2048x1, .i1⟩
  | 84 => ⟨S_, .i32⟩
  | 85 => ⟨S2048x1, .i32⟩
  | 86 => ⟨S2048x1, .i1⟩
  | 87 => ⟨S_, .i32⟩
  | 88 => ⟨S_, .i1⟩
  | 89 => ⟨S2048x1, .i1⟩
  | 90 => ⟨S2048x1, .i1⟩
  | 91 => ⟨S2048x1, .i1⟩
  | 92 => ⟨S2048x1, .i32⟩
  | 93 => ⟨S2048x1, .i32⟩
  | 94 => ⟨S2048x1, .i32⟩
  | 95 => ⟨S2048x2048, .i32⟩
  | 96 => ⟨S2048x2048, .i32⟩
  | 97 => ⟨S2048x2048, .i1⟩
  | 98 => ⟨S2048x2048, .i1⟩
  | 99 => ⟨S1x32x2048x2048, .f32⟩
  | 100 => ⟨S1x32x2048x2048, .bf16⟩
  | 101 => ⟨S1x32x2048x2048, .f32⟩
  | 102 => ⟨S_, .f32⟩
  | 103 => ⟨S1x32x2048x2048, .f32⟩
  | 104 => ⟨S1x32x2048x2048, .f32⟩
  | 105 => ⟨S1x1x2048x2048, .i1⟩
  | 106 => ⟨S_, .f32⟩
  | 107 => ⟨S_, .f32⟩
  | 108 => ⟨S1x32x2048x2048, .i1⟩
  | 109 => ⟨S1x32x2048x2048, .f32⟩
  | 110 => ⟨S1x32x2048x2048, .f32⟩
  | 111 => ⟨S_, .f32⟩
  | 112 => ⟨S1x32x2048, .f32⟩
  | 113 => ⟨S1x32x2048x1, .f32⟩
  | 114 => ⟨S1x32x2048x2048, .f32⟩
  | 115 => ⟨S1x32x2048x2048, .f32⟩
  | 116 => ⟨S1x32x2048x2048, .f32⟩
  | 117 => ⟨S_, .i1⟩
  | 118 => ⟨S2048, .i1⟩
  | 119 => ⟨S1x1x2048x1, .i1⟩
  | 120 => ⟨S_, .f32⟩
  | 121 => ⟨S1x32x2048, .f32⟩
  | 122 => ⟨S1x32x2048x1, .f32⟩
  | 123 => ⟨S_, .f32⟩
  | 124 => ⟨S_, .f32⟩
  | 125 => ⟨S1x32x2048x1, .i1⟩
  | 126 => ⟨S1x32x2048x1, .f32⟩
  | 127 => ⟨S1x32x2048x1, .f32⟩
  | _ => ⟨S1x2048x1024, .bf16⟩

abbrev hbmTy0_1 (i : Nat) : BufTy := match i % 128 with
  | 0 => ⟨S1x32x2048x2048, .f32⟩
  | 1 => ⟨S1x32x2048x2048, .f32⟩
  | 2 => ⟨S1x1x2048x1, .i1⟩
  | 3 => ⟨S_, .f32⟩
  | 4 => ⟨S_, .f32⟩
  | 5 => ⟨S1x32x2048x2048, .i1⟩
  | 6 => ⟨S1x32x2048x2048, .f32⟩
  | 7 => ⟨S1x32x2048x2048, .f32⟩
  | 8 => ⟨S1x2048x32x128, .f32⟩
  | 9 => ⟨S1x32x128x2048, .f32⟩
  | 10 => ⟨S1x2048x32x128, .f32⟩
  | 11 => ⟨S1x2048x4096, .f32⟩
  | 12 => ⟨S4096x1024, .f32⟩
  | 13 => ⟨S1x2048x1024, .f32⟩
  | _ => ⟨S1x2048x1024, .bf16⟩

abbrev hbmTy (i : Nat) : BufTy := match i / 128 with
  | 0 => hbmTy0_0 i
  | 1 => hbmTy0_1 i
  | _ => ⟨S1x2048x1024, .bf16⟩

abbrev bufTy : (tb : Table) → Fin (tcTables nBuf tb) → BufTy
  | .hbm, ⟨i, _⟩ => hbmTy i
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Ring.Model.lean ====
module

public import proofs.«01_k».proof.Proof.Gen.KernelIdeal
public import proofs.«01_k».proof.Proof.Gen.KernelIdeal.Skeleton
public import Idealize.ShloMosaic.Lib.Pointwise
public import Idealize.ShloMosaic.Lib.Pipeline.Value

@[expose] public section

/-! What the kernel computes on one device, as plain functions of the device's inputs.

Rows of the keys, values and queries are regrouped so that the 64-row blocks of equal residue mod 4 lie side by side; attention
then runs inside each of the four groups, and the output projection puts the rows back in order. -/

noncomputable section

namespace Cert.KernelIdeal.Ring

open Cert.KernelIdeal Cert.KernelIdeal.Gen
open Idealize.ShloMosaic

variable {F : FTy → Type} [FloatOps F]

/-- The row of the input that stands at row `r` of a regrouped array. -/
def src (r : Nat) : Nat := (r % 512 / 64 * 4 + r / 512) * 64 + r % 64

theorem src_lt {r : Nat} (h : r < 2048) : src r < 2048 := by unfold src; omega

/-- An array with its rows regrouped. -/
def regroup {α : Type} (f : S2048x1024.Idx → α) : S2048x1024.Idx → α :=
  fun i => f (ix2 ⟨src (i 0).val, src_lt (i 0).isLt⟩ (i 1))

/-- Chunk `c` of 512 rows. -/
def rows512 {α : Type} (f : S2048x1024.Idx → α) (c : Nat) (hc : c < 4) : S512x1024.Idx → α :=
  fun i => f (ix2 ⟨512 * c + (i 0).val, by have := (i 0).isLt; change (i 0).val < 512 at this; omega⟩ (i 1))

/-- The scaled queries of 512 rows of the input. -/
def qblk (x : Vec F S512x1024 .bf16) (w : Vec F S1024x1024 .bf16) : FVec F S512x1024 .bf16 :=
  truncf .bf16 (mulf (matmul dot_S512x1024_S1024x1024_S512x1024_1_0_0_1_n_n none x w (constant S512x1024 .f32 0x00000000#32))
    (broadcast S512x1024 (Scalar.ofBits .f32 0x3DB504F3#32))) bitsLt_bf16_f32

/-- The scaled queries of all rows. -/
def qAll (x : Vec F S2048x1024 .bf16) (w : Vec F S1024x1024 .bf16) : FVec F S2048x1024 .bf16 :=
  fun i => qblk (rows512 x ((i 0).val / 512) (by have := (i 0).isLt; change (i 0).val < 2048 at this; omega)) w
    (ix2 ⟨(i 0).val % 512, Nat.mod_lt _ (by decide)⟩ (i 1))

/-- Attention of one group and one head: `exp (q kᵀ) v`, each row divided by the sum of its exponentials. -/
def att (q k v : Vec F S512x128 .bf16) : FVec F S512x128 .bf16 :=
  have e : FVec F S512x512 .bf16 := truncf .bf16 (exp (matmul dot_S512x128_S512x128_S512x512_1_1_0_0_n_n none q k (constant S512x512 .f32 0x00000000#32))) bitsLt_bf16_f32
  have s : FVec F S512x1 .f32 := shapeCast S512x1 (multiReduction .add [1] S512 (extf .f32 e bitsLt_bf16_f32) 0x00000000#32 reduces_S512x512_S512 (.inl rfl) rfl) shapeCasts_S512_S512x1
  truncf .bf16 (mulf (matmul dot_S512x512_S512x128_S512x128_1_0_0_1_n_n none e v (constant S512x128 .f32 0x00000000#32))
    (broadcastTo S512x128 (divf (broadcast S512x1 (Scalar.ofBits .f32 0x3F800000#32)) s) broadcasts_S512x1_S512x128)) bitsLt_bf16_f32

/-- Group `r`, head `h` of an array: 512 rows and 128 columns. -/
def sub {α : Type} (f : S2048x1024.Idx → α) (r h : Nat) (hr : r < 4) (hh : h < 8) : S512x128.Idx → α :=
  fun i => f (ix2 ⟨512 * r + (i 0).val, by have := (i 0).isLt; change (i 0).val < 512 at this; omega⟩
    ⟨128 * h + (i 1).val, by have := (i 1).isLt; change (i 1).val < 128 at this; omega⟩)

/-- The attention output of all groups and heads, rows regrouped. -/
def ctx (q k v : Vec F S2048x1024 .bf16) : FVec F S2048x1024 .bf16 :=
  fun i =>
    have hr : (i 0).val / 512 < 4 := by have := (i 0).isLt; change (i 0).val < 2048 at this; omega
    have hh : (i 1).val / 128 < 8 := by have := (i 1).isLt; change (i 1).val < 1024 at this; omega
    att (sub q ((i 0).val / 512) ((i 1).val / 128) hr hh) (sub k ((i 0).val / 512) ((i 1).val / 128) hr hh)
      (sub v ((i 0).val / 512) ((i 1).val / 128) hr hh) (ix2 ⟨(i 0).val % 512, Nat.mod_lt _ (by decide)⟩ ⟨(i 1).val % 128, Nat.mod_lt _ (by decide)⟩)

/-- The rows of the regrouped attention output that belong to output chunk `g`. -/
def gath {α : Type} (f : S2048x1024.Idx → α) (g : Nat) (hg : g < 4) : S512x1024.Idx → α :=
  fun i => f (ix2 ⟨(i 0).val / 128 * 512 + 128 * g + (i 0).val % 128, by have := (i 0).isLt; change (i 0).val < 512 at this; omega⟩ (i 1))

/-- The output projection of 512 rows. -/
def proj (y : Vec F S512x1024 .bf16) (wo : Vec F S1024x1024 .bf16) : FVec F S512x1024 .f32 :=
  matmul dot_S512x1024_S1024x1024_S512x1024_1_0_0_1_n_n none y wo (constant S512x1024 .f32 0x00000000#32)

/-- The row of a projected chunk that goes to row `t` of the output chunk. -/
def back (t : Nat) : Nat := t / 64 % 4 * 128 + t / 64 / 4 * 64 + t % 64

theorem back_lt {t : Nat} (h : t < 512) : back t < 512 := by unfold back; omega

/-- The device's partial result: its heads' share of the output projection. -/
def part (cp : Vec F S2048x1024 .bf16) (wo : Vec F S1024x1024 .bf16) : FVec F S1x2048x1024 .f32 :=
  fun i => proj (gath cp ((i 1).val / 512) (by have := (i 1).isLt; change (i 1).val < 2048 at this; omega)) wo
    (ix2 ⟨back ((i 1).val % 512), back_lt (Nat.mod_lt _ (by decide))⟩ (i 2))

end Cert.KernelIdeal.Ring
end
-- ==== Proof.Ring.Rebase.lean ====
module

public import proofs.«01_k».proof.Proof.Ring.Model
public import Idealize.ShloMosaic.Lib.Ring
public import Idealize.ShloMosaic.Lib.Pipeline.ValueKit

@[expose] public section

/-! A buffer that has been stored piece by piece holds one plain function, when every piece is that function's restriction. -/

noncomputable section

namespace Cert.KernelIdeal.Ring

open Cert.KernelIdeal Cert.KernelIdeal.Gen
open Idealize.ShloMosaic

variable {F : FTy → Type} [FloatOps F]

/-- Every piece of the list holds the values of `G`. -/
def Agree {s : Shape} {e : EltTy} (G : s.Idx → Elt F e) (L : List (View.Piece (Elt F) s e)) : Prop :=
  ∀ p ∈ L, ∀ x : p.1.shape.Idx, p.2 x = G (p.1.emb x)

theorem agree_nil {s : Shape} {e : EltTy} (G : s.Idx → Elt F e) : Agree G [] := fun _ h => absurd h List.not_mem_nil

theorem agree_cons {s : Shape} {e : EltTy} {G : s.Idx → Elt F e} {L : List (View.Piece (Elt F) s e)} {r : Rect s} {w : r.shape.Idx → Elt F e}
    (h : ∀ x : r.shape.Idx, w x = G (r.emb x)) (hL : Agree G L) : Agree G (⟨r, w⟩ :: L) := by
  intro p hp
  rcases List.mem_cons.mp hp with rfl | hp
  · exact h
  · exact hL p hp

/-- Pieces that tile a buffer and agree with `G` leave `G`. -/
theorem writes_eq (b : Ref sig .tc) (f : b.ty.Contents (Elt F)) (L : List (View.Piece (Elt F) b.ty.shape b.ty.elt))
    (G : b.ty.shape.Idx → Elt F b.ty.elt) (size : Fin b.ty.shape.rank → ℕ) (ht : View.Piece.tiledL L size = true)
    (hG : Agree G L) : (Memref.whole b).view.writes (Elt F) f L = G :=
  funext fun y => View.read_writes_apply_of_pieces (Memref.whole b).view f G L hG y (View.cover_of_tiledL L size ht y)

/-- A block of 64 rows of a regrouped array is a block of the array. -/
theorem regroup_piece {α : Type} (f : S2048x1024.Idx → α) (p o : Nat) (hp : p % 64 = 0) (ho : src p = o)
    (ip : ∀ a, (![p, 0] : Fin 2 → ℕ) a + S64x1024.size a ≤ S2048x1024.size a) (io : ∀ a, (![o, 0] : Fin 2 → ℕ) a + S64x1024.size a ≤ S2048x1024.size a)
    (x : S64x1024.Idx) :
    f ((Rect.unit (s := S2048x1024) ![o, 0] S64x1024.size io).idx x) = regroup f ((Rect.unit (s := S2048x1024) ![p, 0] S64x1024.size ip).emb x) := by
  unfold regroup
  congr 1
  have h0 : (x 0).val < 64 := (x 0).isLt
  funext a
  refine Fin.ext ?_
  fin_cases a
  · rw [Rect.idx_unit_val]
    show o + (x 0).val = src (p + 1 * (x 0).val)
    rw [← ho]; unfold src; omega
  · rw [Rect.idx_unit_val]
    show 0 + (x 1).val = 0 + 1 * (x 1).val
    omega

/-- The whole of a buffer, read through the rectangle that is all of it. -/
theorem readAt_all (b : Ref sig .tc) (f : b.ty.Contents (Elt F)) {off : Fin b.ty.shape.rank → ℕ} (h : off = fun _ => 0)
    (inb : ∀ a, off a + b.ty.shape.size a ≤ b.ty.shape.size a) :
    View.readAt (Elt F) (Memref.whole b).view (Rect.unit off b.ty.shape.size inb).toLoadRect f = f :=
  View.ld_unit_zero (Val := Elt F) (X := f) h inb

/-- A copy of a whole array is one piece that agrees with it. -/
theorem all_piece {s : Shape} {α : Type} (f : s.Idx → α) {off : Fin s.rank → ℕ} (h : off = fun _ => 0)
    (i i' : ∀ a, off a + s.size a ≤ s.size a) (x : s.Idx) :
    f ((Rect.unit off s.size i).idx x) = f ((Rect.unit off s.size i').emb x) := rfl

/-- 512 rows of the input, read. -/
theorem rows_read {α : Type} (f : S2048x1024.Idx → α) {o : Nat} (hc : o / 512 < 4) (ho : o % 512 = 0)
    (io : ∀ a, (![o, 0] : Fin 2 → ℕ) a + S512x1024.size a ≤ S2048x1024.size a) :
    (fun x => f ((Rect.unit (s := S2048x1024) ![o, 0] S512x1024.size io).idx x)) = rows512 f (o / 512) hc := by
  funext x
  unfold rows512
  congr 1
  funext a
  refine Fin.ext ?_
  fin_cases a
  · rw [Rect.idx_unit_val]
    show o + (x 0).val = 512 * (o / 512) + (x 0).val
    omega
  · rw [Rect.idx_unit_val]
    show 0 + (x 1).val = (x 1).val
    omega

theorem qAll_apply (x : Vec F S2048x1024 .bf16) (w : Vec F S1024x1024 .bf16) (i : S2048x1024.Idx) (c : Nat) (hc : c < 4)
    (t : Fin 512) (h : (i 0).val = 512 * c + t.val) : qAll x w i = qblk (rows512 x c hc) w (ix2 t (i 1)) := by
  obtain ⟨t, ht⟩ := t
  have h1 : (i 0).val / 512 = c := by simp only at h; omega
  have h2 : (i 0).val % 512 = t := by simp only at h; omega
  subst h1
  subst h2
  rfl

/-- 64 rows of a chunk of queries, as stored. -/
theorem q_piece (x : Vec F S2048x1024 .bf16) (w : Vec F S1024x1024 .bf16) (c : Nat) (hc : c < 4) (X : Vec F S512x1024 .bf16)
    (hX : X = rows512 x c hc) (W : Vec F S1024x1024 .bf16) (hW : W = w) (m p : Nat) (hm : m < 512)
    (hp : p % 64 = 0) (ho : src p = 512 * c + m) (hm' : m % 64 = 0)
    (hs : S512x1024.Slices ![m, 0] S64x1024)
    (ip : ∀ a, (![p, 0] : Fin 2 → ℕ) a + S64x1024.size a ≤ S2048x1024.size a)
    (j : S64x1024.Idx) :
    extractStridedSlice S64x1024 ![m, 0] (qblk X W) hs j
      = regroup (qAll x w) ((Rect.unit (s := S2048x1024) ![p, 0] S64x1024.size ip).emb j) := by
  subst hX hW
  rename Vec F S1024x1024 .bf16 => w
  have h0 : (j 0).val < 64 := (j 0).isLt
  rw [extractStridedSlice_apply ![m, 0] (qblk (rows512 x c hc) w) hs j (ix2 ⟨m + (j 0).val, by omega⟩ (j 1))]
  · unfold regroup
    refine ((qAll_apply x w _ c hc ⟨m + (j 0).val, by omega⟩ ?_).trans ?_).symm
    · show src (p + 1 * (j 0).val) = 512 * c + (m + (j 0).val)
      have : src (p + 1 * (j 0).val) = src p + (j 0).val := by unfold src; omega
      omega
    · congr 1
      funext a
      refine Fin.ext ?_
      fin_cases a
      · rfl
      · show 0 + 1 * (j 1).val = (j 1).val
        omega
  · intro a
    fin_cases a
    · rfl
    · show (j 1).val = 0 + (j 1).val
      omega

theorem ctx_apply (q k v : Vec F S2048x1024 .bf16) (i : S2048x1024.Idx) (r h : Nat) (hr : r < 4) (hh : h < 8)
    (t : Fin 512) (u : Fin 128) (h0 : (i 0).val = 512 * r + t.val) (h1 : (i 1).val = 128 * h + u.val) :
    ctx q k v i = att (sub q r h hr hh) (sub k r h hr hh) (sub v r h hr hh) (ix2 t u) := by
  obtain ⟨t, ht⟩ := t
  obtain ⟨u, hu⟩ := u
  have e1 : (i 0).val / 512 = r := by simp only at h0; omega
  have e2 : (i 0).val % 512 = t := by simp only at h0; omega
  have e3 : (i 1).val / 128 = h := by simp only at h1; omega
  have e4 : (i 1).val % 128 = u := by simp only at h1; omega
  subst e1 e2 e3 e4
  rfl

theorem sub_read {α : Type} (f : S2048x1024.Idx → α) {o o' : Nat} (hr : o / 512 < 4) (hh : o' / 128 < 8) (ho : o % 512 = 0) (ho' : o' % 128 = 0)
    (io : ∀ a, (![o, o'] : Fin 2 → ℕ) a + S512x128.size a ≤ S2048x1024.size a) :
    (fun x => f ((Rect.unit (s := S2048x1024) ![o, o'] S512x128.size io).idx x)) = sub f (o / 512) (o' / 128) hr hh := by
  funext x
  unfold sub
  congr 1
  funext a
  refine Fin.ext ?_
  fin_cases a
  · rw [Rect.idx_unit_val]
    show o + (x 0).val = 512 * (o / 512) + (x 0).val
    omega
  · rw [Rect.idx_unit_val]
    show o' + (x 1).val = 128 * (o' / 128) + (x 1).val
    omega

/-- The attention of one group and head, as stored. -/
theorem ctx_piece (q k v : Vec F S2048x1024 .bf16) (o o' : Nat) (hr : o / 512 < 4) (hh : o' / 128 < 8) (ho : o % 512 = 0) (ho' : o' % 128 = 0)
    (i1 i2 i3 i4 : ∀ a, (![o, o'] : Fin 2 → ℕ) a + S512x128.size a ≤ S2048x1024.size a) (j : S512x128.Idx) :
    att (fun x => q ((Rect.unit (s := S2048x1024) ![o, o'] S512x128.size i1).idx x))
        (fun x => k ((Rect.unit (s := S2048x1024) ![o, o'] S512x128.size i2).idx x))
        (fun x => v ((Rect.unit (s := S2048x1024) ![o, o'] S512x128.size i3).idx x)) j
      = ctx q k v ((Rect.unit (s := S2048x1024) ![o, o'] S512x128.size i4).emb j) := by
  refine (congrFun (congr (congr (congrArg att (sub_read q hr hh ho ho' i1)) (sub_read k hr hh ho ho' i2)) (sub_read v hr hh ho ho' i3)) j).trans ?_
  have e := ctx_apply q k v ((Rect.unit (s := S2048x1024) ![o, o'] S512x128.size i4).emb j) (o / 512) (o' / 128) hr hh (j 0) (j 1)
    (by show o + 1 * (j 0).val = _; omega) (by show o' + 1 * (j 1).val = _; omega)
  rw [e]
  congr 1
  exact (ix2_eta j).symm

/-- 128 rows of the attention output, gathered for one output chunk. -/
theorem gath_piece {α : Type} (f : S2048x1024.Idx → α) (g : Nat) (hg : g < 4) (off : Fin 2 → Nat) (n p : Nat) (hp : p = 128 * n)
    (hoff : off = ![512 * n + 128 * g, 0])
    (io : ∀ a, off a + S128x1024.size a ≤ S2048x1024.size a) (ip : ∀ a, (![p, 0] : Fin 2 → ℕ) a + S128x1024.size a ≤ S512x1024.size a)
    (x : S128x1024.Idx) :
    f ((Rect.unit (s := S2048x1024) off S128x1024.size io).idx x) = gath f g hg ((Rect.unit (s := S512x1024) ![p, 0] S128x1024.size ip).emb x) := by
  subst hoff hp
  have h0 : (x 0).val < 128 := (x 0).isLt
  unfold gath
  congr 1
  funext a
  refine Fin.ext ?_
  fin_cases a
  · rw [Rect.idx_unit_val]
    show 512 * n + 128 * g + (x 0).val = (128 * n + 1 * (x 0).val) / 128 * 512 + 128 * g + (128 * n + 1 * (x 0).val) % 128
    omega
  · rw [Rect.idx_unit_val]
    show 0 + (x 1).val = 0 + 1 * (x 1).val
    omega

/-- The array `f` with the rows of chunk `g` taken from `P`. -/
def withChunk {α : Type} (g : Nat) (P f : S1x2048x1024.Idx → α) : S1x2048x1024.Idx → α :=
  fun i => if (i 1).val / 512 = g then P i else f i

/-- The rows of a projected chunk that are stored at output rows `64 m` and on. -/
theorem part_val (cp : Vec F S2048x1024 .bf16) (wo : Vec F S1024x1024 .bf16) (g m : Nat) (hg : g < 4) (hm : m < 8)
    (hs : S512x1024.Slices ![m % 4 * 128 + m / 4 * 64, 0] S64x1024) (hc : S64x1024.ShapeCasts S1x64x1024)
    (j : S1x64x1024.Idx) (i : S1x2048x1024.Idx) (hi : ∀ a, (i a : Nat) = (![0, 512 * g + 64 * m, 0] : Fin 3 → ℕ) a + (j a).val) :
    shapeCast S1x64x1024 (extractStridedSlice S64x1024 ![m % 4 * 128 + m / 4 * 64, 0] (proj (gath cp g hg) wo) hs) hc j = part cp wo i := by
  have h1 : (j 1).val < 64 := (j 1).isLt
  have hi1 : (i 1).val = 512 * g + 64 * m + (j 1).val := hi 1
  have hi2 : (i 2).val = (j 2).val := by have := hi 2; simpa using this
  have e : shapeCast S1x64x1024 (extractStridedSlice S64x1024 ![m % 4 * 128 + m / 4 * 64, 0] (proj (gath cp g hg) wo) hs) hc j
      = extractStridedSlice S64x1024 ![m % 4 * 128 + m / 4 * 64, 0] (proj (gath cp g hg) wo) hs (ix2 (j 1) (j 2)) := by
    simp only [pointwise]
  rw [e, extractStridedSlice_apply _ (proj (gath cp g hg) wo) hs _ (ix2 ⟨m % 4 * 128 + m / 4 * 64 + (j 1).val, by omega⟩ (j 2))]
  · unfold part
    have eg : (i 1).val / 512 = g := by omega
    subst eg
    congr 1
    funext a
    refine Fin.ext ?_
    fin_cases a
    · show m % 4 * 128 + m / 4 * 64 + (j 1).val = back ((i 1).val % 512)
      unfold back
      omega
    · exact hi2.symm
  · intro a
    fin_cases a
    · rfl
    · show (j 2).val = 0 + (j 2).val
      omega

/-- `part_val` for arrays that were read back from their buffers. -/
theorem part_read {cp : Vec F S2048x1024 .bf16} {wo wo' : Vec F S1024x1024 .bf16} {y : Vec F S512x1024 .bf16} (g m : Nat) (hg : g < 4)
    (hy : y = gath cp g hg) (hw : wo' = wo) (hm : m < 8)
    (hs : S512x1024.Slices ![m % 4 * 128 + m / 4 * 64, 0] S64x1024) (hc : S64x1024.ShapeCasts S1x64x1024)
    (j : S1x64x1024.Idx) (i : S1x2048x1024.Idx) (hi : ∀ a, (i a : Nat) = (![0, 512 * g + 64 * m, 0] : Fin 3 → ℕ) a + (j a).val) :
    shapeCast S1x64x1024 (extractStridedSlice S64x1024 ![m % 4 * 128 + m / 4 * 64, 0] (proj y wo') hs) hc j = part cp wo i := by
  subst hy hw
  exact part_val cp _ g m hg hm hs hc j i hi

theorem rows_emb (P : S1x2048x1024.Idx → F .f32) (g m : Nat) {o : Fin 3 → ℕ} {w : S1x64x1024.Idx → F .f32}
    {inb : ∀ a, o a + S1x64x1024.size a ≤ S1x2048x1024.size a} (h : o = ![0, 512 * g + 64 * m, 0])
    (k : ∀ (j : S1x64x1024.Idx) (i : S1x2048x1024.Idx), (∀ a, (i a : Nat) = (![0, 512 * g + 64 * m, 0] : Fin 3 → ℕ) a + (j a).val) → w j = P i)
    (x : S1x64x1024.Idx) : w x = P ((Rect.unit (s := S1x2048x1024) o S1x64x1024.size inb).emb x) :=
  k x _ fun a => by
    rw [Rect.emb_apply, ← h]
    show o a + 1 * (x a).val = o a + (x a).val
    rw [Nat.one_mul]

theorem rows_mem (g m : Nat) {o : Fin 3 → ℕ} {inb : ∀ a, o a + S1x64x1024.size a ≤ S1x2048x1024.size a} (h : o = ![0, 512 * g + 64 * m, 0])
    (y : S1x2048x1024.Idx) : y ∈ (Rect.unit (s := S1x2048x1024) o S1x64x1024.size inb).set ↔ (y 1).val / 64 = 8 * g + m := by
  have h0 : (y 0).val < 1 := (y 0).isLt
  have h2 : (y 2).val < 1024 := (y 2).isLt
  rw [Rect.mem_set_unit, h]
  constructor
  · intro h
    have := h 1
    have e1 : (![0, 512 * g + 64 * m, 0] : Fin 3 → ℕ) 1 = 512 * g + 64 * m := rfl
    have e2 : S1x64x1024.size 1 = 64 := rfl
    omega
  · intro h a
    fin_cases a
    · exact ⟨Nat.zero_le _, h0⟩
    · show 512 * g + 64 * m ≤ (y 1).val ∧ (y 1).val < 512 * g + 64 * m + 64
      omega
    · exact ⟨Nat.zero_le _, h2⟩

theorem rows_chunk (g m : Nat) (hm : m < 8) {o : Fin 3 → ℕ} {inb : ∀ a, o a + S1x64x1024.size a ≤ S1x2048x1024.size a} (h : o = ![0, 512 * g + 64 * m, 0])
    (y : S1x2048x1024.Idx) (hy : y ∈ (Rect.unit (s := S1x2048x1024) o S1x64x1024.size inb).set) : (y 1).val / 512 = g := by
  have := (rows_mem g m h y).1 hy
  omega

theorem eighth (t g : ℕ) (h : t / 512 = g) : t / 64 = 8 * g + 0 ∨ t / 64 = 8 * g + 1 ∨ t / 64 = 8 * g + 2 ∨ t / 64 = 8 * g + 3
    ∨ t / 64 = 8 * g + 4 ∨ t / 64 = 8 * g + 5 ∨ t / 64 = 8 * g + 6 ∨ t / 64 = 8 * g + 7 := by omega

/-- Eight stores of 64 rows each fill one chunk of the output buffer. -/
theorem chunk_view {sp : Space} (u : View sig .tc sp S1x2048x1024 .f32) (f : u.ty.Contents (Elt F)) (P : S1x2048x1024.Idx → F .f32) (g : Nat)
    {o0 o1 o2 o3 o4 o5 o6 o7 : Fin 3 → ℕ}
    {w0 : S1x64x1024.Idx → F .f32} {i0 : ∀ a, o0 a + S1x64x1024.size a ≤ S1x2048x1024.size a} (h0 : o0 = ![0, 512 * g + 64 * 0, 0])
    (k0 : ∀ (j : S1x64x1024.Idx) (i : S1x2048x1024.Idx), (∀ a, (i a : Nat) = (![0, 512 * g + 64 * 0, 0] : Fin 3 → ℕ) a + (j a).val) → w0 j = P i)
    {w1 : S1x64x1024.Idx → F .f32} {i1 : ∀ a, o1 a + S1x64x1024.size a ≤ S1x2048x1024.size a} (h1 : o1 = ![0, 512 * g + 64 * 1, 0])
    (k1 : ∀ (j : S1x64x1024.Idx) (i : S1x2048x1024.Idx), (∀ a, (i a : Nat) = (![0, 512 * g + 64 * 1, 0] : Fin 3 → ℕ) a + (j a).val) → w1 j = P i)
    {w2 : S1x64x1024.Idx → F .f32} {i2 : ∀ a, o2 a + S1x64x1024.size a ≤ S1x2048x1024.size a} (h2 : o2 = ![0, 512 * g + 64 * 2, 0])
    (k2 : ∀ (j : S1x64x1024.Idx) (i : S1x2048x1024.Idx), (∀ a, (i a : Nat) = (![0, 512 * g + 64 * 2, 0] : Fin 3 → ℕ) a + (j a).val) → w2 j = P i)
    {w3 : S1x64x1024.Idx → F .f32} {i3 : ∀ a, o3 a + S1x64x1024.size a ≤ S1x2048x1024.size a} (h3 : o3 = ![0, 512 * g + 64 * 3, 0])
    (k3 : ∀ (j : S1x64x1024.Idx) (i : S1x2048x1024.Idx), (∀ a, (i a : Nat) = (![0, 512 * g + 64 * 3, 0] : Fin 3 → ℕ) a + (j a).val) → w3 j = P i)
    {w4 : S1x64x1024.Idx → F .f32} {i4 : ∀ a, o4 a + S1x64x1024.size a ≤ S1x2048x1024.size a} (h4 : o4 = ![0, 512 * g + 64 * 4, 0])
    (k4 : ∀ (j : S1x64x1024.Idx) (i : S1x2048x1024.Idx), (∀ a, (i a : Nat) = (![0, 512 * g + 64 * 4, 0] : Fin 3 → ℕ) a + (j a).val) → w4 j = P i)
    {w5 : S1x64x1024.Idx → F .f32} {i5 : ∀ a, o5 a + S1x64x1024.size a ≤ S1x2048x1024.size a} (h5 : o5 = ![0, 512 * g + 64 * 5, 0])
    (k5 : ∀ (j : S1x64x1024.Idx) (i : S1x2048x1024.Idx), (∀ a, (i a : Nat) = (![0, 512 * g + 64 * 5, 0] : Fin 3 → ℕ) a + (j a).val) → w5 j = P i)
    {w6 : S1x64x1024.Idx → F .f32} {i6 : ∀ a, o6 a + S1x64x1024.size a ≤ S1x2048x1024.size a} (h6 : o6 = ![0, 512 * g + 64 * 6, 0])
    (k6 : ∀ (j : S1x64x1024.Idx) (i : S1x2048x1024.Idx), (∀ a, (i a : Nat) = (![0, 512 * g + 64 * 6, 0] : Fin 3 → ℕ) a + (j a).val) → w6 j = P i)
    {w7 : S1x64x1024.Idx → F .f32} {i7 : ∀ a, o7 a + S1x64x1024.size a ≤ S1x2048x1024.size a} (h7 : o7 = ![0, 512 * g + 64 * 7, 0])
    (k7 : ∀ (j : S1x64x1024.Idx) (i : S1x2048x1024.Idx), (∀ a, (i a : Nat) = (![0, 512 * g + 64 * 7, 0] : Fin 3 → ℕ) a + (j a).val) → w7 j = P i) :
    u.read (Elt F) (u.writes (Elt F) f [
      ⟨Rect.unit (s := S1x2048x1024) o7 S1x64x1024.size i7, w7⟩,
      ⟨Rect.unit (s := S1x2048x1024) o6 S1x64x1024.size i6, w6⟩,
      ⟨Rect.unit (s := S1x2048x1024) o5 S1x64x1024.size i5, w5⟩,
      ⟨Rect.unit (s := S1x2048x1024) o4 S1x64x1024.size i4, w4⟩,
      ⟨Rect.unit (s := S1x2048x1024) o3 S1x64x1024.size i3, w3⟩,
      ⟨Rect.unit (s := S1x2048x1024) o2 S1x64x1024.size i2, w2⟩,
      ⟨Rect.unit (s := S1x2048x1024) o1 S1x64x1024.size i1, w1⟩,
      ⟨Rect.unit (s := S1x2048x1024) o0 S1x64x1024.size i0, w0⟩]) = withChunk g P (u.read (Elt F) f) := by
  funext y
  unfold withChunk
  split
  · rename_i h
    refine View.read_writes_apply_of_pieces u f P _ ?_ y ?_
    · exact agree_cons (rows_emb P g 7 h7 k7) (agree_cons (rows_emb P g 6 h6 k6) (agree_cons (rows_emb P g 5 h5 k5) (agree_cons (rows_emb P g 4 h4 k4) (agree_cons (rows_emb P g 3 h3 k3) (agree_cons (rows_emb P g 2 h2 k2) (agree_cons (rows_emb P g 1 h1 k1) (agree_cons (rows_emb P g 0 h0 k0) (agree_nil _))))))))
    · rcases eighth _ g h with hy | hy | hy | hy | hy | hy | hy | hy
      · exact ⟨⟨Rect.unit (s := S1x2048x1024) o0 S1x64x1024.size i0, w0⟩, List.mem_cons_of_mem _ (List.mem_cons_of_mem _ (List.mem_cons_of_mem _ (List.mem_cons_of_mem _ (List.mem_cons_of_mem _ (List.mem_cons_of_mem _ (List.mem_cons_of_mem _ (List.mem_cons_self))))))), (rows_mem g 0 (inb := i0) h0 y).2 hy⟩
      · exact ⟨⟨Rect.unit (s := S1x2048x1024) o1 S1x64x1024.size i1, w1⟩, List.mem_cons_of_mem _ (List.mem_cons_of_mem _ (List.mem_cons_of_mem _ (List.mem_cons_of_mem _ (List.mem_cons_of_mem _ (List.mem_cons_of_mem _ (List.mem_cons_self)))))), (rows_mem g 1 (inb := i1) h1 y).2 hy⟩
      · exact ⟨⟨Rect.unit (s := S1x2048x1024) o2 S1x64x1024.size i2, w2⟩, List.mem_cons_of_mem _ (List.mem_cons_of_mem _ (List.mem_cons_of_mem _ (List.mem_cons_of_mem _ (List.mem_cons_of_mem _ (List.mem_cons_self))))), (rows_mem g 2 (inb := i2) h2 y).2 hy⟩
      · exact ⟨⟨Rect.unit (s := S1x2048x1024) o3 S1x64x1024.size i3, w3⟩, List.mem_cons_of_mem _ (List.mem_cons_of_mem _ (List.mem_cons_of_mem _ (List.mem_cons_of_mem _ (List.mem_cons_self)))), (rows_mem g 3 (inb := i3) h3 y).2 hy⟩
      · exact ⟨⟨Rect.unit (s := S1x2048x1024) o4 S1x64x1024.size i4, w4⟩, List.mem_cons_of_mem _ (List.mem_cons_of_mem _ (List.mem_cons_of_mem _ (List.mem_cons_self))), (rows_mem g 4 (inb := i4) h4 y).2 hy⟩
      · exact ⟨⟨Rect.unit (s := S1x2048x1024) o5 S1x64x1024.size i5, w5⟩, List.mem_cons_of_mem _ (List.mem_cons_of_mem _ (List.mem_cons_self)), (rows_mem g 5 (inb := i5) h5 y).2 hy⟩
      · exact ⟨⟨Rect.unit (s := S1x2048x1024) o6 S1x64x1024.size i6, w6⟩, List.mem_cons_of_mem _ (List.mem_cons_self), (rows_mem g 6 (inb := i6) h6 y).2 hy⟩
      · exact ⟨⟨Rect.unit (s := S1x2048x1024) o7 S1x64x1024.size i7, w7⟩, List.mem_cons_self, (rows_mem g 7 (inb := i7) h7 y).2 hy⟩
  · rename_i h
    refine View.read_writes_apply_of_forall_not_mem u f y _ ?_
    intro p hp hy
    simp only [List.mem_cons, List.not_mem_nil, or_false] at hp
    apply h
    rcases hp with rfl | rfl | rfl | rfl | rfl | rfl | rfl | rfl
    · exact rows_chunk g 7 (by decide) (inb := i7) h7 y hy
    · exact rows_chunk g 6 (by decide) (inb := i6) h6 y hy
    · exact rows_chunk g 5 (by decide) (inb := i5) h5 y hy
    · exact rows_chunk g 4 (by decide) (inb := i4) h4 y hy
    · exact rows_chunk g 3 (by decide) (inb := i3) h3 y hy
    · exact rows_chunk g 2 (by decide) (inb := i2) h2 y hy
    · exact rows_chunk g 1 (by decide) (inb := i1) h1 y hy
    · exact rows_chunk g 0 (by decide) (inb := i0) h0 y hy

/-- A whole buffer reads as its contents. -/
theorem of_read (b : Ref sig .tc) (X Y : b.ty.Contents (Elt F)) (h : (Memref.whole b).view.read (Elt F) X = Y) : X = Y := h

/-- Eight stores of 64 rows each fill one chunk of the output buffer. -/
theorem chunk_rows (f : (cc0_stg5_0 : Ref sig .tc).ty.Contents (Elt F)) (P : S1x2048x1024.Idx → F .f32) (g : Nat)
    {o0 o1 o2 o3 o4 o5 o6 o7 : Fin 3 → ℕ}
    {w0 : S1x64x1024.Idx → F .f32} {i0 : ∀ a, o0 a + S1x64x1024.size a ≤ S1x2048x1024.size a} (h0 : o0 = ![0, 512 * g + 64 * 0, 0])
    (k0 : ∀ (j : S1x64x1024.Idx) (i : S1x2048x1024.Idx), (∀ a, (i a : Nat) = (![0, 512 * g + 64 * 0, 0] : Fin 3 → ℕ) a + (j a).val) → w0 j = P i)
    {w1 : S1x64x1024.Idx → F .f32} {i1 : ∀ a, o1 a + S1x64x1024.size a ≤ S1x2048x1024.size a} (h1 : o1 = ![0, 512 * g + 64 * 1, 0])
    (k1 : ∀ (j : S1x64x1024.Idx) (i : S1x2048x1024.Idx), (∀ a, (i a : Nat) = (![0, 512 * g + 64 * 1, 0] : Fin 3 → ℕ) a + (j a).val) → w1 j = P i)
    {w2 : S1x64x1024.Idx → F .f32} {i2 : ∀ a, o2 a + S1x64x1024.size a ≤ S1x2048x1024.size a} (h2 : o2 = ![0, 512 * g + 64 * 2, 0])
    (k2 : ∀ (j : S1x64x1024.Idx) (i : S1x2048x1024.Idx), (∀ a, (i a : Nat) = (![0, 512 * g + 64 * 2, 0] : Fin 3 → ℕ) a + (j a).val) → w2 j = P i)
    {w3 : S1x64x1024.Idx → F .f32} {i3 : ∀ a, o3 a + S1x64x1024.size a ≤ S1x2048x1024.size a} (h3 : o3 = ![0, 512 * g + 64 * 3, 0])
    (k3 : ∀ (j : S1x64x1024.Idx) (i : S1x2048x1024.Idx), (∀ a, (i a : Nat) = (![0, 512 * g + 64 * 3, 0] : Fin 3 → ℕ) a + (j a).val) → w3 j = P i)
    {w4 : S1x64x1024.Idx → F .f32} {i4 : ∀ a, o4 a + S1x64x1024.size a ≤ S1x2048x1024.size a} (h4 : o4 = ![0, 512 * g + 64 * 4, 0])
    (k4 : ∀ (j : S1x64x1024.Idx) (i : S1x2048x1024.Idx), (∀ a, (i a : Nat) = (![0, 512 * g + 64 * 4, 0] : Fin 3 → ℕ) a + (j a).val) → w4 j = P i)
    {w5 : S1x64x1024.Idx → F .f32} {i5 : ∀ a, o5 a + S1x64x1024.size a ≤ S1x2048x1024.size a} (h5 : o5 = ![0, 512 * g + 64 * 5, 0])
    (k5 : ∀ (j : S1x64x1024.Idx) (i : S1x2048x1024.Idx), (∀ a, (i a : Nat) = (![0, 512 * g + 64 * 5, 0] : Fin 3 → ℕ) a + (j a).val) → w5 j = P i)
    {w6 : S1x64x1024.Idx → F .f32} {i6 : ∀ a, o6 a + S1x64x1024.size a ≤ S1x2048x1024.size a} (h6 : o6 = ![0, 512 * g + 64 * 6, 0])
    (k6 : ∀ (j : S1x64x1024.Idx) (i : S1x2048x1024.Idx), (∀ a, (i a : Nat) = (![0, 512 * g + 64 * 6, 0] : Fin 3 → ℕ) a + (j a).val) → w6 j = P i)
    {w7 : S1x64x1024.Idx → F .f32} {i7 : ∀ a, o7 a + S1x64x1024.size a ≤ S1x2048x1024.size a} (h7 : o7 = ![0, 512 * g + 64 * 7, 0])
    (k7 : ∀ (j : S1x64x1024.Idx) (i : S1x2048x1024.Idx), (∀ a, (i a : Nat) = (![0, 512 * g + 64 * 7, 0] : Fin 3 → ℕ) a + (j a).val) → w7 j = P i) :
    (Memref.whole cc0_stg5_0).view.writes (Elt F) f [
      ⟨Rect.unit (s := S1x2048x1024) o7 S1x64x1024.size i7, w7⟩,
      ⟨Rect.unit (s := S1x2048x1024) o6 S1x64x1024.size i6, w6⟩,
      ⟨Rect.unit (s := S1x2048x1024) o5 S1x64x1024.size i5, w5⟩,
      ⟨Rect.unit (s := S1x2048x1024) o4 S1x64x1024.size i4, w4⟩,
      ⟨Rect.unit (s := S1x2048x1024) o3 S1x64x1024.size i3, w3⟩,
      ⟨Rect.unit (s := S1x2048x1024) o2 S1x64x1024.size i2, w2⟩,
      ⟨Rect.unit (s := S1x2048x1024) o1 S1x64x1024.size i1, w1⟩,
      ⟨Rect.unit (s := S1x2048x1024) o0 S1x64x1024.size i0, w0⟩] = withChunk g P f := by
  have e := chunk_view (Memref.whole cc0_stg5_0).view f P g (i0 := i0) h0 k0 (i1 := i1) h1 k1 (i2 := i2) h2 k2 (i3 := i3) h3 k3 (i4 := i4) h4 k4 (i5 := i5) h5 k5 (i6 := i6) h6 k6 (i7 := i7) h7 k7
  exact of_read cc0_stg5_0 _ _ e

end Cert.KernelIdeal.Ring
end
-- ==== Proof.Ring.Setup.lean ====
module

public import proofs.«01_k».proof.Proof.Ring.Rebase
public import proofs.«01_k».proof.Proof.Gen.KernelIdeal.Launch
public import proofs.«01_k».proof.Proof.Gen.KernelIdeal.Points
public import Idealize.ShloMosaic.Lib.Rounds
public import Idealize.ShloMosaic.Lib.Pipeline.Regions
public import Idealize.ShloMosaic.Lib.Pipeline.Kit
public import Idealize.ShloMosaic.Lib.Tactic

@[expose] public section

/-! The kernel's body at its buffers, and the resources of a run of it. -/

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × Rounds.URounds (GSem nD τ sig) Bool
local notation "𝕄" => MT nD τ sig Unit (Elt F) ℕ UU ℕ

abbrev 𝒱₀ : Variants := Variants.none

abbrev pt (c : Dev nD) (b : Ref sig .tc) (f : b.ty.Contents (Elt F)) : sProp 𝕄 := (Memref.whole b).view.loc (c : Thread nD τ) ↦{fullShare} f

abbrev body : Prog (TpuEff nD τ sig (Elt F) Λ₀ .tc) PUnit :=
  cc0__body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16

end Cert.KernelIdeal.Ring
end
-- ==== Proof.Ring.RunA.lean ====
module

public import proofs.«01_k».proof.Proof.Ring.Setup

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- The memory of one device that the computation before the exchange touches, and whatever else is held. -/
def preA (c : Dev nD) (x : (cc0_stg0_0 : Ref sig .tc).ty.Contents (Elt F)) (w : (cc0_stg1_0 : Ref sig .tc).ty.Contents (Elt F))
    (k : (cc0_stg2_0 : Ref sig .tc).ty.Contents (Elt F)) (v : (cc0_stg3_0 : Ref sig .tc).ty.Contents (Elt F)) (o : (cc0_stg4_0 : Ref sig .tc).ty.Contents (Elt F))
    (f5 : (cc0_stg5_0 : Ref sig .tc).ty.Contents (Elt F))
    (g0 : (cc0_scratch0 : Ref sig .tc).ty.Contents (Elt F)) (g1 : (cc0_scratch1 : Ref sig .tc).ty.Contents (Elt F))
    (g2 : (cc0_scratch2 : Ref sig .tc).ty.Contents (Elt F)) (g3 : (cc0_scratch3 : Ref sig .tc).ty.Contents (Elt F))
    (g4 : (cc0_scratch4 : Ref sig .tc).ty.Contents (Elt F)) (g5 : (cc0_scratch5 : Ref sig .tc).ty.Contents (Elt F))
    (g6 : (cc0_scratch6 : Ref sig .tc).ty.Contents (Elt F)) (R : sProp 𝕄) : sProp 𝕄 :=
  iprop(pt c cc0_stg0_0 x ∗ pt c cc0_stg1_0 w ∗ pt c cc0_stg2_0 k ∗ pt c cc0_stg3_0 v ∗ pt c cc0_stg4_0 o ∗ pt c cc0_stg5_0 f5
     ∗ pt c cc0_scratch0 g0 ∗ pt c cc0_scratch1 g1 ∗ pt c cc0_scratch2 g2 ∗ pt c cc0_scratch3 g3 ∗ pt c cc0_scratch4 g4 ∗ pt c cc0_scratch5 g5 ∗ pt c cc0_scratch6 g6 ∗ R)

set_option maxHeartbeats 4000000 in
/-- The body up to the rows of the attention output that the device's own chunk needs: the copies, the queries, the attention. -/
def runA (c : Dev nD) (x : (cc0_stg0_0 : Ref sig .tc).ty.Contents (Elt F)) (w : (cc0_stg1_0 : Ref sig .tc).ty.Contents (Elt F))
    (k : (cc0_stg2_0 : Ref sig .tc).ty.Contents (Elt F)) (v : (cc0_stg3_0 : Ref sig .tc).ty.Contents (Elt F)) (o : (cc0_stg4_0 : Ref sig .tc).ty.Contents (Elt F))
    (f5 : (cc0_stg5_0 : Ref sig .tc).ty.Contents (Elt F))
    (g0 : (cc0_scratch0 : Ref sig .tc).ty.Contents (Elt F)) (g1 : (cc0_scratch1 : Ref sig .tc).ty.Contents (Elt F))
    (g2 : (cc0_scratch2 : Ref sig .tc).ty.Contents (Elt F)) (g3 : (cc0_scratch3 : Ref sig .tc).ty.Contents (Elt F))
    (g4 : (cc0_scratch4 : Ref sig .tc).ty.Contents (Elt F)) (g5 : (cc0_scratch5 : Ref sig .tc).ty.Contents (Elt F))
    (g6 : (cc0_scratch6 : Ref sig .tc).ty.Contents (Elt F)) (R : sProp 𝕄) (Kt : PUnit → sProp 𝕄) :
    Σ' (G : Prop), G → preA c x w k v o f5 g0 g1 g2 g3 g4 g5 g6 R
      ⊢ wp frame (wpE (defs₀ (F := F)) 𝒱₀ (c : Thread nD τ) none) Set.univ body Kt := by
  sl_stretch
  unfold preA
  unfold body
  simp only [cc0__body_eq_skeleton]; unfold cc0__body_skel
  iintro ⟨Hx, Hw, Hk, Hv, Ho, Hout, Hqp, Hkp, Hvp, Hcp, Hcg, Hwq, Hwo, HR⟩
  set_option sl_exec.stopBefore "k0_part3" in sl_exec_parts
  have hwq : (Memref.whole cc0_scratch5).view.writes (Elt F) g5 (runA.sl.Hwq_1 w) = w := by
    refine writes_eq cc0_scratch5 g5 _ w S1024x1024.size (by sl_kernel_rfl) ?_
    sl_unfold_run_names
    simp only [shapeCast_self]
    exact agree_cons (fun x => all_piece (α := Elt F .bf16) (s := S1024x1024) w (by decide) _ _ x) (agree_nil _)
  rw [hwq]
  have hwo : (Memref.whole cc0_scratch6).view.writes (Elt F) g6 [⟨Rect.unit ![0, 0] S1024x1024.size (by decide), runA.sl.v35 o⟩] = o := by
    refine writes_eq cc0_scratch6 g6 _ o S1024x1024.size (by sl_kernel_rfl) ?_
    sl_unfold_run_names
    simp only [shapeCast_self]
    exact agree_cons (fun x => all_piece (α := Elt F .bf16) (s := S1024x1024) o (by decide) _ _ x) (agree_nil _)
  rw [hwo]
  set_option sl_exec.stopBefore "k0_part17" in sl_exec_parts
  set_option sl_exec.maxSteps 8 in sl_exec
  have hk : (Memref.whole cc0_scratch1).view.writes (Elt F) g1 (runA.sl.Hkp_32 k) = regroup k := by
    refine writes_eq cc0_scratch1 g1 _ (regroup k) S64x1024.size (by sl_kernel_rfl) ?_
    sl_unfold_run_names
    simp only [k0_pay4, k0_pay74, k0_pay76, shapeCast_self]
    repeat refine agree_cons (fun x => regroup_piece (α := Elt F .bf16) k _ _ (by decide) (by decide) _ _ x) ?_
    exact agree_nil _
  rw [hk]
  have hv : (Memref.whole cc0_scratch2).view.writes (Elt F) g2 (runA.sl.Hvp_32 v) = regroup v := by
    refine writes_eq cc0_scratch2 g2 _ (regroup v) S64x1024.size (by sl_kernel_rfl) ?_
    sl_unfold_run_names
    simp only [k0_pay73, k0_pay75, k0_pay77, shapeCast_self]
    repeat refine agree_cons (fun x => regroup_piece (α := Elt F .bf16) v _ _ (by decide) (by decide) _ _ x) ?_
    exact agree_nil _
  rw [hv]
  have rq : ∀ L : List (View.Piece (Elt F) (cc0_scratch0 : Ref sig .tc).ty.shape (cc0_scratch0 : Ref sig .tc).ty.elt), View.Piece.tiledL L S64x1024.size = true →
      Agree (F := F) (s := (cc0_scratch0 : Ref sig .tc).ty.shape) (e := (cc0_scratch0 : Ref sig .tc).ty.elt) (regroup (qAll x w)) L →
      (Memref.whole cc0_scratch0).view.writes (Elt F) g0 L = regroup (qAll x w) := fun L h h' => writes_eq cc0_scratch0 g0 L _ S64x1024.size h h'
  rw [rq]
  rotate_left
  · sl_kernel_rfl
  · sl_unfold_run_names
    simp only [shapeCast_self, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
    repeat refine agree_cons (fun j => q_piece x w _ _ _ (rows_read (α := Elt F .bf16) x (by decide) (by decide) _) _
      (readAt_all cc0_scratch5 w (by decide) _) _ _ (by decide) (by decide) (by decide) (by decide) _ _ j) ?_
    exact agree_nil _
  clear hwq hwo hk hv rq
  set_option sl_exec.stopBefore "k0_part33" in sl_exec_parts
  set_option sl_exec.maxSteps 9 in sl_exec
  have rc : ∀ L : List (View.Piece (Elt F) (cc0_scratch3 : Ref sig .tc).ty.shape (cc0_scratch3 : Ref sig .tc).ty.elt), View.Piece.tiledL L S512x128.size = true →
      Agree (F := F) (s := (cc0_scratch3 : Ref sig .tc).ty.shape) (e := (cc0_scratch3 : Ref sig .tc).ty.elt)
        (ctx (regroup (qAll x w)) (regroup k) (regroup v)) L →
      (Memref.whole cc0_scratch3).view.writes (Elt F) g3 L = ctx (regroup (qAll x w)) (regroup k) (regroup v) :=
    fun L h h' => writes_eq cc0_scratch3 g3 L _ S512x128.size h h'
  rw [rc]
  rotate_left
  · sl_kernel_rfl
  · sl_unfold_run_names
    simp only [shapeCast_self, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166]
    repeat refine agree_cons (fun j => ctx_piece _ _ _ _ _ (by decide) (by decide) (by decide) (by decide) _ _ _ _ j) ?_
    exact agree_nil _
  clear rc
  set_option sl_exec.stopBefore "k0_part34" in sl_exec_parts
  set_option sl_exec.maxSteps 13 in sl_exec
  have rg : ∀ L : List (View.Piece (Elt F) (cc0_scratch4 : Ref sig .tc).ty.shape (cc0_scratch4 : Ref sig .tc).ty.elt), View.Piece.tiledL L S128x1024.size = true →
      Agree (F := F) (s := (cc0_scratch4 : Ref sig .tc).ty.shape) (e := (cc0_scratch4 : Ref sig .tc).ty.elt)
        (gath (ctx (regroup (qAll x w)) (regroup k) (regroup v)) c.val c.isLt) L →
      (Memref.whole cc0_scratch4).view.writes (Elt F) g4 L = gath (ctx (regroup (qAll x w)) (regroup k) (regroup v)) c.val c.isLt :=
    fun L h h' => writes_eq cc0_scratch4 g4 L _ S128x1024.size h h'
  rw [rg]
  rotate_left
  · sl_kernel_rfl
  · sl_unfold_run_names
    simp only [shapeCast_self, k0_pay167, k0_pay168, k0_pay169, k0_pay170]
    refine agree_cons (fun j => gath_piece (α := Elt F .bf16) _ c.val c.isLt _ 3 _ rfl (k0_off1_eq c 3) _ _ j) ?_
    refine agree_cons (fun j => gath_piece (α := Elt F .bf16) _ c.val c.isLt _ 2 _ rfl (k0_off1_eq c 2) _ _ j) ?_
    refine agree_cons (fun j => gath_piece (α := Elt F .bf16) _ c.val c.isLt _ 1 _ rfl (k0_off1_eq c 1) _ _ j) ?_
    refine agree_cons (fun j => gath_piece (α := Elt F .bf16) _ c.val c.isLt _ 0 _ rfl (k0_off1_eq c 0) _ _ j) ?_
    exact agree_nil _
  clear rg
  sl_seam

end Cert.KernelIdeal.Ring
end
-- ==== Proof.Ring.Protocol.lean ====
module

public import proofs.«01_k».proof.Proof.Ring.Setup
public import Idealize.ShloMosaic.Lib.Rounds.Family

@[expose] public section

/-! The exchange: its cells, who pays each of them, with how much, and with what contents.

Every cell is used for one round. Device `c`'s barrier cell is signalled once by each neighbour; a signal hands
over the landing slots of the signalling device that its receiver writes. For each of the six hops of either
direction there is a send cell, which the device's own copy credits, handing the source slot back, and a receive
cell, which the neighbour's copy credits, handing over the landing slot with what it sent. -/

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev ER : Emb (Rounds.URounds (GSem nD τ sig) Bool) (MT nD τ sig Unit (Elt F) ℕ UU ℕ) := embR

/-! ### Places and slots -/

def nxt (c : Dev nD) : Dev nD := ⟨(c.val + 1) % 4, Nat.mod_lt _ (by decide)⟩
def prv (c : Dev nD) : Dev nD := ⟨(c.val + 3) % 4, Nat.mod_lt _ (by decide)⟩
theorem nxt_prv (c : Dev nD) : nxt (prv c) = c := by revert c; decide
theorem prv_nxt (c : Dev nD) : prv (nxt c) = c := by revert c; decide
def turn : Dev nD ≃ Dev nD := ⟨nxt, prv, prv_nxt, nxt_prv⟩

/-- The device that direction `d` sends to: the next one for `false`, the one before for `true`. -/
def peer : Bool → Dev nD → Dev nD
  | false => nxt
  | true => prv

theorem peer_peer (d : Bool) (c : Dev nD) : peer (!d) (peer d c) = c := by revert d c; decide
theorem peer_peer' (d : Bool) (c : Dev nD) : peer d (peer (!d) c) = c := by revert d c; decide

/-- Slot `k` of a buffer of three or four 512 × 512 slots, as the copies name it. -/
abbrev slot4 (m : Memref sig .tc .vmem S4x512x512 .bf16) (k : ℕ)
    (h : ∀ a, (![k, 0, 0] : Fin 3 → ℕ) a + S1x512x512.size a ≤ S4x512x512.size a) : Memref sig .tc .vmem S512x512 .bf16 :=
  (m.slice (Rect.unit (s := S4x512x512) ![k, 0, 0] S1x512x512.size h) (fun _ => rfl)).squeeze S512x512 squeezes_S1x512x512_S512x512
abbrev slot3 (m : Memref sig .tc .vmem S3x512x512 .bf16) (k : ℕ)
    (h : ∀ a, (![k, 0, 0] : Fin 3 → ℕ) a + S1x512x512.size a ≤ S3x512x512.size a) : Memref sig .tc .vmem S512x512 .bf16 :=
  (m.slice (Rect.unit (s := S3x512x512) ![k, 0, 0] S1x512x512.size h) (fun _ => rfl)).squeeze S512x512 squeezes_S1x512x512_S512x512

abbrev snd4 (d : Bool) : Memref sig .tc .vmem S4x512x512 .bf16 := match d with
  | false => Memref.whole cc0_scratch7
  | true => Memref.whole cc0_scratch8
abbrev red3 (d : Bool) : Memref sig .tc .vmem S3x512x512 .bf16 := match d with
  | false => Memref.whole cc0_scratch9
  | true => Memref.whole cc0_scratch10
abbrev gat3 (d : Bool) : Memref sig .tc .vmem S3x512x512 .bf16 := match d with
  | false => Memref.whole cc0_scratch11
  | true => Memref.whole cc0_scratch12

/-- The slot that direction `d` sends from in hop `i`, and the peer's slot it lands in. -/
abbrev srcSlot (d : Bool) (i : Fin 6) : Memref sig .tc .vmem S512x512 .bf16 := match i with
  | 0 => slot4 (snd4 d) 0 inb_S4x512x512_S1x512x512_0_0_0
  | 1 => slot4 (snd4 d) 1 inb_S4x512x512_S1x512x512_1_0_0
  | 2 => slot4 (snd4 d) 2 inb_S4x512x512_S1x512x512_2_0_0
  | 3 => slot4 (snd4 d) 3 inb_S4x512x512_S1x512x512_3_0_0
  | 4 => slot3 (gat3 d) 0 inb_S3x512x512_S1x512x512_0_0_0
  | 5 => slot3 (gat3 d) 1 inb_S3x512x512_S1x512x512_1_0_0
abbrev dstSlot (d : Bool) (i : Fin 6) : Memref sig .tc .vmem S512x512 .bf16 := match i with
  | 0 => slot3 (red3 d) 0 inb_S3x512x512_S1x512x512_0_0_0
  | 1 => slot3 (red3 d) 1 inb_S3x512x512_S1x512x512_1_0_0
  | 2 => slot3 (red3 d) 2 inb_S3x512x512_S1x512x512_2_0_0
  | 3 => slot3 (gat3 d) 0 inb_S3x512x512_S1x512x512_0_0_0
  | 4 => slot3 (gat3 d) 1 inb_S3x512x512_S1x512x512_1_0_0
  | 5 => slot3 (gat3 d) 2 inb_S3x512x512_S1x512x512_2_0_0

/-- What a slot's copy credits. -/
abbrev N : ℕ := (dstSlot false 0).view.dmaCredit
theorem N_pos : 0 < N := View.dmaCredit_pos _ (by decide)
theorem dst_credit (d : Bool) (i : Fin 6) : (dstSlot d i).view.dmaCredit = N := by
  cases d <;> fin_cases i <;> rfl

/-- Slot `m` of device `c` holding `X`; and holding something. -/
def holds (c : Dev nD) (m : Memref sig .tc .vmem S512x512 .bf16) (X : FVec F S512x512 .bf16) : sProp 𝕄 :=
  iprop(∃ f, ⌜m.view.read (Elt F) f = X⌝ ∗ (m.view.loc (c : Thread nD τ) ↦[m.view.set]{fullShare} f))
def some_ (c : Dev nD) (m : Memref sig .tc .vmem S512x512 .bf16) : sProp 𝕄 :=
  iprop(∃ f : Buf (Elt F) (m.view.loc (c : Thread nD τ)), (m.view.loc (c : Thread nD τ) ↦[m.view.set]{fullShare} f))

theorem holds_some (c : Dev nD) (m : Memref sig .tc .vmem S512x512 .bf16) (X : FVec F S512x512 .bf16) : holds c m X ⊢ some_ c m := by
  unfold holds some_
  iintro ⟨%f, -, H⟩; iexists f; iexact H

/-! ### Cells -/

/-- The copies' semaphores: send and receive of the first direction, send and receive of the second. -/
def dsem (d : Bool) (rc : Bool) (i : Fin 6) : DmaSem sig := ⟨6 + 12 * d.toNat + 6 * rc.toNat + i.val, by
  cases d <;> cases rc <;> (have := i.isLt; simp only [Bool.toNat_true, Bool.toNat_false]; show _ < 30; omega)⟩

abbrev barS : Sem sig := sig.barrier 0 rfl
abbrev barCell (c : Dev nD) : GSem nD τ sig := ((c : Thread nD τ), .reg barS)
abbrev sCell (d : Bool) (i : Fin 6) (c : Dev nD) : GSem nD τ sig := ((c : Thread nD τ), .dma (dsem d false i))
abbrev rCell (d : Bool) (i : Fin 6) (c : Dev nD) : GSem nD τ sig := ((c : Thread nD τ), .dma (dsem d true i))

/-- Which copy a semaphore belongs to. -/
def decode (q : DmaSem sig) : Option (Bool × Bool × Fin 6) :=
  if 6 ≤ q.val then some (decide (12 ≤ q.val - 6), decide (6 ≤ (q.val - 6) % 12), ⟨(q.val - 6) % 6, Nat.mod_lt _ (by decide)⟩) else none

theorem decode_dsem (d rc : Bool) (i : Fin 6) : decode (dsem d rc i) = some (d, rc, i) := by
  revert d rc i; decide

theorem dsem_inj {d d' rc rc' : Bool} {i i' : Fin 6} (h : dsem d rc i = dsem d' rc' i') : d = d' ∧ rc = rc' ∧ i = i' := by
  have := congrArg decode h
  rw [decode_dsem, decode_dsem] at this
  simpa using this

/-! ### What the exchange carries -/

variable (M : Bool → Fin 6 → Dev nD → FVec F S512x512 .bf16)

/-- A landing slot of direction `d` on device `e`, beside that its receive cell is open. -/
def land (d : Bool) (i : Fin 6) (e : Dev nD) : sProp 𝕄 := iprop(some_ e (dstSlot d i) ∗ reached ER (rCell d i e) 0)
/-- What a neighbour's signal hands over: the landing slots of direction `d` on device `e`. -/
def slotsAt (d : Bool) (e : Dev nD) : sProp 𝕄 :=
  iprop(land d 0 e ∗ land d 1 e ∗ land d 2 e ∗ land d 3 e ∗ land d 4 e ∗ land d 5 e)

instance some_storable (c : Dev nD) (m : Memref sig .tc .vmem S512x512 .bf16) : BI.Storable (upEmb : UEmb _ 𝕄) (some_ c m : sProp 𝕄) := by
  unfold some_; infer_instance
instance holds_storable (c : Dev nD) (m : Memref sig .tc .vmem S512x512 .bf16) (X : FVec F S512x512 .bf16) :
    BI.Storable (upEmb : UEmb _ 𝕄) (holds c m X : sProp 𝕄) := by
  unfold holds; infer_instance
instance land_storable (d : Bool) (i : Fin 6) (e : Dev nD) : BI.Storable (upEmb : UEmb _ 𝕄) (land d i e : sProp 𝕄) := by
  unfold land; infer_instance
instance slotsAt_storable (d : Bool) (e : Dev nD) : BI.Storable (upEmb : UEmb _ 𝕄) (slotsAt d e : sProp 𝕄) := by
  unfold slotsAt; infer_instance

def dmaPay (c : Dev nD) : Option (Bool × Bool × Fin 6) → sProp 𝕄
  | some (d, false, i) => holds c (srcSlot d i) (M d i c)
  | some (d, true, i) => holds c (dstSlot d i) (M d i (peer (!d) c))
  | none => iprop(emp)

def dmaDuty : Option (Bool × Bool × Fin 6) → Finset Bool
  | some _ => {false}
  | none => ∅

/-- The schedule; `M d i c` is what device `c` sends in direction `d` in hop `i`. -/
def rd : Rounds.Schedule (GSem nD τ sig) Bool 𝕄 where
  duties g r := if r = 0 ∧ g.1.2 = .tc then (match g.2 with | .reg _ => if g.2 = .reg barS then {false, true} else ∅ | .dma q => dmaDuty (decode q)) else ∅
  unitless _ := False
  amount g _ _ := match g.2 with | .reg _ => 1 | .dma _ => N
  payload g _ d := match g.2 with | .reg _ => slotsAt d (peer d g.1.1) | .dma q => dmaPay M g.1.1 (decode q)
  amount_pos g _ _ _ := by
    rcases g with ⟨t, _ | _⟩
    · exact Nat.one_pos
    · exact N_pos

instance rd_storable (g : GSem nD τ sig) (r : ℕ) (d : Bool) : BI.Storable (upEmb : UEmb _ 𝕄) ((rd (F := F) M).payload g r d) := by
  rcases g with ⟨t, s | q⟩
  · show BI.Storable upEmb (slotsAt d _)
    infer_instance
  · show BI.Storable upEmb (dmaPay M _ (decode q))
    rcases decode q with _ | ⟨d, _ | _, i⟩ <;> unfold dmaPay <;> infer_instance

section Tables
variable (c : Dev nD) (d : Bool) (i : Fin 6)

theorem duties_bar : (rd (F := F) M).duties (barCell c) 0 = {false, true} := by
  dsimp only [rd]; rw [if_pos ⟨rfl, rfl⟩, if_pos rfl]
theorem duties_s : (rd (F := F) M).duties (sCell d i c) 0 = {false} := by
  dsimp only [rd]; rw [if_pos ⟨rfl, rfl⟩, decode_dsem]; rfl
theorem duties_r : (rd (F := F) M).duties (rCell d i c) 0 = {false} := by
  dsimp only [rd]; rw [if_pos ⟨rfl, rfl⟩, decode_dsem]; rfl
theorem duties_later (g : GSem nD τ sig) : ∀ r, 1 ≤ r → (rd (F := F) M).duties g r = ∅ := fun r hr => by
  dsimp only [rd]; rw [if_neg (fun h => by omega)]
theorem expect_bar : (rd (F := F) M).expect (barCell c) 0 = 2 := by
  unfold Schedule.expect Schedule.amountOf; rw [duties_bar]; rfl
theorem expect_s : (rd (F := F) M).expect (sCell d i c) 0 = N := by
  unfold Schedule.expect Schedule.amountOf; rw [duties_s, Finset.sum_singleton]; rfl
theorem expect_r : (rd (F := F) M).expect (rCell d i c) 0 = N := by
  unfold Schedule.expect Schedule.amountOf; rw [duties_r, Finset.sum_singleton]; rfl
theorem payload_s (u : Bool) : (rd (F := F) M).payload (sCell d i c) 0 u = holds c (srcSlot d i) (M d i c) := by
  dsimp only [rd]; rw [decode_dsem]; rfl
theorem payload_r (u : Bool) : (rd (F := F) M).payload (rCell d i c) 0 u = holds c (dstSlot d i) (M d i (peer (!d) c)) := by
  dsimp only [rd]; rw [decode_dsem]; rfl
theorem payload_bar (u : Bool) : (rd (F := F) M).payload (barCell c) 0 u = slotsAt u (peer u c) := rfl
theorem rest_s : bigSep ((rd (F := F) M).duties (sCell d i c) 0 \ ∅) (fun u => (rd (F := F) M).payload (sCell d i c) 0 u) = holds c (srcSlot d i) (M d i c) := by
  rw [Finset.sdiff_empty, duties_s, bigSep_singleton, payload_s]
theorem rest_r : bigSep ((rd (F := F) M).duties (rCell d i c) 0 \ ∅) (fun u => (rd (F := F) M).payload (rCell d i c) 0 u) = holds c (dstSlot d i) (M d i (peer (!d) c)) := by
  rw [Finset.sdiff_empty, duties_r, bigSep_singleton, payload_r]
theorem rest_bar : bigSep ((rd (F := F) M).duties (barCell c) 0 \ ∅) (fun u => (rd (F := F) M).payload (barCell c) 0 u)
    = iprop(slotsAt false (nxt c) ∗ slotsAt true (prv c)) := by
  rw [Finset.sdiff_empty, duties_bar, bigSep_insert (by decide), bigSep_singleton]; rfl

end Tables

/-! ### What a device owes, and in which order its waits come -/

/-- What device `c` owes when `n` hops are left to start: the receive credit of each of them on either neighbour. -/
def debt (c : Dev nD) : ℕ → CellTallies nD τ sig Unit
  | 0 => 0
  | n + 1 => debt c n + tallyAt (rCell true ⟨(5 - n) % 6, Nat.mod_lt _ (by decide)⟩ (prv c)) () N + tallyAt (rCell false ⟨(5 - n) % 6, Nat.mod_lt _ (by decide)⟩ (nxt c)) () N

/-- What it owes at launch: that, and a unit to either neighbour's barrier cell. -/
def O₀ (c : Dev nD) : CellTallies nD τ sig Unit := debt c 6 + tallyAt (barCell (nxt c)) () 1 + tallyAt (barCell (prv c)) () 1

def L (g : GSem nD τ sig) : Finset Unit := if g.1.2 = .tc then {()} else ∅
/-- Barrier cells at 1, the copies' cells of hop `i` at `i + 2`, the rest at 0. -/
def lv (g : GSem nD τ sig) (_ : Unit) : ℕ := match g.2 with
  | .reg _ => 1
  | .dma q => match decode q with
    | some (_, _, i) => i.val + 2
    | none => 0

theorem L_of_ne (g : GSem nD τ sig) (h : g.1.2 ≠ .tc) : L g = ∅ := if_neg h
theorem L_tc (c : Dev nD) (sm : SemLoc sig) : L ((c : Thread nD τ), sm) = {()} := if_pos rfl
theorem lv_dma (c : Dev nD) (d rc : Bool) (i : Fin 6) : lv ((c : Thread nD τ), .dma (dsem d rc i)) () = i.val + 2 := by
  dsimp only [lv]; rw [decode_dsem]

theorem tallyAt_pos {g g' : GSem nD τ sig} {u u' : Unit} {n : ℕ} (h : 0 < (tallyAt g u n : CellTallies nD τ sig Unit) g' u') : g' = g := by
  rw [tallyAt_apply] at h
  split at h
  · next hg => exact hg.1
  · exact absurd h (Nat.lt_irrefl 0)

theorem debt_pos {c : Dev nD} {n : ℕ} (hn : n ≤ 6) {g : GSem nD τ sig} {u : Unit} (h : 0 < debt c n g u) :
    ∃ (e : Dev nD) (d : Bool) (i : Fin 6), g = rCell d i e ∧ 6 - n ≤ i.val := by
  induction n with
  | zero => exact absurd h (Nat.lt_irrefl 0)
  | succ n ih =>
    unfold debt at h
    rw [Pi.add_apply, Finsupp.add_apply, Pi.add_apply, Finsupp.add_apply] at h
    rcases Nat.add_pos_iff_pos_or_pos.mp h with h | h
    · rcases Nat.add_pos_iff_pos_or_pos.mp h with h | h
      · obtain ⟨e, d, i, he, hi⟩ := ih (by omega) h
        exact ⟨e, d, i, he, by omega⟩
      · exact ⟨_, _, _, tallyAt_pos h, by show 6 - (n + 1) ≤ (5 - n) % 6; omega⟩
    · exact ⟨_, _, _, tallyAt_pos h, by show 6 - (n + 1) ≤ (5 - n) % 6; omega⟩

theorem O₀_pos {c : Dev nD} {g : GSem nD τ sig} {u : Unit} (h : 0 < O₀ c g u) : u ∈ L g ∧ 0 < lv g u := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨e, d, i, rfl, hi⟩ := debt_pos (le_refl 6) h
      exact ⟨by rw [L_tc]; exact Finset.mem_singleton_self _, by rw [lv_dma]; omega⟩
    · obtain rfl := tallyAt_pos h
      exact ⟨by rw [L_tc]; exact Finset.mem_singleton_self _, Nat.one_pos⟩
  · obtain rfl := tallyAt_pos h
    exact ⟨by rw [L_tc]; exact Finset.mem_singleton_self _, Nat.one_pos⟩

/-- A wait on a cell below every hop still owed. -/
theorem mayWait (c : Dev nD) (sm : SemLoc sig) (n : ℕ) (hn : n ≤ 6) (h : lv ((c : Thread nD τ), sm) () < 8 - n) :
    (levAts L lv : sProp 𝕄) ⊢ MayWait (c : Thread nD τ) sm () (debt c n) :=
  MayOwe.of_cut (L := L) (lev := lv) (7 - n) (fun p hp => by rw [Finset.mem_singleton.mp hp, L_tc]; exact Finset.mem_singleton_self _)
    (fun g u hg => by
      obtain ⟨e, d, i, rfl, hi⟩ := debt_pos hn hg
      rw [L_tc]; exact Finset.mem_singleton_self _)
    (fun p hp => by rw [Finset.mem_singleton.mp hp]; show lv ((c : Thread nD τ), sm) () ≤ 7 - n; omega)
    (fun g u hg => by
      obtain ⟨e, d, i, rfl, hi⟩ := debt_pos hn hg
      have := lv_dma e d true i
      cases u; rw [this]; omega)

/-! ### The steps of the exchange -/

/-- The records every device may consult: every cell's invariant under one map of names, and that its round 0 is reached. -/
def records (κ : GSem nD τ sig → ℕ) : sProp 𝕄 :=
  iprop((bigSep Finset.univ fun c : Dev nD => cellInv ER (rd M) (κ (barCell c)) (barCell c))
    ∗ (bigSep Finset.univ fun k : Dev nD × Bool × Bool × Fin 6 => cellInv ER (rd M) (κ ((k.1 : Thread nD τ), .dma (dsem k.2.1 k.2.2.1 k.2.2.2))) ((k.1 : Thread nD τ), .dma (dsem k.2.1 k.2.2.1 k.2.2.2)))
    ∗ (bigSep Finset.univ fun c : Dev nD => reached ER (barCell c) 0)
    ∗ levAts L lv)

instance records_persistent (κ : GSem nD τ sig → ℕ) : BI.Persistent (records (F := F) M κ) := by unfold records; infer_instance

theorem inv_bar (κ : GSem nD τ sig → ℕ) (c : Dev nD) : records (F := F) M κ ⊢ cellInv ER (rd M) (κ (barCell c)) (barCell c) := by
  unfold records
  exact sep_elim_left.trans (show _ ⊢ _ from bigSep_elim (Φ := fun c : Dev nD => (cellInv ER (rd M) (κ (barCell c)) (barCell c) : sProp 𝕄)) (Finset.mem_univ c))
theorem inv_dma (κ : GSem nD τ sig → ℕ) (c : Dev nD) (d rc : Bool) (i : Fin 6) :
    records (F := F) M κ ⊢ cellInv ER (rd M) (κ ((c : Thread nD τ), .dma (dsem d rc i))) ((c : Thread nD τ), .dma (dsem d rc i)) := by
  unfold records
  exact sep_elim_right.trans (sep_elim_left.trans (show _ ⊢ _ from bigSep_elim (Φ := fun k : Dev nD × Bool × Bool × Fin 6 => (cellInv ER (rd M) (κ ((k.1 : Thread nD τ), .dma (dsem k.2.1 k.2.2.1 k.2.2.2))) ((k.1 : Thread nD τ), .dma (dsem k.2.1 k.2.2.1 k.2.2.2)) : sProp 𝕄)) (Finset.mem_univ (c, d, rc, i))))
theorem reached_bar (κ : GSem nD τ sig → ℕ) (c : Dev nD) : records (F := F) M κ ⊢ reached ER (barCell c) 0 := by
  unfold records
  exact sep_elim_right.trans (sep_elim_right.trans (sep_elim_left.trans (show _ ⊢ _ from bigSep_elim (Φ := fun c : Dev nD => (reached ER (barCell c) 0 : sProp 𝕄)) (Finset.mem_univ c))))
theorem levels (κ : GSem nD τ sig → ℕ) : records (F := F) M κ ⊢ levAts L lv := by
  unfold records
  iintro ⟨-, -, -, #H⟩
  iexact H

/-- What device `c` owes, whatever it has waited for. -/
def owing (c : Dev nD) (O : CellTallies nD τ sig Unit) : sProp 𝕄 := iprop(∃ W, owes (c : Thread nD τ) O W)

variable {α : Type}

/-- The signal to the neighbour in direction `d`: its payload is this device's landing slots of the other direction. -/
theorem step_signal (Q : α → sProp 𝕄) (κ : GSem nD τ sig → ℕ) (c e : Dev nD) (d : Bool) (he : e = peer d c) (O₁ O : CellTallies nD τ sig Unit)
    (hO : O₁ = O + tallyAt (barCell (peer d c)) () 1) {k : PUnit → Prog (TpuEff nD τ sig (Elt F) Λ₀ .tc) α} :
    iprop(records M κ ∗ owing c O₁ ∗ dutyTok ER (barCell (peer d c)) 0 (!d) ∗ slotsAt (!d) c)
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (e : Thread nD τ) barS 1) k) Q) := by
  subst he
  iintro ⟨#HR, HO, Ht, Hp⟩ Hk
  unfold owing
  icases HO with ⟨%W, HO⟩
  have hdu : (!d) ∈ (rd M).duties (barCell (peer d c)) 0 := by rw [duties_bar]; cases d <;> decide
  ihave #HI := (inv_bar M κ (peer d c)) $$ HR
  ihave #Hr := (reached_bar M κ (peer d c)) $$ HR
  iapply (Rounds.wp_signal 𝒱₀ ER (rd M) (c : Thread nD τ) none (dst := (peer d c : Thread nD τ)) (sem := barS) (r := 0) (d := !d) (κ := κ (barCell (peer d c)))
      hdu rfl () O hO) $$ [HO Ht Hp]
  · isplitr; · iexact HI
    isplitl [HO]; · iexact HO
    isplitl [Ht]; · iexact Ht
    isplitl [Hp]; · rw [payload_bar, peer_peer]; iexact Hp
    iexact Hr
  iintro HO
  iapply Hk
  iexists _; iexact HO

/-- The wait for both neighbours' signals: their landing slots. -/
theorem step_barrier (Q : α → sProp 𝕄) (κ : GSem nD τ sig → ℕ) (c : Dev nD) {k : PUnit → Prog (TpuEff nD τ sig (Elt F) Λ₀ .tc) α} :
    iprop(records M κ ∗ owing c (debt c 6) ∗ cred (tallyAt (barCell c) () 2) ∗ atPos ER (barCell c) 0 ∅ 0)
      ⊢ iprop(((owing c (debt c 6) ∗ atPos ER (barCell c) 1 ∅ 0 ∗ slotsAt false (nxt c) ∗ slotsAt true (prv c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  iintro ⟨#HR, HO, Hc, Hat⟩ Hk
  unfold owing
  icases HO with ⟨%W, HO⟩
  have hmw := mayWait (F := F) c (.reg barS) 6 (le_refl _) (by show (1 : ℕ) < 8 - 6; decide)
  have hex : 0 + 2 = (rd M).expect (barCell c) 0 := (expect_bar M c).symm
  ihave #HI := (inv_bar M κ c) $$ HR
  ihave #Hl := (levels M κ) $$ HR
  iapply (Rounds.wp_wait_rest_token 𝒱₀ ER (rd M) (c : Thread nD τ) none (κ := κ (barCell c))
      (wpE_semWait_eq 𝒱₀ (c : Thread nD τ) none Set.univ) (Set.mem_univ _) () (O := debt c 6) (W := W) (R := 0) (m := 0) (T := ∅)
      hex) $$ [Hc HO Hat]
  · isplitr; · iexact HI
    isplitl [Hc]; · iexact Hc
    isplitl [HO]; · iexact HO
    isplitr; · iapply hmw; iexact Hl
    iexact Hat
  iintro ⟨HO, Hat, -, Hp⟩
  ihave Hp' := (Entails.of_eq (rest_bar M c)) $$ Hp
  iapply Hk
  isplitl [HO]; · iexists _; iexact HO
  isplitl [Hat]; · iexact Hat
  iexact Hp'

/-- The tokens, positions and credit of hop `i` in direction `d` before it starts. -/
def hop (d : Bool) (i : Fin 6) (c : Dev nD) : sProp 𝕄 :=
  iprop(dutyTok ER (sCell d i c) 0 false ∗ dutyTok ER (rCell d i (peer d c)) 0 false ∗ reached ER (sCell d i c) 0
    ∗ atPos ER (sCell d i c) 0 ∅ 0 ∗ atPos ER (rCell d i c) 0 ∅ 0 ∗ cred (tallyAt (rCell d i c) () N))
/-- While its copy is under way; and after its send wait. -/
def flying (d : Bool) (i : Fin 6) (c : Dev nD) : sProp 𝕄 :=
  iprop(cred (tallyAt (sCell d i c) () N) ∗ atPos ER (sCell d i c) 0 ∅ 0 ∗ atPos ER (rCell d i c) 0 ∅ 0 ∗ cred (tallyAt (rCell d i c) () N))
def left (d : Bool) (i : Fin 6) (c : Dev nD) : sProp 𝕄 :=
  iprop(atPos ER (sCell d i c) 1 ∅ 0 ∗ atPos ER (rCell d i c) 0 ∅ 0 ∗ cred (tallyAt (rCell d i c) () N))
/-- Both cells' round over. -/
def over (d : Bool) (i : Fin 6) (c : Dev nD) : sProp 𝕄 :=
  iprop(atPos ER (sCell d i c) 1 ∅ 0 ∗ atPos ER (rCell d i c) 1 ∅ 0)

/-- Hop `i` in direction `d` starts. -/
theorem step_send (Q : α → sProp 𝕄) (κ : GSem nD τ sig → ℕ) (c e : Dev nD) (d : Bool) (i : Fin 6) (he : e = peer d c)
    {src dst : Memref sig .tc .vmem S512x512 .bf16} (hs : src = srcSlot d i) (hd : dst = dstSlot d i)
    {sS sR : DmaSem sig} (hS : sS = dsem d false i) (hR : sR = dsem d true i)
    {O₁ : CellTallies nD τ sig Unit} (O : CellTallies nD τ sig Unit) (hO : O₁ = O + tallyAt (rCell d i (peer d c)) () N)
    {hsc : dst.view.ref.isScScratch = false} {h1 : src.view.WordExact} {h2 : dst.view.WordExact}
    {h3 : DmaTarget.Typed .vmem (.dma sR) (.remote (e : Thread nD τ) dst (.dma sS) hsc)}
    {k : PUnit → Prog (TpuEff nD τ sig (Elt F) Λ₀ .tc) α} :
    iprop(records M κ ∗ owing c O₁ ∗ hop d i c ∗ holds c (srcSlot d i) (M d i c) ∗ land d i (peer d c))
      ⊢ iprop(((owing c O ∗ flying d i c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (e : Thread nD τ) dst (.dma sS) hsc) (.dma sR) h1 h2 h3) k) Q) := by
  subst he hs hd hS hR
  iintro ⟨#HR, HO, Hh, Hs, Hd⟩ Hk
  unfold owing hop holds land some_
  icases HO with ⟨%W, HO⟩
  icases Hh with ⟨HtS, HtR, #HrS, HaS, HaR, HcR⟩
  icases Hs with ⟨%fs, %hfs, Hs⟩
  icases Hd with ⟨⟨%fd, Hd⟩, #HrR⟩
  have hd1 : false ∈ (rd M).duties (sCell d i c) 0 := by rw [duties_s]; exact Finset.mem_singleton_self _
  have hd2 : false ∈ (rd M).duties (rCell d i (peer d c)) 0 := by rw [duties_r]; exact Finset.mem_singleton_self _
  have hp1 : iprop((srcSlot d i).view.loc (c : Thread nD τ) ↦[(srcSlot d i).view.set]{fullShare} fs) ⊢ (rd M).payload (sCell d i c) 0 false := by
    rw [payload_s]; unfold holds; iintro H; iexists fs
    isplitr
    · ipureintro; exact hfs
    iexact H
  have hp2 : iprop((dstSlot d i).view.loc (peer d c : Thread nD τ) ↦[(dstSlot d i).view.set]{fullShare} ((dstSlot d i).view.write (Elt F) fd ((srcSlot d i).view.read (Elt F) fs) Finset.univ))
      ⊢ (rd M).payload (rCell d i (peer d c)) 0 false := by
    rw [payload_r, peer_peer]; unfold holds; iintro H; iexists _
    isplitr
    rotate_left
    · iexact H
    ipureintro
    rw [hfs, View.read_write_univ]
  ihave #HI1 := (inv_dma M κ c d false i) $$ HR
  ihave #HI2 := (inv_dma M κ (peer d c) d true i) $$ HR
  iapply (Rounds.wp_send_pointsTo 𝒱₀ ER (rd M) (c : Thread nD τ) none (c' := (peer d c : Thread nD τ)) (src := srcSlot d i) (dst := dstSlot d i)
      (sS := .dma (dsem d false i)) (sem := .dma (dsem d true i)) (q := fullShare) (fs := fs) (κ₁ := κ (sCell d i c)) (κ₂ := κ (rCell d i (peer d c)))
      (r₁ := 0) (r₂ := 0) (d₁ := false) (d₂ := false) (fd := fd)
      hd1 hd2 () () N (dst_credit d i) rfl rfl O hO (W := W) hp1 hp2) $$ [Hs Hd HO HtS HtR]
  · isplitr; · iexact HI1
    isplitr; · iexact HI2
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitl [HO]; · iexists _; iexact HO
  unfold flying
  isplitl [HcS]; · iexact HcS
  isplitl [HaS]; · iexact HaS
  isplitl [HaR]; · iexact HaR
  iexact HcR

/-- The send wait of hop `i`, with `n` hops left to start: the source slot comes back. -/
theorem step_sent (Q : α → sProp 𝕄) (κ : GSem nD τ sig → ℕ) (c : Dev nD) (d : Bool) (i : Fin 6) (n : ℕ) (hn : n + i.val < 6)
    {q : DmaSem sig} (hq : q = dsem d false i) {src dst : Memref sig .tc .vmem S512x512 .bf16} (hd : dst.view.dmaCredit = N)
    {h1 : src.view.WordExact} {h2 : dst.view.WordExact} {k : PUnit → Prog (TpuEff nD τ sig (Elt F) Λ₀ .tc) α} :
    iprop(records M κ ∗ owing c (debt c n) ∗ flying d i c)
      ⊢ iprop(((owing c (debt c n) ∗ left d i c ∗ holds c (srcSlot d i) (M d i c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h1 h2) k) Q) := by
  subst hq
  iintro ⟨#HR, HO, Hf⟩ Hk
  unfold owing flying
  icases HO with ⟨%W, HO⟩
  icases Hf with ⟨HcS, HaS, HaR, HcR⟩
  have hex : 0 + dst.view.dmaCredit = (rd M).expect (sCell d i c) 0 := by rw [Nat.zero_add, hd]; exact (expect_s M c d i).symm
  ihave #HI := (inv_dma M κ c d false i) $$ HR
  ihave #Hl := (levels M κ) $$ HR
  iapply (Rounds.wp_wait_rest_token 𝒱₀ ER (rd M) (c : Thread nD τ) none (κ := κ (sCell d i c))
      (wpE_waitDma2_eq 𝒱₀ (c : Thread nD τ) none Set.univ) (Set.mem_univ _) () (O := debt c n) (W := W) (R := 0) (m := 0) (T := ∅)
      hex) $$ [HcS HO HaS]
  · isplitr; · iexact HI
    isplitl [HcS]; · iexact HcS
    isplitl [HO]; · iexact HO
    isplitr; · iapply (mayWait c (.dma (dsem d false i)) n (by omega) (by rw [lv_dma]; omega)); iexact Hl
    iexact HaS
  iintro ⟨HO, HaS, -, Hp⟩
  ihave Hp' := (Entails.of_eq (rest_s M c d i)) $$ Hp
  iapply Hk
  isplitl [HO]; · iexists _; iexact HO
  unfold left
  isplitr [Hp']
  · isplitl [HaS]; · iexact HaS
    isplitl [HaR]; · iexact HaR
    iexact HcR
  iexact Hp'

/-- Its receive wait: the landing slot comes back with what the neighbour sent. -/
theorem step_recv (Q : α → sProp 𝕄) (κ : GSem nD τ sig → ℕ) (c : Dev nD) (d : Bool) (i : Fin 6) (n : ℕ) (hn : n + i.val < 6)
    {q : DmaSem sig} (hq : q = dsem d true i) {src dst : Memref sig .tc .vmem S512x512 .bf16} (hd : dst.view.dmaCredit = N)
    {h1 : src.view.WordExact} {h2 : dst.view.WordExact} {k : PUnit → Prog (TpuEff nD τ sig (Elt F) Λ₀ .tc) α} :
    iprop(records M κ ∗ owing c (debt c n) ∗ left d i c)
      ⊢ iprop(((owing c (debt c n) ∗ over d i c ∗ holds c (dstSlot d i) (M d i (peer (!d) c))) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h1 h2) k) Q) := by
  subst hq
  iintro ⟨#HR, HO, Hf⟩ Hk
  unfold owing left
  icases HO with ⟨%W, HO⟩
  icases Hf with ⟨HaS, HaR, HcR⟩
  have hex : 0 + dst.view.dmaCredit = (rd M).expect (rCell d i c) 0 := by rw [Nat.zero_add, hd]; exact (expect_r M c d i).symm
  ihave #HI := (inv_dma M κ c d true i) $$ HR
  ihave #Hl := (levels M κ) $$ HR
  iapply (Rounds.wp_wait_rest_token 𝒱₀ ER (rd M) (c : Thread nD τ) none (κ := κ (rCell d i c))
      (wpE_waitDma2_eq 𝒱₀ (c : Thread nD τ) none Set.univ) (Set.mem_univ _) () (O := debt c n) (W := W) (R := 0) (m := 0) (T := ∅)
      hex) $$ [HcR HO HaR]
  · isplitr; · iexact HI
    isplitl [HcR]; · iexact HcR
    isplitl [HO]; · iexact HO
    isplitr; · iapply (mayWait c (.dma (dsem d true i)) n (by omega) (by rw [lv_dma]; omega)); iexact Hl
    iexact HaR
  iintro ⟨HO, HaR, -, Hp⟩
  ihave Hp' := (Entails.of_eq (rest_r M c d i)) $$ Hp
  iapply Hk
  isplitl [HO]; · iexists _; iexact HO
  unfold over
  isplitr [Hp']
  · isplitl [HaS]; · iexact HaS
    iexact HaR
  iexact Hp'

end Cert.KernelIdeal.Ring
end
-- ==== Proof.Ring.Steps.lean ====
module

public import proofs.«01_k».proof.Proof.Ring.Protocol

@[expose] public section

/-!
# What travels round the ring, and the accesses to a slot

`sums d n c` is the running sum that device `c` has after `n` hops of the reduction in direction `d`, `sent d i c` what it
sends in hop `i`, and `result c` what its output holds in the end, all as functions of every device's partial product.
-/

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ### What travels -/

/-- Chunk `g`, left or right half of the columns, of a partial product. -/
def blk (P : FVec F S1x2048x1024 .f32) (g : Fin 4) (right : Bool) : FVec F S512x512 .f32 :=
  fun j => P (ix3 (n0 := 1) (n1 := 2048) (n2 := 1024) ⟨0, by decide⟩
    ⟨512 * g.val + (j 0).val, by have := (j 0).isLt; change (j 0).val < 512 at this; omega⟩
    ⟨512 * right.toNat + (j 1).val, by have := (j 1).isLt; change (j 1).val < 512 at this; cases right <;> simp <;> omega⟩)

variable (P : Dev nD → FVec F S1x2048x1024 .f32)

/-- The chunk that device `c` adds in hop `n` of direction `d`. -/
def chunkOf (d : Bool) : ℕ → Dev nD → Dev nD
  | 0, c => c
  | n + 1, c => chunkOf d n (peer (!d) c)

/-- The running sum after `n` hops. -/
def sums (d : Bool) : ℕ → Dev nD → FVec F S512x512 .f32
  | 0, c => blk (P c) c d
  | n + 1, c => addf (extf .f32 (truncf .bf16 (sums d n (peer (!d) c)) bitsLt_bf16_f32) bitsLt_bf16_f32) (blk (P c) (chunkOf d (n + 1) c) d)

/-- What device `c` sends in hop `i`. -/
def sent (d : Bool) (i : Fin 6) (c : Dev nD) : FVec F S512x512 .bf16 := match i with
  | 0 => truncf .bf16 (sums P d 0 c) bitsLt_bf16_f32
  | 1 => truncf .bf16 (sums P d 1 c) bitsLt_bf16_f32
  | 2 => truncf .bf16 (sums P d 2 c) bitsLt_bf16_f32
  | 3 => truncf .bf16 (sums P d 3 c) bitsLt_bf16_f32
  | 4 => truncf .bf16 (sums P d 3 (peer (!d) c)) bitsLt_bf16_f32
  | 5 => truncf .bf16 (sums P d 3 (peer (!d) (peer (!d) c))) bitsLt_bf16_f32

/-- What the output of device `c` holds at the end: the chunk it reduced itself as it is, every other one rounded. -/
def final (d : Bool) (c e : Dev nD) : FVec F S512x512 .f32 :=
  if e = c then sums P d 3 e else extf .f32 (truncf .bf16 (sums P d 3 e) bitsLt_bf16_f32) bitsLt_bf16_f32

/-- Element `i` of the output is element `i 1 % 512, i 2 % 512` of the sum that the device before (or after) its chunk's has. -/
def result (c : Dev nD) : FVec F S1x2048x1024 .f32 := fun i =>
  final P (decide (512 ≤ (i 2).val)) c
    (peer (!decide (512 ≤ (i 2).val)) ⟨(i 1).val / 512, by have := (i 1).isLt; change (i 1).val < 2048 at this; show _ < 4; omega⟩)
    (ix2 (n0 := 512) (n1 := 512) ⟨(i 1).val % 512, Nat.mod_lt _ (by decide)⟩ ⟨(i 2).val % 512, Nat.mod_lt _ (by decide)⟩)

/-! ### Accesses to a slot -/

variable {α : Type} {s : Shape}

theorem holds_of_some (c : Dev nD) (m : Memref sig .tc .vmem S512x512 .bf16) : some_ c m ⊢ (iprop(∃ X, holds (F := F) c m X) : sProp 𝕄) := by
  unfold holds some_
  iintro ⟨%f, H⟩; iexists (m.view.read (Elt F) f); iexists f
  isplitr
  · ipureintro; rfl
  iexact H

/-- A load through the whole buffer at a slot's rectangle. -/
theorem step_load (Q : α → sProp 𝕄) (c : Dev nD) {m : Memref sig .tc .vmem S512x512 .bf16} (b : Memref sig .tc .vmem s .bf16) (r : Rect s)
    (hr : ∀ a, r.stride a = 1) (hq : r.shape.Squeezes S512x512) (hm : m = (b.slice r hr).squeeze S512x512 hq)
    (h1 : S512x512.ShapeCasts r.shape) (X : FVec F S512x512 .bf16)
    {hl : b.view.LoadsAt r.toLoadRect} {k : (r.toLoadRect.shape.Idx → Elt F .bf16) → Prog (TpuEff nD τ sig (Elt F) Λ₀ .tc) α} :
    holds c m X
      ⊢ iprop((holds c m X -∗ wp frame (wpE (defs₀ (F := F)) 𝒱₀ (c : Thread nD τ) none) Set.univ (k (shapeCast r.shape X h1)) Q)
          -∗ wp frame (wpE (defs₀ (F := F)) 𝒱₀ (c : Thread nD τ) none) Set.univ (.op (.load b r.toLoadRect hl) k) Q) := by
  subst hm
  unfold holds
  iintro ⟨%f, %hf, H⟩ Hk
  have hv : b.view.readAt (Elt F) r.toLoadRect f = shapeCast r.shape X h1 := by
    rw [← hf]
    exact (shapeCast_shapeCast (b.view.readAt (Elt F) r.toLoadRect f) hq.numel_eq h1).symm
  have hS : b.view.setOn r.toLoadRect.set ⊆ ((b.slice r hr).squeeze S512x512 hq).view.set := by
    have h : (b.view.slice r).set = ((b.slice r hr).squeeze S512x512 hq).view.set := (View.set_reshape (v := b.view.slice r) hq.numel_eq).symm
    exact subset_of_eq ((View.set_slice (v := b.view) r).symm.trans h)
  iapply (wp_load 𝒱₀ (c : Thread nD τ) none Set.univ (m := b) (r := r.toLoadRect) (S := ((b.slice r hr).squeeze S512x512 hq).view.set) (f := f) hS) $$ H
  iintro H
  rw [hv]
  iapply Hk
  iexists f
  isplitr
  · ipureintro; exact hf
  iexact H

/-- Such a load of a slot whose contents don't matter. -/
theorem step_peek (Q : α → sProp 𝕄) (c : Dev nD) {m : Memref sig .tc .vmem S512x512 .bf16} (b : Memref sig .tc .vmem s .bf16) (r : Rect s)
    (hr : ∀ a, r.stride a = 1) (hq : r.shape.Squeezes S512x512) (hm : m = (b.slice r hr).squeeze S512x512 hq) (h1 : S512x512.ShapeCasts r.shape)
    {hl : b.view.LoadsAt r.toLoadRect} {k : (r.toLoadRect.shape.Idx → Elt F .bf16) → Prog (TpuEff nD τ sig (Elt F) Λ₀ .tc) α} :
    some_ c m
      ⊢ iprop((∀ v, some_ c m -∗ wp frame (wpE (defs₀ (F := F)) 𝒱₀ (c : Thread nD τ) none) Set.univ (k v) Q)
          -∗ wp frame (wpE (defs₀ (F := F)) 𝒱₀ (c : Thread nD τ) none) Set.univ (.op (.load b r.toLoadRect hl) k) Q) := by
  iintro H Hk
  ihave H := (holds_of_some c m) $$ H
  icases H with ⟨%X, H⟩
  iapply (step_load Q c b r hr hq hm h1 X) $$ H
  iintro H
  iapply Hk
  iapply (holds_some c m X) $$ H

/-- A store through the whole buffer at a slot's rectangle. -/
theorem step_store (Q : α → sProp 𝕄) (c : Dev nD) {m : Memref sig .tc .vmem S512x512 .bf16} (b : Memref sig .tc .vmem s .bf16) (r : Rect s)
    (hr : ∀ a, r.stride a = 1) (hq : r.shape.Squeezes S512x512) (hm : m = (b.slice r hr).squeeze S512x512 hq)
    (X : FVec F S512x512 .bf16) (w : r.shape.Idx → Elt F .bf16) (h2 : r.shape.ShapeCasts S512x512) (hw : shapeCast S512x512 w h2 = X)
    {hx : (b.access r).Stores Finset.univ} {h3 : Finset.univ = Finset.univ ∨ ∀ a, r.stride a = 1}
    {k : PUnit → Prog (TpuEff nD τ sig (Elt F) Λ₀ .tc) α} :
    some_ c m
      ⊢ iprop((holds c m X -∗ wp frame (wpE (defs₀ (F := F)) 𝒱₀ (c : Thread nD τ) none) Set.univ (k ⟨⟩) Q)
          -∗ wp frame (wpE (defs₀ (F := F)) 𝒱₀ (c : Thread nD τ) none) Set.univ (.op (.store b r w Finset.univ hx h3) k) Q) := by
  subst hm hw
  unfold some_ holds
  iintro ⟨%f, H⟩ Hk
  have hS : (b.access r).setOn Finset.univ ⊆ ((b.slice r hr).squeeze S512x512 hq).view.set := by
    have h : (b.view.slice r).set = ((b.slice r hr).squeeze S512x512 hq).view.set := (View.set_reshape (v := b.view.slice r) hq.numel_eq).symm
    exact subset_of_eq ((View.setOn_univ (v := b.access r)).trans h)
  have hf : ((b.slice r hr).squeeze S512x512 hq).view.read (Elt F) ((b.access r).write (Elt F) f w Finset.univ) = shapeCast S512x512 w h2 := by
    have h : shapeCast S512x512 ((b.access r).read (Elt F) ((b.access r).write (Elt F) f w Finset.univ)) h2 = shapeCast S512x512 w h2 := by
      rw [View.read_write_univ]
    exact h
  iapply (wp_store 𝒱₀ (c : Thread nD τ) none Set.univ (m := b) (r := r) (w := w) (Mk := Finset.univ) (S := ((b.slice r hr).squeeze S512x512 hq).view.set) (f := f) hS) $$ H
  iintro H
  iapply Hk
  iexists _
  isplitr
  rotate_left
  · iexact H
  ipureintro
  exact hf

/-- The output buffer. -/
abbrev outM : Memref sig .tc .vmem S1x2048x1024 .f32 := Memref.whole cc0_stg5_0

/-- A load from the output buffer. -/
theorem step_read (Q : α → sProp 𝕄) (c : Dev nD) (f : (cc0_stg5_0 : Ref sig .tc).ty.Contents (Elt F)) (r : LoadRect S1x2048x1024)
    {hl : outM.view.LoadsAt r} {k : (r.shape.Idx → Elt F .f32) → Prog (TpuEff nD τ sig (Elt F) Λ₀ .tc) α} :
    pt c cc0_stg5_0 f
      ⊢ iprop((pt c cc0_stg5_0 f -∗ wp frame (wpE (defs₀ (F := F)) 𝒱₀ (c : Thread nD τ) none) Set.univ (k (outM.view.readAt (Elt F) r f)) Q)
          -∗ wp frame (wpE (defs₀ (F := F)) 𝒱₀ (c : Thread nD τ) none) Set.univ (.op (.load outM r hl) k) Q) := by
  iintro H Hk
  iapply (wp_load 𝒱₀ (c : Thread nD τ) none Set.univ (m := outM) (r := r) (S := Finset.univ) (f := f) (Finset.subset_univ _)) $$ H
  iintro H
  iapply Hk
  iexact H

/-- A store into it, put in front of the ones before. -/
theorem step_place (Q : α → sProp 𝕄) (c : Dev nD) (f : (cc0_stg5_0 : Ref sig .tc).ty.Contents (Elt F)) (L : List (View.Piece (Elt F) S1x2048x1024 .f32))
    (r : Rect S1x2048x1024) (w : r.shape.Idx → Elt F .f32)
    {hx : (outM.access r).Stores Finset.univ} {h3 : Finset.univ = Finset.univ ∨ ∀ a, r.stride a = 1}
    {k : PUnit → Prog (TpuEff nD τ sig (Elt F) Λ₀ .tc) α} :
    pt c cc0_stg5_0 (outM.view.writes (Elt F) f L)
      ⊢ iprop((pt c cc0_stg5_0 (outM.view.writes (Elt F) f (⟨r, w⟩ :: L)) -∗ wp frame (wpE (defs₀ (F := F)) 𝒱₀ (c : Thread nD τ) none) Set.univ (k ⟨⟩) Q)
          -∗ wp frame (wpE (defs₀ (F := F)) 𝒱₀ (c : Thread nD τ) none) Set.univ (.op (.store outM r w Finset.univ hx h3) k) Q) := by
  iintro H Hk
  iapply (wp_store_writes 𝒱₀ (c : Thread nD τ) none Set.univ (m := outM) (r := r) (w := w) (S := Finset.univ) (f := f) (L := L) (Finset.subset_univ _)) $$ H
  iintro H
  iapply Hk
  iexact H

end Cert.KernelIdeal.Ring
end
-- ==== Proof.Ring.Out.lean ====
module

public import proofs.«01_k».proof.Proof.Ring.Steps

@[expose] public section

/-! Where the exchange reads and writes the output buffer, and what the output buffer holds at the end. -/

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ### Addresses in closed form -/

theorem off5_eq : ∀ d0 : Dev nD, ∀ (r₁ : Fin 4) (r₂ : Fin 3), k0_off5 d0 (BitVec.ofNat 32 (512 * r₁.val)) (BitVec.ofNat 32 (1 + r₂.val))
    = ![512 * r₁.val + 128 * ((d0.val + 1 + r₂.val) % 4), 0] := by decide +kernel
theorem off6_eq : ∀ d0 : Dev nD, ∀ (r₁ : Fin 3) (r₂ : Fin 8), k0_off6 d0 (BitVec.ofNat 32 (1 + r₁.val)) (BitVec.ofNat 32 (64 * r₂.val))
    = ![0, 512 * ((d0.val + 1 + r₁.val) % 4) + 64 * r₂.val, 0] := by decide +kernel
theorem nxt_val : ∀ c : Dev nD, (nxt c).val = (c.val + 1 + 0) % 4 := by decide
theorem prv_val : ∀ c : Dev nD, (prv c).val = (c.val + 1 + 2) % 4 := by decide
theorem nxt2_val : ∀ c : Dev nD, (nxt (nxt c)).val = (c.val + 1 + 1) % 4 := by decide
theorem prv2_val : ∀ c : Dev nD, (prv (prv c)).val = (c.val + 1 + 1) % 4 := by decide
theorem off7_0 : ∀ d0 : Dev nD, k0_off7 d0 0#32 = ![0, 512 * (prv d0).val, 512 * false.toNat] := by decide +kernel
theorem off7_1 : ∀ d0 : Dev nD, k0_off7 d0 1#32 = ![0, 512 * (prv (prv d0)).val, 512 * false.toNat] := by decide +kernel
theorem off7_2 : ∀ d0 : Dev nD, k0_off7 d0 2#32 = ![0, 512 * (prv (prv (prv d0))).val, 512 * false.toNat] := by decide +kernel
theorem off8_0 : ∀ d0 : Dev nD, k0_off8 d0 0#32 = ![0, 512 * (nxt d0).val, 512 * true.toNat] := by decide +kernel
theorem off8_1 : ∀ d0 : Dev nD, k0_off8 d0 1#32 = ![0, 512 * (nxt (nxt d0)).val, 512 * true.toNat] := by decide +kernel
theorem off8_2 : ∀ d0 : Dev nD, k0_off8 d0 2#32 = ![0, 512 * (nxt (nxt (nxt d0))).val, 512 * true.toNat] := by decide +kernel
theorem off9_0 : ∀ d0 : Dev nD, k0_off9 d0 0#32 = ![0, 512 * d0.val, 512 * false.toNat] := by decide +kernel
theorem off9_1 : ∀ d0 : Dev nD, k0_off9 d0 1#32 = ![0, 512 * (prv d0).val, 512 * false.toNat] := by decide +kernel
theorem off9_2 : ∀ d0 : Dev nD, k0_off9 d0 2#32 = ![0, 512 * (prv (prv d0)).val, 512 * false.toNat] := by decide +kernel
theorem off10_0 : ∀ d0 : Dev nD, k0_off10 d0 0#32 = ![0, 512 * d0.val, 512 * true.toNat] := by decide +kernel
theorem off10_1 : ∀ d0 : Dev nD, k0_off10 d0 1#32 = ![0, 512 * (nxt d0).val, 512 * true.toNat] := by decide +kernel
theorem off10_2 : ∀ d0 : Dev nD, k0_off10 d0 2#32 = ![0, 512 * (nxt (nxt d0)).val, 512 * true.toNat] := by decide +kernel
theorem dev1_eq : ∀ d0 : Dev nD, (⟨k0_dev1 d0, k0_dev1_lt d0⟩ : Dev nD) = peer true d0 := by decide +kernel
theorem dev2_eq : ∀ d0 : Dev nD, (⟨k0_dev2 d0, k0_dev2_lt d0⟩ : Dev nD) = peer false d0 := by decide +kernel
theorem dev3_eq : ∀ d0 : Dev nD, (⟨k0_dev3 d0, k0_dev3_lt d0⟩ : Dev nD) = peer false d0 := by decide +kernel
theorem dev4_eq : ∀ d0 : Dev nD, (⟨k0_dev4 d0, k0_dev4_lt d0⟩ : Dev nD) = peer true d0 := by decide +kernel
theorem dev5_eq : ∀ d0 : Dev nD, (⟨k0_dev5 d0, k0_dev5_lt d0⟩ : Dev nD) = peer false d0 := by decide +kernel
theorem dev6_eq : ∀ d0 : Dev nD, (⟨k0_dev6 d0, k0_dev6_lt d0⟩ : Dev nD) = peer true d0 := by decide +kernel
theorem dev7_eq : ∀ d0 : Dev nD, (⟨k0_dev7 d0, k0_dev7_lt d0⟩ : Dev nD) = peer false d0 := by decide +kernel
theorem dev8_eq : ∀ d0 : Dev nD, (⟨k0_dev8 d0, k0_dev8_lt d0⟩ : Dev nD) = peer true d0 := by decide +kernel
theorem dev9_eq : ∀ d0 : Dev nD, (⟨k0_dev9 d0, k0_dev9_lt d0⟩ : Dev nD) = peer false d0 := by decide +kernel
theorem dev10_eq : ∀ d0 : Dev nD, (⟨k0_dev10 d0, k0_dev10_lt d0⟩ : Dev nD) = peer true d0 := by decide +kernel
theorem dev11_eq : ∀ d0 : Dev nD, (⟨k0_dev11 d0, k0_dev11_lt d0⟩ : Dev nD) = peer false d0 := by decide +kernel
theorem dev12_eq : ∀ d0 : Dev nD, (⟨k0_dev12 d0, k0_dev12_lt d0⟩ : Dev nD) = peer true d0 := by decide +kernel
theorem dev13_eq : ∀ d0 : Dev nD, (⟨k0_dev13 d0, k0_dev13_lt d0⟩ : Dev nD) = peer false d0 := by decide +kernel
theorem dev14_eq : ∀ d0 : Dev nD, (⟨k0_dev14 d0, k0_dev14_lt d0⟩ : Dev nD) = peer true d0 := by decide +kernel

/-! ### Reading a chunk's half -/

theorem cast_cast {α : Type} (X : S512x512.Idx → α) (h : S512x512.ShapeCasts S1x512x512) (h' : S1x512x512.ShapeCasts S512x512) :
    shapeCast S512x512 (shapeCast S1x512x512 X h) h' = X := shapeCast_shapeCast X h h'

theorem cast_at {ε : EltTy} (X : Vec F S1x512x512 ε) (h : S1x512x512.ShapeCasts S512x512) (j : S512x512.Idx) :
    shapeCast S512x512 X h j = X (ix3 (n0 := 1) (n1 := 512) (n2 := 512) ⟨0, by decide⟩ (j 0) (j 1)) := by
  simp only [pointwise]
theorem cast_up {ε : EltTy} (X : Vec F S512x512 ε) (h : S512x512.ShapeCasts S1x512x512) (j : S1x512x512.Idx) :
    shapeCast S1x512x512 X h j = X (ix2 (n0 := 512) (n1 := 512) (j 1) (j 2)) := by
  simp only [pointwise]

/-- A load of one half of a chunk from an output buffer whose chunk is `P`'s. -/
theorem out_read (P X : FVec F S1x2048x1024 .f32) (g : Fin 4) (r : Bool) {off : Fin 3 → ℕ} (ho : off = ![0, 512 * g.val, 512 * r.toNat])
    (inb : ∀ a, off a + S1x512x512.size a ≤ S1x2048x1024.size a) (hX : ∀ i : S1x2048x1024.Idx, (i 1).val / 512 = g.val → X i = P i)
    (h : S1x512x512.ShapeCasts S512x512) :
    shapeCast S512x512 (View.readAt (Elt F) (Memref.whole cc0_stg5_0).view (Rect.unit (s := S1x2048x1024) off S1x512x512.size inb).toLoadRect X) h = blk P g r := by
  subst ho
  funext j
  have h0 : (j 0).val < 512 := (j 0).isLt
  rw [cast_at]
  unfold blk
  rw [← hX]
  · show X _ = X _
    congr 1
    funext a
    refine Fin.ext ?_
    fin_cases a
    · rfl
    · show 512 * g.val + 1 * (j 0).val = 512 * g.val + (j 0).val
      omega
    · show 512 * r.toNat + 1 * (j 1).val = 512 * r.toNat + (j 1).val
      omega
  · show (512 * g.val + (j 0).val) / 512 = g.val
    omega

theorem chunk_same {α : Type} (g : ℕ) (P f : S1x2048x1024.Idx → α) (i : S1x2048x1024.Idx) (h : (i 1).val / 512 = g) : withChunk g P f i = P i := if_pos h
theorem chunk_other {α : Type} (g : ℕ) (P f : S1x2048x1024.Idx → α) (i : S1x2048x1024.Idx) (h : f i = P i) : withChunk g P f i = P i := by
  unfold withChunk
  split
  · rfl
  · exact h

/-- All four chunks stored. -/
theorem chunks_all {α : Type} (P f : S1x2048x1024.Idx → α) (g0 g1 g2 g3 : ℕ) (h : ∀ n, n < 4 → n = g0 ∨ n = g1 ∨ n = g2 ∨ n = g3) :
    withChunk g3 P (withChunk g2 P (withChunk g1 P (withChunk g0 P f))) = P := by
  funext i
  have hi : (i 1).val < 2048 := (i 1).isLt
  have := h ((i 1).val / 512) (by omega)
  unfold withChunk
  split
  · rfl
  split
  · rfl
  split
  · rfl
  split
  · rfl
  omega

/-! ### What the kernel computes from a slot and a half chunk -/

theorem accum (P : Dev nD → FVec F S1x2048x1024 .f32) (d : Bool) (n : ℕ) (c : Dev nD) {X : FVec F S512x512 .bf16} {Y : FVec F S512x512 .f32}
    (hX : X = truncf .bf16 (sums P d n (peer (!d) c)) bitsLt_bf16_f32) (hY : Y = blk (P c) (chunkOf d (n + 1) c) d) :
    addf (extf .f32 X bitsLt_bf16_f32) Y = sums P d (n + 1) c := by
  subst hX hY
  rfl

section
variable {v : Vec F S1x512x512 .f32} {Y : FVec F S512x512 .f32} (hv : ∀ h, shapeCast S512x512 v h = Y) (X : FVec F S512x512 .bf16) (h : S512x512.ShapeCasts S1x512x512)
  (h2 : S1x512x512.ShapeCasts S512x512)
include hv

theorem pay182_at : shapeCast S512x512 (k0_pay182 v) h2 = truncf .bf16 Y bitsLt_bf16_f32 := by
  unfold k0_pay182
  simp only [cast_cast, hv]

theorem pay183_at : shapeCast S512x512 (k0_pay183 v) h2 = truncf .bf16 Y bitsLt_bf16_f32 := by
  unfold k0_pay183
  simp only [cast_cast, hv]

theorem pay214_at : shapeCast S512x512 (k0_pay214 (k0_pay212 (shapeCast S1x512x512 X h) v)) h2 = truncf .bf16 (addf (extf .f32 X bitsLt_bf16_f32) Y) bitsLt_bf16_f32 := by
  unfold k0_pay214 k0_pay212
  simp only [cast_cast, hv]

theorem pay215_at : shapeCast S512x512 (k0_pay215 (k0_pay213 (shapeCast S1x512x512 X h)) v) h2 = truncf .bf16 (addf (extf .f32 X bitsLt_bf16_f32) Y) bitsLt_bf16_f32 := by
  unfold k0_pay215 k0_pay213
  simp only [cast_cast, hv]

theorem pay231_at : shapeCast S512x512 (k0_pay231 (k0_pay230 (shapeCast S1x512x512 X h) v)) h2 = truncf .bf16 (addf (extf .f32 X bitsLt_bf16_f32) Y) bitsLt_bf16_f32 := by
  unfold k0_pay231 k0_pay230
  simp only [cast_cast, hv]

theorem pay232_at : shapeCast S512x512 (k0_pay232 (shapeCast S1x512x512 X h) v) h2 = truncf .bf16 (addf (extf .f32 X bitsLt_bf16_f32) Y) bitsLt_bf16_f32 := by
  unfold k0_pay232
  simp only [cast_cast, hv]

theorem pay237_at : shapeCast S512x512 (k0_pay237 (shapeCast S1x512x512 X h) v) h2 = truncf .bf16 (addf (extf .f32 X bitsLt_bf16_f32) Y) bitsLt_bf16_f32 := by
  unfold k0_pay237 k0_pay233
  simp only [cast_cast, hv]

theorem pay239_at : shapeCast S512x512 (k0_pay239 (k0_pay238 (shapeCast S1x512x512 X h) v)) h2 = truncf .bf16 (addf (extf .f32 X bitsLt_bf16_f32) Y) bitsLt_bf16_f32 := by
  unfold k0_pay239 k0_pay238 k0_pay234
  simp only [cast_cast, hv]

theorem pay235_at : k0_pay235 (shapeCast S1x512x512 X h) v = shapeCast S1x512x512 (addf (extf .f32 X bitsLt_bf16_f32) Y) h := by
  unfold k0_pay235 k0_pay233
  simp only [cast_cast, hv]

theorem pay236_at : k0_pay236 (shapeCast S1x512x512 X h) v = shapeCast S1x512x512 (addf (extf .f32 X bitsLt_bf16_f32) Y) h := by
  unfold k0_pay236 k0_pay234
  simp only [cast_cast, hv]

omit hv
theorem pay240_at : k0_pay240 (shapeCast S1x512x512 X h) = shapeCast S1x512x512 (extf .f32 X bitsLt_bf16_f32) h := by
  unfold k0_pay240
  simp only [cast_cast]

theorem pay241_at : k0_pay241 (shapeCast S1x512x512 X h) = shapeCast S1x512x512 (extf .f32 X bitsLt_bf16_f32) h := by
  unfold k0_pay241
  simp only [cast_cast]

theorem pay242_at : k0_pay242 (shapeCast S1x512x512 X h) = shapeCast S1x512x512 (extf .f32 X bitsLt_bf16_f32) h := by
  unfold k0_pay242
  simp only [cast_cast]

theorem pay243_at : k0_pay243 (shapeCast S1x512x512 X h) = shapeCast S1x512x512 (extf .f32 X bitsLt_bf16_f32) h := by
  unfold k0_pay243
  simp only [cast_cast]

theorem pay244_at : k0_pay244 (shapeCast S1x512x512 X h) = shapeCast S1x512x512 (extf .f32 X bitsLt_bf16_f32) h := by
  unfold k0_pay244
  simp only [cast_cast]

theorem pay245_at : k0_pay245 (shapeCast S1x512x512 X h) = shapeCast S1x512x512 (extf .f32 X bitsLt_bf16_f32) h := by
  unfold k0_pay245
  simp only [cast_cast]

end

/-! ### The finished output -/

theorem half_mem (g : Fin 4) (r : Bool) {o : Fin 3 → ℕ} {inb : ∀ a, o a + S1x512x512.size a ≤ S1x2048x1024.size a} (h : o = ![0, 512 * g.val, 512 * r.toNat])
    (y : S1x2048x1024.Idx) (h1 : (y 1).val / 512 = g.val) (h2 : (y 2).val / 512 = r.toNat) :
    y ∈ (Rect.unit (s := S1x2048x1024) o S1x512x512.size inb).set := by
  have h0 : (y 0).val < 1 := (y 0).isLt
  rw [Rect.mem_set_unit, h]
  intro a
  fin_cases a
  · exact ⟨Nat.zero_le _, h0⟩
  · show 512 * g.val ≤ (y 1).val ∧ (y 1).val < 512 * g.val + 512
    omega
  · show 512 * r.toNat ≤ (y 2).val ∧ (y 2).val < 512 * r.toNat + 512
    omega

theorem half_emb {R : S1x2048x1024.Idx → F .f32} {o : Fin 3 → ℕ} {w : S1x512x512.Idx → F .f32}
    {inb : ∀ a, o a + S1x512x512.size a ≤ S1x2048x1024.size a}
    (k : ∀ (j : S1x512x512.Idx) (i : S1x2048x1024.Idx), (∀ a, (i a : Nat) = o a + (j a).val) → w j = R i)
    (x : S1x512x512.Idx) : w x = R ((Rect.unit (s := S1x2048x1024) o S1x512x512.size inb).emb x) :=
  k x _ fun a => by
    rw [Rect.emb_apply]
    show o a + 1 * (x a).val = o a + (x a).val
    rw [Nat.one_mul]

/-- One half of a chunk, as stored at the end. -/
theorem result_piece (P : Dev nD → FVec F S1x2048x1024 .f32) (c g : Dev nD) (r : Bool) {o : Fin 3 → ℕ} (ho : o = ![0, 512 * g.val, 512 * r.toNat])
    {w : FVec F S1x512x512 .f32} (h : S512x512.ShapeCasts S1x512x512) (hw : w = shapeCast S1x512x512 (final P r c (peer (!r) g)) h)
    (j : S1x512x512.Idx) (i : S1x2048x1024.Idx) (hi : ∀ a, (i a : Nat) = o a + (j a).val) : w j = result P c i := by
  subst ho hw
  have h1 : (j 1).val < 512 := (j 1).isLt
  have h2 : (j 2).val < 512 := (j 2).isLt
  have hi1 : (i 1).val = 512 * g.val + (j 1).val := hi 1
  have hi2 : (i 2).val = 512 * r.toNat + (j 2).val := hi 2
  refine (cast_up (ε := .f32) _ h j).trans ?_
  unfold result
  have er : decide (512 ≤ (i 2).val) = r := by
    cases r
    · rw [Bool.toNat_false] at hi2; exact decide_eq_false (by omega)
    · rw [Bool.toNat_true] at hi2; exact decide_eq_true (by omega)
  have eg : (⟨(i 1).val / 512, by have := (i 1).isLt; change (i 1).val < 2048 at this; show _ < 4; omega⟩ : Dev nD) = g := Fin.ext (by show (i 1).val / 512 = g.val; omega)
  rw [er, eg]
  congr 1
  funext a
  refine Fin.ext ?_
  fin_cases a
  · show (j 1).val = (i 1).val % 512
    omega
  · show (j 2).val = (i 2).val % 512
    cases r
    · rw [Bool.toNat_false] at hi2; omega
    · rw [Bool.toNat_true] at hi2; omega

/-- Eight halves fill the output buffer. -/
theorem tile_view {sp : Space} (u : View sig .tc sp S1x2048x1024 .f32) (f : u.ty.Contents (Elt F)) (R : S1x2048x1024.Idx → F .f32)
    {o0 : Fin 3 → ℕ} {w0 : S1x512x512.Idx → F .f32} {i0 : ∀ a, o0 a + S1x512x512.size a ≤ S1x2048x1024.size a} (g0 : Fin 4) (h0 : o0 = ![0, 512 * g0.val, 512 * false.toNat])
    (k0 : ∀ (j : S1x512x512.Idx) (i : S1x2048x1024.Idx), (∀ a, (i a : Nat) = o0 a + (j a).val) → w0 j = R i)
    {o1 : Fin 3 → ℕ} {w1 : S1x512x512.Idx → F .f32} {i1 : ∀ a, o1 a + S1x512x512.size a ≤ S1x2048x1024.size a} (g1 : Fin 4) (h1 : o1 = ![0, 512 * g1.val, 512 * true.toNat])
    (k1 : ∀ (j : S1x512x512.Idx) (i : S1x2048x1024.Idx), (∀ a, (i a : Nat) = o1 a + (j a).val) → w1 j = R i)
    {o2 : Fin 3 → ℕ} {w2 : S1x512x512.Idx → F .f32} {i2 : ∀ a, o2 a + S1x512x512.size a ≤ S1x2048x1024.size a} (g2 : Fin 4) (h2 : o2 = ![0, 512 * g2.val, 512 * false.toNat])
    (k2 : ∀ (j : S1x512x512.Idx) (i : S1x2048x1024.Idx), (∀ a, (i a : Nat) = o2 a + (j a).val) → w2 j = R i)
    {o3 : Fin 3 → ℕ} {w3 : S1x512x512.Idx → F .f32} {i3 : ∀ a, o3 a + S1x512x512.size a ≤ S1x2048x1024.size a} (g3 : Fin 4) (h3 : o3 = ![0, 512 * g3.val, 512 * true.toNat])
    (k3 : ∀ (j : S1x512x512.Idx) (i : S1x2048x1024.Idx), (∀ a, (i a : Nat) = o3 a + (j a).val) → w3 j = R i)
    {o4 : Fin 3 → ℕ} {w4 : S1x512x512.Idx → F .f32} {i4 : ∀ a, o4 a + S1x512x512.size a ≤ S1x2048x1024.size a} (g4 : Fin 4) (h4 : o4 = ![0, 512 * g4.val, 512 * false.toNat])
    (k4 : ∀ (j : S1x512x512.Idx) (i : S1x2048x1024.Idx), (∀ a, (i a : Nat) = o4 a + (j a).val) → w4 j = R i)
    {o5 : Fin 3 → ℕ} {w5 : S1x512x512.Idx → F .f32} {i5 : ∀ a, o5 a + S1x512x512.size a ≤ S1x2048x1024.size a} (g5 : Fin 4) (h5 : o5 = ![0, 512 * g5.val, 512 * true.toNat])
    (k5 : ∀ (j : S1x512x512.Idx) (i : S1x2048x1024.Idx), (∀ a, (i a : Nat) = o5 a + (j a).val) → w5 j = R i)
    {o6 : Fin 3 → ℕ} {w6 : S1x512x512.Idx → F .f32} {i6 : ∀ a, o6 a + S1x512x512.size a ≤ S1x2048x1024.size a} (g6 : Fin 4) (h6 : o6 = ![0, 512 * g6.val, 512 * false.toNat])
    (k6 : ∀ (j : S1x512x512.Idx) (i : S1x2048x1024.Idx), (∀ a, (i a : Nat) = o6 a + (j a).val) → w6 j = R i)
    {o7 : Fin 3 → ℕ} {w7 : S1x512x512.Idx → F .f32} {i7 : ∀ a, o7 a + S1x512x512.size a ≤ S1x2048x1024.size a} (g7 : Fin 4) (h7 : o7 = ![0, 512 * g7.val, 512 * true.toNat])
    (k7 : ∀ (j : S1x512x512.Idx) (i : S1x2048x1024.Idx), (∀ a, (i a : Nat) = o7 a + (j a).val) → w7 j = R i)
    (hf : ∀ g : Fin 4, g = g0 ∨ g = g2 ∨ g = g4 ∨ g = g6) (ht : ∀ g : Fin 4, g = g1 ∨ g = g3 ∨ g = g5 ∨ g = g7) :
    u.read (Elt F) (u.writes (Elt F) f [⟨Rect.unit (s := S1x2048x1024) o7 S1x512x512.size i7, w7⟩,
      ⟨Rect.unit (s := S1x2048x1024) o6 S1x512x512.size i6, w6⟩,
      ⟨Rect.unit (s := S1x2048x1024) o5 S1x512x512.size i5, w5⟩,
      ⟨Rect.unit (s := S1x2048x1024) o4 S1x512x512.size i4, w4⟩,
      ⟨Rect.unit (s := S1x2048x1024) o3 S1x512x512.size i3, w3⟩,
      ⟨Rect.unit (s := S1x2048x1024) o2 S1x512x512.size i2, w2⟩,
      ⟨Rect.unit (s := S1x2048x1024) o1 S1x512x512.size i1, w1⟩,
      ⟨Rect.unit (s := S1x2048x1024) o0 S1x512x512.size i0, w0⟩]) = R := by
  funext y
  have hy1 : (y 1).val < 2048 := (y 1).isLt
  have hy2 : (y 2).val < 1024 := (y 2).isLt
  refine View.read_writes_apply_of_pieces u f R _ (agree_cons (half_emb k7) (agree_cons (half_emb k6) (agree_cons (half_emb k5) (agree_cons (half_emb k4) (agree_cons (half_emb k3) (agree_cons (half_emb k2) (agree_cons (half_emb k1) (agree_cons (half_emb k0) (agree_nil _))))))))) y ?_
  rcases Nat.lt_or_ge (y 2).val 512 with hy | hy
  · rcases hf ⟨(y 1).val / 512, by omega⟩ with e | e | e | e <;> (have e1 := congrArg Fin.val e)
    · exact ⟨⟨Rect.unit (s := S1x2048x1024) o0 S1x512x512.size i0, w0⟩, List.mem_cons_of_mem _ (List.mem_cons_of_mem _ (List.mem_cons_of_mem _ (List.mem_cons_of_mem _ (List.mem_cons_of_mem _ (List.mem_cons_of_mem _ (List.mem_cons_of_mem _ (List.mem_cons_self))))))), half_mem g0 false (inb := i0) h0 y e1 (by rw [Bool.toNat_false]; omega)⟩
    · exact ⟨⟨Rect.unit (s := S1x2048x1024) o2 S1x512x512.size i2, w2⟩, List.mem_cons_of_mem _ (List.mem_cons_of_mem _ (List.mem_cons_of_mem _ (List.mem_cons_of_mem _ (List.mem_cons_of_mem _ (List.mem_cons_self))))), half_mem g2 false (inb := i2) h2 y e1 (by rw [Bool.toNat_false]; omega)⟩
    · exact ⟨⟨Rect.unit (s := S1x2048x1024) o4 S1x512x512.size i4, w4⟩, List.mem_cons_of_mem _ (List.mem_cons_of_mem _ (List.mem_cons_of_mem _ (List.mem_cons_self))), half_mem g4 false (inb := i4) h4 y e1 (by rw [Bool.toNat_false]; omega)⟩
    · exact ⟨⟨Rect.unit (s := S1x2048x1024) o6 S1x512x512.size i6, w6⟩, List.mem_cons_of_mem _ (List.mem_cons_self), half_mem g6 false (inb := i6) h6 y e1 (by rw [Bool.toNat_false]; omega)⟩
  · rcases ht ⟨(y 1).val / 512, by omega⟩ with e | e | e | e <;> (have e1 := congrArg Fin.val e)
    · exact ⟨⟨Rect.unit (s := S1x2048x1024) o1 S1x512x512.size i1, w1⟩, List.mem_cons_of_mem _ (List.mem_cons_of_mem _ (List.mem_cons_of_mem _ (List.mem_cons_of_mem _ (List.mem_cons_of_mem _ (List.mem_cons_of_mem _ (List.mem_cons_self)))))), half_mem g1 true (inb := i1) h1 y e1 (by rw [Bool.toNat_true]; omega)⟩
    · exact ⟨⟨Rect.unit (s := S1x2048x1024) o3 S1x512x512.size i3, w3⟩, List.mem_cons_of_mem _ (List.mem_cons_of_mem _ (List.mem_cons_of_mem _ (List.mem_cons_of_mem _ (List.mem_cons_self)))), half_mem g3 true (inb := i3) h3 y e1 (by rw [Bool.toNat_true]; omega)⟩
    · exact ⟨⟨Rect.unit (s := S1x2048x1024) o5 S1x512x512.size i5, w5⟩, List.mem_cons_of_mem _ (List.mem_cons_of_mem _ (List.mem_cons_self)), half_mem g5 true (inb := i5) h5 y e1 (by rw [Bool.toNat_true]; omega)⟩
    · exact ⟨⟨Rect.unit (s := S1x2048x1024) o7 S1x512x512.size i7, w7⟩, List.mem_cons_self, half_mem g7 true (inb := i7) h7 y e1 (by rw [Bool.toNat_true]; omega)⟩

theorem tiles (f : (cc0_stg5_0 : Ref sig .tc).ty.Contents (Elt F)) (R : S1x2048x1024.Idx → F .f32)
    {o0 : Fin 3 → ℕ} {w0 : S1x512x512.Idx → F .f32} {i0 : ∀ a, o0 a + S1x512x512.size a ≤ S1x2048x1024.size a} (g0 : Fin 4) (h0 : o0 = ![0, 512 * g0.val, 512 * false.toNat])
    (k0 : ∀ (j : S1x512x512.Idx) (i : S1x2048x1024.Idx), (∀ a, (i a : Nat) = o0 a + (j a).val) → w0 j = R i)
    {o1 : Fin 3 → ℕ} {w1 : S1x512x512.Idx → F .f32} {i1 : ∀ a, o1 a + S1x512x512.size a ≤ S1x2048x1024.size a} (g1 : Fin 4) (h1 : o1 = ![0, 512 * g1.val, 512 * true.toNat])
    (k1 : ∀ (j : S1x512x512.Idx) (i : S1x2048x1024.Idx), (∀ a, (i a : Nat) = o1 a + (j a).val) → w1 j = R i)
    {o2 : Fin 3 → ℕ} {w2 : S1x512x512.Idx → F .f32} {i2 : ∀ a, o2 a + S1x512x512.size a ≤ S1x2048x1024.size a} (g2 : Fin 4) (h2 : o2 = ![0, 512 * g2.val, 512 * false.toNat])
    (k2 : ∀ (j : S1x512x512.Idx) (i : S1x2048x1024.Idx), (∀ a, (i a : Nat) = o2 a + (j a).val) → w2 j = R i)
    {o3 : Fin 3 → ℕ} {w3 : S1x512x512.Idx → F .f32} {i3 : ∀ a, o3 a + S1x512x512.size a ≤ S1x2048x1024.size a} (g3 : Fin 4) (h3 : o3 = ![0, 512 * g3.val, 512 * true.toNat])
    (k3 : ∀ (j : S1x512x512.Idx) (i : S1x2048x1024.Idx), (∀ a, (i a : Nat) = o3 a + (j a).val) → w3 j = R i)
    {o4 : Fin 3 → ℕ} {w4 : S1x512x512.Idx → F .f32} {i4 : ∀ a, o4 a + S1x512x512.size a ≤ S1x2048x1024.size a} (g4 : Fin 4) (h4 : o4 = ![0, 512 * g4.val, 512 * false.toNat])
    (k4 : ∀ (j : S1x512x512.Idx) (i : S1x2048x1024.Idx), (∀ a, (i a : Nat) = o4 a + (j a).val) → w4 j = R i)
    {o5 : Fin 3 → ℕ} {w5 : S1x512x512.Idx → F .f32} {i5 : ∀ a, o5 a + S1x512x512.size a ≤ S1x2048x1024.size a} (g5 : Fin 4) (h5 : o5 = ![0, 512 * g5.val, 512 * true.toNat])
    (k5 : ∀ (j : S1x512x512.Idx) (i : S1x2048x1024.Idx), (∀ a, (i a : Nat) = o5 a + (j a).val) → w5 j = R i)
    {o6 : Fin 3 → ℕ} {w6 : S1x512x512.Idx → F .f32} {i6 : ∀ a, o6 a + S1x512x512.size a ≤ S1x2048x1024.size a} (g6 : Fin 4) (h6 : o6 = ![0, 512 * g6.val, 512 * false.toNat])
    (k6 : ∀ (j : S1x512x512.Idx) (i : S1x2048x1024.Idx), (∀ a, (i a : Nat) = o6 a + (j a).val) → w6 j = R i)
    {o7 : Fin 3 → ℕ} {w7 : S1x512x512.Idx → F .f32} {i7 : ∀ a, o7 a + S1x512x512.size a ≤ S1x2048x1024.size a} (g7 : Fin 4) (h7 : o7 = ![0, 512 * g7.val, 512 * true.toNat])
    (k7 : ∀ (j : S1x512x512.Idx) (i : S1x2048x1024.Idx), (∀ a, (i a : Nat) = o7 a + (j a).val) → w7 j = R i)
    (hf : ∀ g : Fin 4, g = g0 ∨ g = g2 ∨ g = g4 ∨ g = g6) (ht : ∀ g : Fin 4, g = g1 ∨ g = g3 ∨ g = g5 ∨ g = g7) :
    (Memref.whole cc0_stg5_0).view.writes (Elt F) f [⟨Rect.unit (s := S1x2048x1024) o7 S1x512x512.size i7, w7⟩,
      ⟨Rect.unit (s := S1x2048x1024) o6 S1x512x512.size i6, w6⟩,
      ⟨Rect.unit (s := S1x2048x1024) o5 S1x512x512.size i5, w5⟩,
      ⟨Rect.unit (s := S1x2048x1024) o4 S1x512x512.size i4, w4⟩,
      ⟨Rect.unit (s := S1x2048x1024) o3 S1x512x512.size i3, w3⟩,
      ⟨Rect.unit (s := S1x2048x1024) o2 S1x512x512.size i2, w2⟩,
      ⟨Rect.unit (s := S1x2048x1024) o1 S1x512x512.size i1, w1⟩,
      ⟨Rect.unit (s := S1x2048x1024) o0 S1x512x512.size i0, w0⟩] = R := by
  have e := tile_view (Memref.whole cc0_stg5_0).view f R (i0 := i0) g0 h0 k0 (i1 := i1) g1 h1 k1 (i2 := i2) g2 h2 k2 (i3 := i3) g3 h3 k3 (i4 := i4) g4 h4 k4 (i5 := i5) g5 h5 k5 (i6 := i6) g6 h6 k6 (i7 := i7) g7 h7 k7 hf ht
  exact of_read cc0_stg5_0 _ _ e

theorem chunks_cover (c : Dev nD) (n : ℕ) (h : n < 4) : n = c.val ∨ n = (c.val + 1 + 0) % 4 ∨ n = (c.val + 1 + 2) % 4 ∨ n = (c.val + 1 + 1) % 4 := by
  have hc : c.val < 4 := c.isLt
  omega

theorem final_self (P : Dev nD → FVec F S1x2048x1024 .f32) (d : Bool) {c e : Dev nD} (h : e = c) : final P d c e = sums P d 3 c := by
  subst h
  unfold final
  rw [if_pos rfl]

theorem final_ne (P : Dev nD → FVec F S1x2048x1024 .f32) (d : Bool) {c e : Dev nD} (h : e ≠ c) :
    final P d c e = extf .f32 (truncf .bf16 (sums P d 3 e) bitsLt_bf16_f32) bitsLt_bf16_f32 := by
  unfold final
  rw [if_neg h]

theorem prv4 : ∀ c : Dev nD, prv (prv (prv (prv c))) = c := by decide
theorem nxt4 : ∀ c : Dev nD, nxt (nxt (nxt (nxt c))) = c := by decide
theorem prv_ne : ∀ c : Dev nD, prv c ≠ c ∧ prv (prv c) ≠ c ∧ prv (prv (prv c)) ≠ c := by decide
theorem nxt_ne : ∀ c : Dev nD, nxt c ≠ c ∧ nxt (nxt c) ≠ c ∧ nxt (nxt (nxt c)) ≠ c := by decide
theorem prv_cover : ∀ c g : Dev nD, g = prv (prv (prv c)) ∨ g = c ∨ g = prv c ∨ g = prv (prv c) := by decide
theorem nxt_cover : ∀ c g : Dev nD, g = nxt (nxt (nxt c)) ∨ g = c ∨ g = nxt c ∨ g = nxt (nxt c) := by decide

/-! ### Opening what the exchange starts from -/

instance (d0 : Dev nD) : ClosedOff (k0_off6 d0 1#32 0#32) := ⟨_, off6_eq d0 0 0⟩
instance (d0 : Dev nD) : ClosedOff (k0_off6 d0 1#32 64#32) := ⟨_, off6_eq d0 0 1⟩
instance (d0 : Dev nD) : ClosedOff (k0_off6 d0 1#32 128#32) := ⟨_, off6_eq d0 0 2⟩
instance (d0 : Dev nD) : ClosedOff (k0_off6 d0 1#32 192#32) := ⟨_, off6_eq d0 0 3⟩
instance (d0 : Dev nD) : ClosedOff (k0_off6 d0 1#32 256#32) := ⟨_, off6_eq d0 0 4⟩
instance (d0 : Dev nD) : ClosedOff (k0_off6 d0 1#32 320#32) := ⟨_, off6_eq d0 0 5⟩
instance (d0 : Dev nD) : ClosedOff (k0_off6 d0 1#32 384#32) := ⟨_, off6_eq d0 0 6⟩
instance (d0 : Dev nD) : ClosedOff (k0_off6 d0 1#32 448#32) := ⟨_, off6_eq d0 0 7⟩
instance (d0 : Dev nD) : ClosedOff (k0_off6 d0 2#32 0#32) := ⟨_, off6_eq d0 1 0⟩
instance (d0 : Dev nD) : ClosedOff (k0_off6 d0 2#32 64#32) := ⟨_, off6_eq d0 1 1⟩
instance (d0 : Dev nD) : ClosedOff (k0_off6 d0 2#32 128#32) := ⟨_, off6_eq d0 1 2⟩
instance (d0 : Dev nD) : ClosedOff (k0_off6 d0 2#32 192#32) := ⟨_, off6_eq d0 1 3⟩
instance (d0 : Dev nD) : ClosedOff (k0_off6 d0 2#32 256#32) := ⟨_, off6_eq d0 1 4⟩
instance (d0 : Dev nD) : ClosedOff (k0_off6 d0 2#32 320#32) := ⟨_, off6_eq d0 1 5⟩
instance (d0 : Dev nD) : ClosedOff (k0_off6 d0 2#32 384#32) := ⟨_, off6_eq d0 1 6⟩
instance (d0 : Dev nD) : ClosedOff (k0_off6 d0 2#32 448#32) := ⟨_, off6_eq d0 1 7⟩
instance (d0 : Dev nD) : ClosedOff (k0_off6 d0 3#32 0#32) := ⟨_, off6_eq d0 2 0⟩
instance (d0 : Dev nD) : ClosedOff (k0_off6 d0 3#32 64#32) := ⟨_, off6_eq d0 2 1⟩
instance (d0 : Dev nD) : ClosedOff (k0_off6 d0 3#32 128#32) := ⟨_, off6_eq d0 2 2⟩
instance (d0 : Dev nD) : ClosedOff (k0_off6 d0 3#32 192#32) := ⟨_, off6_eq d0 2 3⟩
instance (d0 : Dev nD) : ClosedOff (k0_off6 d0 3#32 256#32) := ⟨_, off6_eq d0 2 4⟩
instance (d0 : Dev nD) : ClosedOff (k0_off6 d0 3#32 320#32) := ⟨_, off6_eq d0 2 5⟩
instance (d0 : Dev nD) : ClosedOff (k0_off6 d0 3#32 384#32) := ⟨_, off6_eq d0 2 6⟩
instance (d0 : Dev nD) : ClosedOff (k0_off6 d0 3#32 448#32) := ⟨_, off6_eq d0 2 7⟩

theorem dst_credit_src (d : Bool) (i : Fin 6) : (srcSlot d i).view.dmaCredit = N := by
  cases d <;> fin_cases i <;> rfl

theorem slotsAt_open (d : Bool) (e : Dev nD) : (slotsAt d e : sProp 𝕄) ⊢ iprop(land d 0 e ∗ land d 1 e ∗ land d 2 e ∗ land d 3 e ∗ land d 4 e ∗ land d 5 e) :=
  Entails.of_eq rfl

/-- What is still owed, hop by hop. -/
theorem debt_6 (c : Dev nD) : debt c 6 = debt c 5 + tallyAt (rCell true 0 (peer true c)) () N + tallyAt (rCell false 0 (peer false c)) () N := rfl
theorem debt_5 (c : Dev nD) : debt c 5 = debt c 4 + tallyAt (rCell true 1 (peer true c)) () N + tallyAt (rCell false 1 (peer false c)) () N := rfl
theorem debt_4 (c : Dev nD) : debt c 4 = debt c 3 + tallyAt (rCell true 2 (peer true c)) () N + tallyAt (rCell false 2 (peer false c)) () N := rfl
theorem debt_3 (c : Dev nD) : debt c 3 = debt c 2 + tallyAt (rCell true 3 (peer true c)) () N + tallyAt (rCell false 3 (peer false c)) () N := rfl
theorem debt_2 (c : Dev nD) : debt c 2 = debt c 1 + tallyAt (rCell true 4 (peer true c)) () N + tallyAt (rCell false 4 (peer false c)) () N := rfl
theorem debt_1 (c : Dev nD) : debt c 1 = debt c 0 + tallyAt (rCell true 5 (peer true c)) () N + tallyAt (rCell false 5 (peer false c)) () N := rfl

end Cert.KernelIdeal.Ring
end
-- ==== Proof.Ring.RunB.lean ====
module

public import proofs.«01_k».proof.Proof.Ring.RunA
public import proofs.«01_k».proof.Proof.Ring.Out

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- What the exchange starts from on device `c`: the shared records, what it owes, its neighbours' barrier tokens, its own slots, its barrier credit
    and position, and every hop's. -/
def start (P : Dev nD → FVec F S1x2048x1024 .f32) (κ : GSem nD τ sig → ℕ) (c : Dev nD) : sProp 𝕄 :=
  iprop(records (sent P) κ ∗ owing c (O₀ c)
    ∗ (dutyTok ER (barCell (prv c)) 0 false ∗ dutyTok ER (barCell (nxt c)) 0 true ∗ slotsAt false c ∗ slotsAt true c
      ∗ cred (tallyAt (barCell c) () 2) ∗ atPos ER (barCell c) 0 ∅ 0)
    ∗ (some_ c (srcSlot false 0) ∗ some_ c (srcSlot true 0) ∗ some_ c (srcSlot false 1) ∗ some_ c (srcSlot true 1)
      ∗ some_ c (srcSlot false 2) ∗ some_ c (srcSlot true 2) ∗ some_ c (srcSlot false 3) ∗ some_ c (srcSlot true 3))
    ∗ (hop false 0 c ∗ hop true 0 c ∗ hop false 1 c ∗ hop true 1 c ∗ hop false 2 c ∗ hop true 2 c
      ∗ hop false 3 c ∗ hop true 3 c ∗ hop false 4 c ∗ hop true 4 c ∗ hop false 5 c ∗ hop true 5 c))

set_option maxHeartbeats 400000 in
/-- The device's own chunk of its partial product. -/
def runB (c : Dev nD) (x : (cc0_stg0_0 : Ref sig .tc).ty.Contents (Elt F)) (w : (cc0_stg1_0 : Ref sig .tc).ty.Contents (Elt F))
    (k : (cc0_stg2_0 : Ref sig .tc).ty.Contents (Elt F)) (v : (cc0_stg3_0 : Ref sig .tc).ty.Contents (Elt F)) (o : (cc0_stg4_0 : Ref sig .tc).ty.Contents (Elt F))
    (f5 : (cc0_stg5_0 : Ref sig .tc).ty.Contents (Elt F))
    (g0 : (cc0_scratch0 : Ref sig .tc).ty.Contents (Elt F)) (g1 : (cc0_scratch1 : Ref sig .tc).ty.Contents (Elt F))
    (g2 : (cc0_scratch2 : Ref sig .tc).ty.Contents (Elt F)) (g3 : (cc0_scratch3 : Ref sig .tc).ty.Contents (Elt F))
    (g4 : (cc0_scratch4 : Ref sig .tc).ty.Contents (Elt F)) (g5 : (cc0_scratch5 : Ref sig .tc).ty.Contents (Elt F))
    (g6 : (cc0_scratch6 : Ref sig .tc).ty.Contents (Elt F)) (P : Dev nD → FVec F S1x2048x1024 .f32) (κ : GSem nD τ sig → ℕ) (Kt : PUnit → sProp 𝕄)
    (hP : P c = part (ctx (regroup (qAll x w)) (regroup k) (regroup v)) o) :
    Σ' (G : Prop), G → (runA c x w k v o f5 g0 g1 g2 g3 g4 g5 g6 (start P κ c) Kt).1 := by
  sl_stretch
  sl_resume
  set_option sl_exec.maxSteps 23 in sl_exec
  rw [chunk_rows f5 (part (ctx (regroup (qAll x w)) (regroup k) (regroup v)) o) c.val (show k0_off2 c 0#32 = ![0, 512 * c.val + 64 * 0, 0] from k0_off2_eq c 0) ?_
    (show k0_off2 c 64#32 = ![0, 512 * c.val + 64 * 1, 0] from k0_off2_eq c 1) ?_
    (show k0_off2 c 128#32 = ![0, 512 * c.val + 64 * 2, 0] from k0_off2_eq c 2) ?_
    (show k0_off2 c 192#32 = ![0, 512 * c.val + 64 * 3, 0] from k0_off2_eq c 3) ?_
    (show k0_off2 c 256#32 = ![0, 512 * c.val + 64 * 4, 0] from k0_off2_eq c 4) ?_
    (show k0_off2 c 320#32 = ![0, 512 * c.val + 64 * 5, 0] from k0_off2_eq c 5) ?_
    (show k0_off2 c 384#32 = ![0, 512 * c.val + 64 * 6, 0] from k0_off2_eq c 6) ?_
    (show k0_off2 c 448#32 = ![0, 512 * c.val + 64 * 7, 0] from k0_off2_eq c 7) ?_]
  rotate_left
  · intro j i hji
    sl_unfold_run_names
    exact part_read c.val 0 c.isLt (readAt_all cc0_scratch4 _ (by decide) _) (readAt_all cc0_scratch6 o (by decide) _) (by decide) (by decide) (by decide) j i hji
  · intro j i hji
    sl_unfold_run_names
    exact part_read c.val 1 c.isLt (readAt_all cc0_scratch4 _ (by decide) _) (readAt_all cc0_scratch6 o (by decide) _) (by decide) (by decide) (by decide) j i hji
  · intro j i hji
    sl_unfold_run_names
    exact part_read c.val 2 c.isLt (readAt_all cc0_scratch4 _ (by decide) _) (readAt_all cc0_scratch6 o (by decide) _) (by decide) (by decide) (by decide) j i hji
  · intro j i hji
    sl_unfold_run_names
    exact part_read c.val 3 c.isLt (readAt_all cc0_scratch4 _ (by decide) _) (readAt_all cc0_scratch6 o (by decide) _) (by decide) (by decide) (by decide) j i hji
  · intro j i hji
    sl_unfold_run_names
    exact part_read c.val 4 c.isLt (readAt_all cc0_scratch4 _ (by decide) _) (readAt_all cc0_scratch6 o (by decide) _) (by decide) (by decide) (by decide) j i hji
  · intro j i hji
    sl_unfold_run_names
    exact part_read c.val 5 c.isLt (readAt_all cc0_scratch4 _ (by decide) _) (readAt_all cc0_scratch6 o (by decide) _) (by decide) (by decide) (by decide) j i hji
  · intro j i hji
    sl_unfold_run_names
    exact part_read c.val 6 c.isLt (readAt_all cc0_scratch4 _ (by decide) _) (readAt_all cc0_scratch6 o (by decide) _) (by decide) (by decide) (by decide) j i hji
  · intro j i hji
    sl_unfold_run_names
    exact part_read c.val 7 c.isLt (readAt_all cc0_scratch4 _ (by decide) _) (readAt_all cc0_scratch6 o (by decide) _) (by decide) (by decide) (by decide) j i hji
  rw [← hP]
  unfold start
  icases HR with ⟨#Hrec, HO, ⟨Htp, Htn, Hsf, Hst, Hcb, Hab⟩, ⟨Hf0, Ht0, Hsrc⟩, ⟨Hhf0, Hht0, Hhop⟩⟩
  sl_exec
  have hA : ∀ h2, shapeCast S512x512 (k0_pay182 (View.readAt (Elt F) (Memref.whole cc0_stg5_0).view (Rect.unit (s := S1x2048x1024) (k0_off3 c) S1x512x512.size (k0_off3_inb c)).toLoadRect
      (withChunk c.val (P c) f5))) h2 = sent P false 0 c := fun h2 =>
    pay182_at (fun _ => out_read (P c) _ c false (k0_off3_eq c) _ (fun i hi => chunk_same _ _ _ i hi) _) h2
  have hB : ∀ h2, shapeCast S512x512 (k0_pay183 (View.readAt (Elt F) (Memref.whole cc0_stg5_0).view (Rect.unit (s := S1x2048x1024) (k0_off4 c) S1x512x512.size (k0_off4_inb c)).toLoadRect
      (withChunk c.val (P c) f5))) h2 = sent P true 0 c := fun h2 =>
    pay183_at (fun _ => out_read (P c) _ c true (k0_off4_eq c) _ (fun i hi => chunk_same _ _ _ i hi) _) h2
  iapply (step_peek _ c (Memref.whole cc0_scratch7) (Rect.unit (s := S4x512x512) ![0, 0, 0] S1x512x512.size inb_S4x512x512_S1x512x512_0_0_0) (fun _ => rfl) squeezes_S1x512x512_S512x512 rfl shapeCasts_S512x512_S1x512x512) $$ Hf0
  iintro %v1 Hf0
  sl_rw [Prog.bind_lift]
  iapply (step_store _ c (Memref.whole cc0_scratch7) (Rect.unit (s := S4x512x512) ![0, 0, 0] S1x512x512.size inb_S4x512x512_S1x512x512_0_0_0) (fun _ => rfl) squeezes_S1x512x512_S512x512 rfl (sent P false 0 c) _ shapeCasts_S1x512x512_S512x512 (hA _)) $$ Hf0
  iintro Hf0
  sl_exec
  iapply (step_peek _ c (Memref.whole cc0_scratch8) (Rect.unit (s := S4x512x512) ![0, 0, 0] S1x512x512.size inb_S4x512x512_S1x512x512_0_0_0) (fun _ => rfl) squeezes_S1x512x512_S512x512 rfl shapeCasts_S512x512_S1x512x512) $$ Ht0
  iintro %v2 Ht0
  sl_rw [Prog.bind_lift]
  iapply (step_store _ c (Memref.whole cc0_scratch8) (Rect.unit (s := S4x512x512) ![0, 0, 0] S1x512x512.size inb_S4x512x512_S1x512x512_0_0_0) (fun _ => rfl) squeezes_S1x512x512_S512x512 rfl (sent P true 0 c) _ shapeCasts_S1x512x512_S512x512 (hB _)) $$ Ht0
  iintro Ht0
  sl_exec
  iapply (step_signal (sent P) _ κ c _ true (dev1_eq c) (O₀ c) (debt c 6 + tallyAt (barCell (nxt c)) () 1) rfl) $$ [HO Htp Hsf]
  · isplitr
    · iexact Hrec
    isplitl [HO]
    · iexact HO
    isplitl [Htp]
    · iexact Htp
    iexact Hsf
  iintro HO
  sl_exec
  iapply (step_signal (sent P) _ κ c _ false (dev2_eq c) (debt c 6 + tallyAt (barCell (nxt c)) () 1) (debt c 6) rfl) $$ [HO Htn Hst]
  · isplitr
    · iexact Hrec
    isplitl [HO]
    · iexact HO
    isplitl [Htn]
    · iexact Htn
    iexact Hst
  iintro HO
  sl_exec
  iapply (step_barrier (sent P) _ κ c) $$ [HO Hcb Hab]
  · isplitr
    · iexact Hrec
    isplitl [HO]
    · iexact HO
    isplitl [Hcb]
    · iexact Hcb
    iexact Hab
  iintro ⟨HO, Hab, HLf, HLt⟩
  ihave HLf := (slotsAt_open false (nxt c)) $$ HLf
  ihave HLt := (slotsAt_open true (prv c)) $$ HLt
  icases HLf with ⟨Hlf0, HLf⟩
  icases HLt with ⟨Hlt0, HLt⟩
  sl_exec
  iapply (step_send (sent P) _ κ c _ false 0 (dev3_eq c) rfl rfl rfl rfl (debt c 5 + tallyAt (rCell true 0 (peer true c)) () N) (debt_6 c)) $$ [HO Hhf0 Hf0 Hlf0]
  · isplitr
    · iexact Hrec
    isplitl [HO]
    · iexact HO
    isplitl [Hhf0]
    · iexact Hhf0
    isplitl [Hf0]
    · iexact Hf0
    iexact Hlf0
  iintro ⟨HO, Hff0⟩
  sl_exec
  iapply (step_send (sent P) _ κ c _ true 0 (dev4_eq c) rfl rfl rfl rfl (debt c 5) rfl) $$ [HO Hht0 Ht0 Hlt0]
  · isplitr
    · iexact Hrec
    isplitl [HO]
    · iexact HO
    isplitl [Hht0]
    · iexact Hht0
    isplitl [Ht0]
    · iexact Ht0
    iexact Hlt0
  iintro ⟨HO, Hft0⟩
  sl_seam

end Cert.KernelIdeal.Ring
end
-- ==== Proof.Ring.RunC.lean ====
module

public import proofs.«01_k».proof.Proof.Ring.RunB

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

set_option maxHeartbeats 4000000 in
/-- The chunks of both neighbours, with the first hop under way, and its end. -/
def runC (c : Dev nD) (x : (cc0_stg0_0 : Ref sig .tc).ty.Contents (Elt F)) (w : (cc0_stg1_0 : Ref sig .tc).ty.Contents (Elt F))
    (k : (cc0_stg2_0 : Ref sig .tc).ty.Contents (Elt F)) (v : (cc0_stg3_0 : Ref sig .tc).ty.Contents (Elt F)) (o : (cc0_stg4_0 : Ref sig .tc).ty.Contents (Elt F))
    (f5 : (cc0_stg5_0 : Ref sig .tc).ty.Contents (Elt F))
    (g0 : (cc0_scratch0 : Ref sig .tc).ty.Contents (Elt F)) (g1 : (cc0_scratch1 : Ref sig .tc).ty.Contents (Elt F))
    (g2 : (cc0_scratch2 : Ref sig .tc).ty.Contents (Elt F)) (g3 : (cc0_scratch3 : Ref sig .tc).ty.Contents (Elt F))
    (g4 : (cc0_scratch4 : Ref sig .tc).ty.Contents (Elt F)) (g5 : (cc0_scratch5 : Ref sig .tc).ty.Contents (Elt F))
    (g6 : (cc0_scratch6 : Ref sig .tc).ty.Contents (Elt F)) (P : Dev nD → FVec F S1x2048x1024 .f32) (κ : GSem nD τ sig → ℕ) (Kt : PUnit → sProp 𝕄)
    (hP : P c = part (ctx (regroup (qAll x w)) (regroup k) (regroup v)) o) :
    Σ' (G : Prop), G → (runB c x w k v o f5 g0 g1 g2 g3 g4 g5 g6 P κ Kt hP).1 := by
  sl_stretch
  sl_resume
  set_option sl_exec.maxSteps 17 in sl_exec
  have rg : ∀ L : List (View.Piece (Elt F) (cc0_scratch4 : Ref sig .tc).ty.shape (cc0_scratch4 : Ref sig .tc).ty.elt), View.Piece.tiledL L S128x1024.size = true →
      Agree (F := F) (s := (cc0_scratch4 : Ref sig .tc).ty.shape) (e := (cc0_scratch4 : Ref sig .tc).ty.elt)
        (gath (ctx (regroup (qAll x w)) (regroup k) (regroup v)) ((c.val + 1 + 0) % 4) (Nat.mod_lt _ (by decide))) L →
      (Memref.whole cc0_scratch4).view.writes (Elt F) (gath (ctx (regroup (qAll x w)) (regroup k) (regroup v)) c.val c.isLt) L = gath (ctx (regroup (qAll x w)) (regroup k) (regroup v)) ((c.val + 1 + 0) % 4) (Nat.mod_lt _ (by decide)) :=
    fun L h h' => writes_eq cc0_scratch4 _ L _ S128x1024.size h h'
  rw [rg]
  rotate_left
  · sl_kernel_rfl
  · sl_unfold_run_names
    simp only [shapeCast_self, k0_pay184, k0_pay185, k0_pay186, k0_pay187]
    refine agree_cons (fun j => gath_piece (α := Elt F .bf16) _ ((c.val + 1 + 0) % 4) (Nat.mod_lt _ (by decide)) _ 3 _ rfl (show k0_off5 c 1536#32 1#32 = ![512 * 3 + 128 * ((c.val + 1 + 0) % 4), 0] from off5_eq c 3 0) _ _ j) ?_
    refine agree_cons (fun j => gath_piece (α := Elt F .bf16) _ ((c.val + 1 + 0) % 4) (Nat.mod_lt _ (by decide)) _ 2 _ rfl (show k0_off5 c 1024#32 1#32 = ![512 * 2 + 128 * ((c.val + 1 + 0) % 4), 0] from off5_eq c 2 0) _ _ j) ?_
    refine agree_cons (fun j => gath_piece (α := Elt F .bf16) _ ((c.val + 1 + 0) % 4) (Nat.mod_lt _ (by decide)) _ 1 _ rfl (show k0_off5 c 512#32 1#32 = ![512 * 1 + 128 * ((c.val + 1 + 0) % 4), 0] from off5_eq c 1 0) _ _ j) ?_
    refine agree_cons (fun j => gath_piece (α := Elt F .bf16) _ ((c.val + 1 + 0) % 4) (Nat.mod_lt _ (by decide)) _ 0 _ rfl (show k0_off5 c 0#32 1#32 = ![512 * 0 + 128 * ((c.val + 1 + 0) % 4), 0] from off5_eq c 0 0) _ _ j) ?_
    exact agree_nil _
  clear rg
  set_option sl_exec.stopBefore "k0_part41" in sl_exec
  sl_unfold_run_names
  rw [chunk_rows (withChunk c.val (P c) f5) (part (ctx (regroup (qAll x w)) (regroup k) (regroup v)) o) (((c.val + 1 + 0) % 4)) (show k0_off6 c 1#32 0#32 = ![0, 512 * ((c.val + 1 + 0) % 4) + 64 * 0, 0] from off6_eq c 0 0) ?_
    (show k0_off6 c 1#32 64#32 = ![0, 512 * ((c.val + 1 + 0) % 4) + 64 * 1, 0] from off6_eq c 0 1) ?_
    (show k0_off6 c 1#32 128#32 = ![0, 512 * ((c.val + 1 + 0) % 4) + 64 * 2, 0] from off6_eq c 0 2) ?_
    (show k0_off6 c 1#32 192#32 = ![0, 512 * ((c.val + 1 + 0) % 4) + 64 * 3, 0] from off6_eq c 0 3) ?_
    (show k0_off6 c 1#32 256#32 = ![0, 512 * ((c.val + 1 + 0) % 4) + 64 * 4, 0] from off6_eq c 0 4) ?_
    (show k0_off6 c 1#32 320#32 = ![0, 512 * ((c.val + 1 + 0) % 4) + 64 * 5, 0] from off6_eq c 0 5) ?_
    (show k0_off6 c 1#32 384#32 = ![0, 512 * ((c.val + 1 + 0) % 4) + 64 * 6, 0] from off6_eq c 0 6) ?_
    (show k0_off6 c 1#32 448#32 = ![0, 512 * ((c.val + 1 + 0) % 4) + 64 * 7, 0] from off6_eq c 0 7) ?_]
  rotate_left
  · intro j i hji
    exact part_read (((c.val + 1 + 0) % 4)) 0 (Nat.mod_lt _ (by decide)) (readAt_all cc0_scratch4 _ (by decide) _) (readAt_all cc0_scratch6 o (by decide) _) (by decide) (by decide) (by decide) j i hji
  · intro j i hji
    exact part_read (((c.val + 1 + 0) % 4)) 1 (Nat.mod_lt _ (by decide)) (readAt_all cc0_scratch4 _ (by decide) _) (readAt_all cc0_scratch6 o (by decide) _) (by decide) (by decide) (by decide) j i hji
  · intro j i hji
    exact part_read (((c.val + 1 + 0) % 4)) 2 (Nat.mod_lt _ (by decide)) (readAt_all cc0_scratch4 _ (by decide) _) (readAt_all cc0_scratch6 o (by decide) _) (by decide) (by decide) (by decide) j i hji
  · intro j i hji
    exact part_read (((c.val + 1 + 0) % 4)) 3 (Nat.mod_lt _ (by decide)) (readAt_all cc0_scratch4 _ (by decide) _) (readAt_all cc0_scratch6 o (by decide) _) (by decide) (by decide) (by decide) j i hji
  · intro j i hji
    exact part_read (((c.val + 1 + 0) % 4)) 4 (Nat.mod_lt _ (by decide)) (readAt_all cc0_scratch4 _ (by decide) _) (readAt_all cc0_scratch6 o (by decide) _) (by decide) (by decide) (by decide) j i hji
  · intro j i hji
    exact part_read (((c.val + 1 + 0) % 4)) 5 (Nat.mod_lt _ (by decide)) (readAt_all cc0_scratch4 _ (by decide) _) (readAt_all cc0_scratch6 o (by decide) _) (by decide) (by decide) (by decide) j i hji
  · intro j i hji
    exact part_read (((c.val + 1 + 0) % 4)) 6 (Nat.mod_lt _ (by decide)) (readAt_all cc0_scratch4 _ (by decide) _) (readAt_all cc0_scratch6 o (by decide) _) (by decide) (by decide) (by decide) j i hji
  · intro j i hji
    exact part_read (((c.val + 1 + 0) % 4)) 7 (Nat.mod_lt _ (by decide)) (readAt_all cc0_scratch4 _ (by decide) _) (readAt_all cc0_scratch6 o (by decide) _) (by decide) (by decide) (by decide) j i hji
  rw [← hP]
  set_option sl_exec.stopBefore "k0_part42" in sl_exec
  have rg : ∀ L : List (View.Piece (Elt F) (cc0_scratch4 : Ref sig .tc).ty.shape (cc0_scratch4 : Ref sig .tc).ty.elt), View.Piece.tiledL L S128x1024.size = true →
      Agree (F := F) (s := (cc0_scratch4 : Ref sig .tc).ty.shape) (e := (cc0_scratch4 : Ref sig .tc).ty.elt)
        (gath (ctx (regroup (qAll x w)) (regroup k) (regroup v)) ((c.val + 1 + 2) % 4) (Nat.mod_lt _ (by decide))) L →
      (Memref.whole cc0_scratch4).view.writes (Elt F) (gath (ctx (regroup (qAll x w)) (regroup k) (regroup v)) ((c.val + 1 + 0) % 4) (Nat.mod_lt _ (by decide))) L = gath (ctx (regroup (qAll x w)) (regroup k) (regroup v)) ((c.val + 1 + 2) % 4) (Nat.mod_lt _ (by decide)) :=
    fun L h h' => writes_eq cc0_scratch4 _ L _ S128x1024.size h h'
  rw [rg]
  rotate_left
  · sl_kernel_rfl
  · sl_unfold_run_names
    simp only [shapeCast_self, k0_pay198, k0_pay199, k0_pay200, k0_pay201]
    refine agree_cons (fun j => gath_piece (α := Elt F .bf16) _ ((c.val + 1 + 2) % 4) (Nat.mod_lt _ (by decide)) _ 3 _ rfl (show k0_off5 c 1536#32 3#32 = ![512 * 3 + 128 * ((c.val + 1 + 2) % 4), 0] from off5_eq c 3 2) _ _ j) ?_
    refine agree_cons (fun j => gath_piece (α := Elt F .bf16) _ ((c.val + 1 + 2) % 4) (Nat.mod_lt _ (by decide)) _ 2 _ rfl (show k0_off5 c 1024#32 3#32 = ![512 * 2 + 128 * ((c.val + 1 + 2) % 4), 0] from off5_eq c 2 2) _ _ j) ?_
    refine agree_cons (fun j => gath_piece (α := Elt F .bf16) _ ((c.val + 1 + 2) % 4) (Nat.mod_lt _ (by decide)) _ 1 _ rfl (show k0_off5 c 512#32 3#32 = ![512 * 1 + 128 * ((c.val + 1 + 2) % 4), 0] from off5_eq c 1 2) _ _ j) ?_
    refine agree_cons (fun j => gath_piece (α := Elt F .bf16) _ ((c.val + 1 + 2) % 4) (Nat.mod_lt _ (by decide)) _ 0 _ rfl (show k0_off5 c 0#32 3#32 = ![512 * 0 + 128 * ((c.val + 1 + 2) % 4), 0] from off5_eq c 0 2) _ _ j) ?_
    exact agree_nil _
  clear rg
  sl_exec
  sl_unfold_run_names
  rw [chunk_rows (withChunk ((c.val + 1 + 0) % 4) (P c) (withChunk c.val (P c) f5)) (part (ctx (regroup (qAll x w)) (regroup k) (regroup v)) o) (((c.val + 1 + 2) % 4)) (show k0_off6 c 3#32 0#32 = ![0, 512 * ((c.val + 1 + 2) % 4) + 64 * 0, 0] from off6_eq c 2 0) ?_
    (show k0_off6 c 3#32 64#32 = ![0, 512 * ((c.val + 1 + 2) % 4) + 64 * 1, 0] from off6_eq c 2 1) ?_
    (show k0_off6 c 3#32 128#32 = ![0, 512 * ((c.val + 1 + 2) % 4) + 64 * 2, 0] from off6_eq c 2 2) ?_
    (show k0_off6 c 3#32 192#32 = ![0, 512 * ((c.val + 1 + 2) % 4) + 64 * 3, 0] from off6_eq c 2 3) ?_
    (show k0_off6 c 3#32 256#32 = ![0, 512 * ((c.val + 1 + 2) % 4) + 64 * 4, 0] from off6_eq c 2 4) ?_
    (show k0_off6 c 3#32 320#32 = ![0, 512 * ((c.val + 1 + 2) % 4) + 64 * 5, 0] from off6_eq c 2 5) ?_
    (show k0_off6 c 3#32 384#32 = ![0, 512 * ((c.val + 1 + 2) % 4) + 64 * 6, 0] from off6_eq c 2 6) ?_
    (show k0_off6 c 3#32 448#32 = ![0, 512 * ((c.val + 1 + 2) % 4) + 64 * 7, 0] from off6_eq c 2 7) ?_]
  rotate_left
  · intro j i hji
    exact part_read (((c.val + 1 + 2) % 4)) 0 (Nat.mod_lt _ (by decide)) (readAt_all cc0_scratch4 _ (by decide) _) (readAt_all cc0_scratch6 o (by decide) _) (by decide) (by decide) (by decide) j i hji
  · intro j i hji
    exact part_read (((c.val + 1 + 2) % 4)) 1 (Nat.mod_lt _ (by decide)) (readAt_all cc0_scratch4 _ (by decide) _) (readAt_all cc0_scratch6 o (by decide) _) (by decide) (by decide) (by decide) j i hji
  · intro j i hji
    exact part_read (((c.val + 1 + 2) % 4)) 2 (Nat.mod_lt _ (by decide)) (readAt_all cc0_scratch4 _ (by decide) _) (readAt_all cc0_scratch6 o (by decide) _) (by decide) (by decide) (by decide) j i hji
  · intro j i hji
    exact part_read (((c.val + 1 + 2) % 4)) 3 (Nat.mod_lt _ (by decide)) (readAt_all cc0_scratch4 _ (by decide) _) (readAt_all cc0_scratch6 o (by decide) _) (by decide) (by decide) (by decide) j i hji
  · intro j i hji
    exact part_read (((c.val + 1 + 2) % 4)) 4 (Nat.mod_lt _ (by decide)) (readAt_all cc0_scratch4 _ (by decide) _) (readAt_all cc0_scratch6 o (by decide) _) (by decide) (by decide) (by decide) j i hji
  · intro j i hji
    exact part_read (((c.val + 1 + 2) % 4)) 5 (Nat.mod_lt _ (by decide)) (readAt_all cc0_scratch4 _ (by decide) _) (readAt_all cc0_scratch6 o (by decide) _) (by decide) (by decide) (by decide) j i hji
  · intro j i hji
    exact part_read (((c.val + 1 + 2) % 4)) 6 (Nat.mod_lt _ (by decide)) (readAt_all cc0_scratch4 _ (by decide) _) (readAt_all cc0_scratch6 o (by decide) _) (by decide) (by decide) (by decide) j i hji
  · intro j i hji
    exact part_read (((c.val + 1 + 2) % 4)) 7 (Nat.mod_lt _ (by decide)) (readAt_all cc0_scratch4 _ (by decide) _) (readAt_all cc0_scratch6 o (by decide) _) (by decide) (by decide) (by decide) j i hji
  rw [← hP]
  iapply (step_sent (sent P) _ κ c false 0 5 (by decide) rfl (dst_credit_src false 0)) $$ [HO Hff0]
  · isplitr
    · iexact Hrec
    isplitl [HO]
    · iexact HO
    iexact Hff0
  iintro ⟨HO, Hlf0, Hsf0⟩
  sl_exec
  iapply (step_recv (sent P) _ κ c false 0 5 (by decide) rfl (dst_credit false 0)) $$ [HO Hlf0]
  · isplitr
    · iexact Hrec
    isplitl [HO]
    · iexact HO
    iexact Hlf0
  iintro ⟨HO, Hof0, Hrf0⟩
  sl_exec
  iapply (step_sent (sent P) _ κ c true 0 5 (by decide) rfl (dst_credit_src true 0)) $$ [HO Hft0]
  · isplitr
    · iexact Hrec
    isplitl [HO]
    · iexact HO
    iexact Hft0
  iintro ⟨HO, Hlt0, Hst0⟩
  sl_exec
  iapply (step_recv (sent P) _ κ c true 0 5 (by decide) rfl (dst_credit true 0)) $$ [HO Hlt0]
  · isplitr
    · iexact Hrec
    isplitl [HO]
    · iexact HO
    iexact Hlt0
  iintro ⟨HO, Hot0, Hrt0⟩
  sl_seam

end Cert.KernelIdeal.Ring
end
-- ==== Proof.Ring.RunD.lean ====
module

public import proofs.«01_k».proof.Proof.Ring.RunC

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

set_option maxHeartbeats 4000000 in
/-- The first sums, and the second hop under way. -/
def runD (c : Dev nD) (x : (cc0_stg0_0 : Ref sig .tc).ty.Contents (Elt F)) (w : (cc0_stg1_0 : Ref sig .tc).ty.Contents (Elt F))
    (k : (cc0_stg2_0 : Ref sig .tc).ty.Contents (Elt F)) (v : (cc0_stg3_0 : Ref sig .tc).ty.Contents (Elt F)) (o : (cc0_stg4_0 : Ref sig .tc).ty.Contents (Elt F))
    (f5 : (cc0_stg5_0 : Ref sig .tc).ty.Contents (Elt F))
    (g0 : (cc0_scratch0 : Ref sig .tc).ty.Contents (Elt F)) (g1 : (cc0_scratch1 : Ref sig .tc).ty.Contents (Elt F))
    (g2 : (cc0_scratch2 : Ref sig .tc).ty.Contents (Elt F)) (g3 : (cc0_scratch3 : Ref sig .tc).ty.Contents (Elt F))
    (g4 : (cc0_scratch4 : Ref sig .tc).ty.Contents (Elt F)) (g5 : (cc0_scratch5 : Ref sig .tc).ty.Contents (Elt F))
    (g6 : (cc0_scratch6 : Ref sig .tc).ty.Contents (Elt F)) (P : Dev nD → FVec F S1x2048x1024 .f32) (κ : GSem nD τ sig → ℕ) (Kt : PUnit → sProp 𝕄)
    (hP : P c = part (ctx (regroup (qAll x w)) (regroup k) (regroup v)) o) :
    Σ' (G : Prop), G → (runC c x w k v o f5 g0 g1 g2 g3 g4 g5 g6 P κ Kt hP).1 := by
  sl_stretch
  sl_resume
  icases Hsrc with ⟨Hf1, Ht1, Hsrc⟩
  icases Hhop with ⟨Hhf1, Hht1, Hhop⟩
  icases HLf with ⟨Hlf1, HLf⟩
  icases HLt with ⟨Hlt1, HLt⟩
  sl_exec
  iapply (step_load _ c (Memref.whole cc0_scratch9) (Rect.unit (s := S3x512x512) ![0, 0, 0] S1x512x512.size inb_S3x512x512_S1x512x512_0_0_0) (fun _ => rfl) squeezes_S1x512x512_S512x512 rfl shapeCasts_S512x512_S1x512x512 (sent P false 0 (peer (!false) c))) $$ Hrf0
  iintro Hrf0
  sl_exec
  iapply (step_load _ c (Memref.whole cc0_scratch10) (Rect.unit (s := S3x512x512) ![0, 0, 0] S1x512x512.size inb_S3x512x512_S1x512x512_0_0_0) (fun _ => rfl) squeezes_S1x512x512_S512x512 rfl shapeCasts_S512x512_S1x512x512 (sent P true 0 (peer (!true) c))) $$ Hrt0
  iintro Hrt0
  sl_exec
  sl_unfold_run_names
  have hwf1 : ∀ h2, shapeCast S512x512 (k0_pay214 (k0_pay212 (shapeCast S1x512x512 (sent P false 0 (peer (!false) c)) shapeCasts_S512x512_S1x512x512) (View.readAt (Elt F) (Memref.whole cc0_stg5_0).view (Rect.unit (s := S1x2048x1024) (k0_off7 c 0#32) S1x512x512.size (k0_off7_inb c 0)).toLoadRect (withChunk ((c.val + 1 + 2) % 4) (P c) (withChunk ((c.val + 1 + 0) % 4) (P c) (withChunk c.val (P c) f5)))))) h2 = sent P false 1 c := fun h2 =>
    (pay214_at (fun _ => out_read (P c) _ (prv c) false (off7_0 c) _ (fun i hi => chunk_same _ _ _ i (hi.trans (prv_val c))) _) _ _ h2).trans (congrArg (fun z => truncf .bf16 z bitsLt_bf16_f32) (accum P false 0 c rfl rfl))
  have hwt1 : ∀ h2, shapeCast S512x512 (k0_pay215 (k0_pay213 (shapeCast S1x512x512 (sent P true 0 (peer (!true) c)) shapeCasts_S512x512_S1x512x512)) (View.readAt (Elt F) (Memref.whole cc0_stg5_0).view (Rect.unit (s := S1x2048x1024) (k0_off8 c 0#32) S1x512x512.size (k0_off8_inb c 0)).toLoadRect (withChunk ((c.val + 1 + 2) % 4) (P c) (withChunk ((c.val + 1 + 0) % 4) (P c) (withChunk c.val (P c) f5))))) h2 = sent P true 1 c := fun h2 =>
    (pay215_at (fun _ => out_read (P c) _ (nxt c) true (off8_0 c) _ (fun i hi => chunk_other _ _ _ i (chunk_same _ _ _ i (hi.trans (nxt_val c)))) _) _ _ h2).trans (congrArg (fun z => truncf .bf16 z bitsLt_bf16_f32) (accum P true 0 c rfl rfl))
  iapply (step_peek _ c (Memref.whole cc0_scratch7) (Rect.unit (s := S4x512x512) ![1, 0, 0] S1x512x512.size inb_S4x512x512_S1x512x512_1_0_0) (fun _ => rfl) squeezes_S1x512x512_S512x512 rfl shapeCasts_S512x512_S1x512x512) $$ Hf1
  iintro %_ Hf1
  sl_rw [Prog.bind_lift]
  iapply (step_store _ c (Memref.whole cc0_scratch7) (Rect.unit (s := S4x512x512) ![1, 0, 0] S1x512x512.size inb_S4x512x512_S1x512x512_1_0_0) (fun _ => rfl) squeezes_S1x512x512_S512x512 rfl (sent P false 1 c) _ shapeCasts_S1x512x512_S512x512 (hwf1 _)) $$ Hf1
  iintro Hf1
  sl_rw [Prog.bind_lift]
  iapply (step_peek _ c (Memref.whole cc0_scratch8) (Rect.unit (s := S4x512x512) ![1, 0, 0] S1x512x512.size inb_S4x512x512_S1x512x512_1_0_0) (fun _ => rfl) squeezes_S1x512x512_S512x512 rfl shapeCasts_S512x512_S1x512x512) $$ Ht1
  iintro %_ Ht1
  sl_rw [Prog.bind_lift]
  iapply (step_store _ c (Memref.whole cc0_scratch8) (Rect.unit (s := S4x512x512) ![1, 0, 0] S1x512x512.size inb_S4x512x512_S1x512x512_1_0_0) (fun _ => rfl) squeezes_S1x512x512_S512x512 rfl (sent P true 1 c) _ shapeCasts_S1x512x512_S512x512 (hwt1 _)) $$ Ht1
  iintro Ht1
  sl_exec
  iapply (step_send (sent P) _ κ c _ false 1 (dev5_eq c) rfl rfl rfl rfl (debt c 4 + tallyAt (rCell true 1 (peer true c)) () N) (debt_5 c)) $$ [HO Hhf1 Hf1 Hlf1]
  · isplitr
    · iexact Hrec
    isplitl [HO]
    · iexact HO
    isplitl [Hhf1]
    · iexact Hhf1
    isplitl [Hf1]
    · iexact Hf1
    iexact Hlf1
  iintro ⟨HO, Hff1⟩
  sl_exec
  iapply (step_send (sent P) _ κ c _ true 1 (dev6_eq c) rfl rfl rfl rfl (debt c 4) rfl) $$ [HO Hht1 Ht1 Hlt1]
  · isplitr
    · iexact Hrec
    isplitl [HO]
    · iexact HO
    isplitl [Hht1]
    · iexact Hht1
    isplitl [Ht1]
    · iexact Ht1
    iexact Hlt1
  iintro ⟨HO, Hft1⟩
  sl_seam

set_option maxHeartbeats 4000000 in
/-- The chunk opposite, and the end of the second hop. -/
def runE (c : Dev nD) (x : (cc0_stg0_0 : Ref sig .tc).ty.Contents (Elt F)) (w : (cc0_stg1_0 : Ref sig .tc).ty.Contents (Elt F))
    (k : (cc0_stg2_0 : Ref sig .tc).ty.Contents (Elt F)) (v : (cc0_stg3_0 : Ref sig .tc).ty.Contents (Elt F)) (o : (cc0_stg4_0 : Ref sig .tc).ty.Contents (Elt F))
    (f5 : (cc0_stg5_0 : Ref sig .tc).ty.Contents (Elt F))
    (g0 : (cc0_scratch0 : Ref sig .tc).ty.Contents (Elt F)) (g1 : (cc0_scratch1 : Ref sig .tc).ty.Contents (Elt F))
    (g2 : (cc0_scratch2 : Ref sig .tc).ty.Contents (Elt F)) (g3 : (cc0_scratch3 : Ref sig .tc).ty.Contents (Elt F))
    (g4 : (cc0_scratch4 : Ref sig .tc).ty.Contents (Elt F)) (g5 : (cc0_scratch5 : Ref sig .tc).ty.Contents (Elt F))
    (g6 : (cc0_scratch6 : Ref sig .tc).ty.Contents (Elt F)) (P : Dev nD → FVec F S1x2048x1024 .f32) (κ : GSem nD τ sig → ℕ) (Kt : PUnit → sProp 𝕄)
    (hP : P c = part (ctx (regroup (qAll x w)) (regroup k) (regroup v)) o) :
    Σ' (G : Prop), G → (runD c x w k v o f5 g0 g1 g2 g3 g4 g5 g6 P κ Kt hP).1 := by
  sl_stretch
  sl_resume
  set_option sl_exec.maxSteps 17 in sl_exec
  have rg : ∀ L : List (View.Piece (Elt F) (cc0_scratch4 : Ref sig .tc).ty.shape (cc0_scratch4 : Ref sig .tc).ty.elt), View.Piece.tiledL L S128x1024.size = true →
      Agree (F := F) (s := (cc0_scratch4 : Ref sig .tc).ty.shape) (e := (cc0_scratch4 : Ref sig .tc).ty.elt)
        (gath (ctx (regroup (qAll x w)) (regroup k) (regroup v)) ((c.val + 1 + 1) % 4) (Nat.mod_lt _ (by decide))) L →
      (Memref.whole cc0_scratch4).view.writes (Elt F) (gath (ctx (regroup (qAll x w)) (regroup k) (regroup v)) ((c.val + 1 + 2) % 4) (Nat.mod_lt _ (by decide))) L = gath (ctx (regroup (qAll x w)) (regroup k) (regroup v)) ((c.val + 1 + 1) % 4) (Nat.mod_lt _ (by decide)) :=
    fun L h h' => writes_eq cc0_scratch4 _ L _ S128x1024.size h h'
  rw [rg]
  rotate_left
  · sl_kernel_rfl
  · sl_unfold_run_names
    simp only [shapeCast_self, k0_pay216, k0_pay217, k0_pay218, k0_pay219]
    refine agree_cons (fun j => gath_piece (α := Elt F .bf16) _ ((c.val + 1 + 1) % 4) (Nat.mod_lt _ (by decide)) _ 3 _ rfl (show k0_off5 c 1536#32 2#32 = ![512 * 3 + 128 * ((c.val + 1 + 1) % 4), 0] from off5_eq c 3 1) _ _ j) ?_
    refine agree_cons (fun j => gath_piece (α := Elt F .bf16) _ ((c.val + 1 + 1) % 4) (Nat.mod_lt _ (by decide)) _ 2 _ rfl (show k0_off5 c 1024#32 2#32 = ![512 * 2 + 128 * ((c.val + 1 + 1) % 4), 0] from off5_eq c 2 1) _ _ j) ?_
    refine agree_cons (fun j => gath_piece (α := Elt F .bf16) _ ((c.val + 1 + 1) % 4) (Nat.mod_lt _ (by decide)) _ 1 _ rfl (show k0_off5 c 512#32 2#32 = ![512 * 1 + 128 * ((c.val + 1 + 1) % 4), 0] from off5_eq c 1 1) _ _ j) ?_
    refine agree_cons (fun j => gath_piece (α := Elt F .bf16) _ ((c.val + 1 + 1) % 4) (Nat.mod_lt _ (by decide)) _ 0 _ rfl (show k0_off5 c 0#32 2#32 = ![512 * 0 + 128 * ((c.val + 1 + 1) % 4), 0] from off5_eq c 0 1) _ _ j) ?_
    exact agree_nil _
  clear rg
  sl_exec
  sl_unfold_run_names
  rw [chunk_rows (withChunk ((c.val + 1 + 2) % 4) (P c) (withChunk ((c.val + 1 + 0) % 4) (P c) (withChunk c.val (P c) f5))) (part (ctx (regroup (qAll x w)) (regroup k) (regroup v)) o) (((c.val + 1 + 1) % 4)) (show k0_off6 c 2#32 0#32 = ![0, 512 * ((c.val + 1 + 1) % 4) + 64 * 0, 0] from off6_eq c 1 0) ?_
    (show k0_off6 c 2#32 64#32 = ![0, 512 * ((c.val + 1 + 1) % 4) + 64 * 1, 0] from off6_eq c 1 1) ?_
    (show k0_off6 c 2#32 128#32 = ![0, 512 * ((c.val + 1 + 1) % 4) + 64 * 2, 0] from off6_eq c 1 2) ?_
    (show k0_off6 c 2#32 192#32 = ![0, 512 * ((c.val + 1 + 1) % 4) + 64 * 3, 0] from off6_eq c 1 3) ?_
    (show k0_off6 c 2#32 256#32 = ![0, 512 * ((c.val + 1 + 1) % 4) + 64 * 4, 0] from off6_eq c 1 4) ?_
    (show k0_off6 c 2#32 320#32 = ![0, 512 * ((c.val + 1 + 1) % 4) + 64 * 5, 0] from off6_eq c 1 5) ?_
    (show k0_off6 c 2#32 384#32 = ![0, 512 * ((c.val + 1 + 1) % 4) + 64 * 6, 0] from off6_eq c 1 6) ?_
    (show k0_off6 c 2#32 448#32 = ![0, 512 * ((c.val + 1 + 1) % 4) + 64 * 7, 0] from off6_eq c 1 7) ?_]
  rotate_left
  · intro j i hji
    exact part_read (((c.val + 1 + 1) % 4)) 0 (Nat.mod_lt _ (by decide)) (readAt_all cc0_scratch4 _ (by decide) _) (readAt_all cc0_scratch6 o (by decide) _) (by decide) (by decide) (by decide) j i hji
  · intro j i hji
    exact part_read (((c.val + 1 + 1) % 4)) 1 (Nat.mod_lt _ (by decide)) (readAt_all cc0_scratch4 _ (by decide) _) (readAt_all cc0_scratch6 o (by decide) _) (by decide) (by decide) (by decide) j i hji
  · intro j i hji
    exact part_read (((c.val + 1 + 1) % 4)) 2 (Nat.mod_lt _ (by decide)) (readAt_all cc0_scratch4 _ (by decide) _) (readAt_all cc0_scratch6 o (by decide) _) (by decide) (by decide) (by decide) j i hji
  · intro j i hji
    exact part_read (((c.val + 1 + 1) % 4)) 3 (Nat.mod_lt _ (by decide)) (readAt_all cc0_scratch4 _ (by decide) _) (readAt_all cc0_scratch6 o (by decide) _) (by decide) (by decide) (by decide) j i hji
  · intro j i hji
    exact part_read (((c.val + 1 + 1) % 4)) 4 (Nat.mod_lt _ (by decide)) (readAt_all cc0_scratch4 _ (by decide) _) (readAt_all cc0_scratch6 o (by decide) _) (by decide) (by decide) (by decide) j i hji
  · intro j i hji
    exact part_read (((c.val + 1 + 1) % 4)) 5 (Nat.mod_lt _ (by decide)) (readAt_all cc0_scratch4 _ (by decide) _) (readAt_all cc0_scratch6 o (by decide) _) (by decide) (by decide) (by decide) j i hji
  · intro j i hji
    exact part_read (((c.val + 1 + 1) % 4)) 6 (Nat.mod_lt _ (by decide)) (readAt_all cc0_scratch4 _ (by decide) _) (readAt_all cc0_scratch6 o (by decide) _) (by decide) (by decide) (by decide) j i hji
  · intro j i hji
    exact part_read (((c.val + 1 + 1) % 4)) 7 (Nat.mod_lt _ (by decide)) (readAt_all cc0_scratch4 _ (by decide) _) (readAt_all cc0_scratch6 o (by decide) _) (by decide) (by decide) (by decide) j i hji
  rw [← hP]
  rw [chunks_all (P c) f5 c.val ((c.val + 1 + 0) % 4) ((c.val + 1 + 2) % 4) ((c.val + 1 + 1) % 4) (chunks_cover c)]
  iapply (step_sent (sent P) _ κ c false 1 4 (by decide) rfl (dst_credit_src false 1)) $$ [HO Hff1]
  · isplitr
    · iexact Hrec
    isplitl [HO]
    · iexact HO
    iexact Hff1
  iintro ⟨HO, Hlf1, Hsf1⟩
  sl_exec
  iapply (step_recv (sent P) _ κ c false 1 4 (by decide) rfl (dst_credit false 1)) $$ [HO Hlf1]
  · isplitr
    · iexact Hrec
    isplitl [HO]
    · iexact HO
    iexact Hlf1
  iintro ⟨HO, Hof1, Hrf1⟩
  sl_exec
  iapply (step_sent (sent P) _ κ c true 1 4 (by decide) rfl (dst_credit_src true 1)) $$ [HO Hft1]
  · isplitr
    · iexact Hrec
    isplitl [HO]
    · iexact HO
    iexact Hft1
  iintro ⟨HO, Hlt1, Hst1⟩
  sl_exec
  iapply (step_recv (sent P) _ κ c true 1 4 (by decide) rfl (dst_credit true 1)) $$ [HO Hlt1]
  · isplitr
    · iexact Hrec
    isplitl [HO]
    · iexact HO
    iexact Hlt1
  iintro ⟨HO, Hot1, Hrt1⟩
  sl_seam

end Cert.KernelIdeal.Ring
end
-- ==== Proof.Ring.RunE.lean ====
module

public import proofs.«01_k».proof.Proof.Ring.RunD

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

set_option maxHeartbeats 4000000 in
/-- The second sums, and the third hop. -/
def runF (c : Dev nD) (x : (cc0_stg0_0 : Ref sig .tc).ty.Contents (Elt F)) (w : (cc0_stg1_0 : Ref sig .tc).ty.Contents (Elt F))
    (k : (cc0_stg2_0 : Ref sig .tc).ty.Contents (Elt F)) (v : (cc0_stg3_0 : Ref sig .tc).ty.Contents (Elt F)) (o : (cc0_stg4_0 : Ref sig .tc).ty.Contents (Elt F))
    (f5 : (cc0_stg5_0 : Ref sig .tc).ty.Contents (Elt F))
    (g0 : (cc0_scratch0 : Ref sig .tc).ty.Contents (Elt F)) (g1 : (cc0_scratch1 : Ref sig .tc).ty.Contents (Elt F))
    (g2 : (cc0_scratch2 : Ref sig .tc).ty.Contents (Elt F)) (g3 : (cc0_scratch3 : Ref sig .tc).ty.Contents (Elt F))
    (g4 : (cc0_scratch4 : Ref sig .tc).ty.Contents (Elt F)) (g5 : (cc0_scratch5 : Ref sig .tc).ty.Contents (Elt F))
    (g6 : (cc0_scratch6 : Ref sig .tc).ty.Contents (Elt F)) (P : Dev nD → FVec F S1x2048x1024 .f32) (κ : GSem nD τ sig → ℕ) (Kt : PUnit → sProp 𝕄)
    (hP : P c = part (ctx (regroup (qAll x w)) (regroup k) (regroup v)) o) :
    Σ' (G : Prop), G → (runE c x w k v o f5 g0 g1 g2 g3 g4 g5 g6 P κ Kt hP).1 := by
  sl_stretch
  sl_resume
  icases Hsrc with ⟨Hf2, Ht2, Hsrc⟩
  icases Hhop with ⟨Hhf2, Hht2, Hhop⟩
  icases HLf with ⟨Hlf2, HLf⟩
  icases HLt with ⟨Hlt2, HLt⟩
  sl_exec
  iapply (step_load _ c (Memref.whole cc0_scratch9) (Rect.unit (s := S3x512x512) ![1, 0, 0] S1x512x512.size inb_S3x512x512_S1x512x512_1_0_0) (fun _ => rfl) squeezes_S1x512x512_S512x512 rfl shapeCasts_S512x512_S1x512x512 (sent P false 1 (peer (!false) c))) $$ Hrf1
  iintro Hrf1
  sl_exec
  iapply (step_load _ c (Memref.whole cc0_scratch10) (Rect.unit (s := S3x512x512) ![1, 0, 0] S1x512x512.size inb_S3x512x512_S1x512x512_1_0_0) (fun _ => rfl) squeezes_S1x512x512_S512x512 rfl shapeCasts_S512x512_S1x512x512 (sent P true 1 (peer (!true) c))) $$ Hrt1
  iintro Hrt1
  sl_exec
  have hwf2 : ∀ h2, shapeCast S512x512 (k0_pay231 (k0_pay230 (shapeCast S1x512x512 (sent P false 1 (peer (!false) c)) shapeCasts_S512x512_S1x512x512) (View.readAt (Elt F) (Memref.whole cc0_stg5_0).view (Rect.unit (s := S1x2048x1024) (k0_off7 c 1#32) S1x512x512.size (k0_off7_inb c 1)).toLoadRect ((P c))))) h2 = sent P false 2 c := fun h2 =>
    (pay231_at (fun _ => out_read (P c) _ (prv (prv c)) false (off7_1 c) _ (fun _ _ => rfl) _) _ _ h2).trans (congrArg (fun z => truncf .bf16 z bitsLt_bf16_f32) (accum P false 1 c rfl rfl))
  have hwt2 : ∀ h2, shapeCast S512x512 (k0_pay232 (shapeCast S1x512x512 (sent P true 1 (peer (!true) c)) shapeCasts_S512x512_S1x512x512) (View.readAt (Elt F) (Memref.whole cc0_stg5_0).view (Rect.unit (s := S1x2048x1024) (k0_off8 c 1#32) S1x512x512.size (k0_off8_inb c 1)).toLoadRect ((P c)))) h2 = sent P true 2 c := fun h2 =>
    (pay232_at (fun _ => out_read (P c) _ (nxt (nxt c)) true (off8_1 c) _ (fun _ _ => rfl) _) _ _ h2).trans (congrArg (fun z => truncf .bf16 z bitsLt_bf16_f32) (accum P true 1 c rfl rfl))
  iapply (step_peek _ c (Memref.whole cc0_scratch7) (Rect.unit (s := S4x512x512) ![2, 0, 0] S1x512x512.size inb_S4x512x512_S1x512x512_2_0_0) (fun _ => rfl) squeezes_S1x512x512_S512x512 rfl shapeCasts_S512x512_S1x512x512) $$ Hf2
  iintro %_ Hf2
  sl_rw [Prog.bind_lift]
  iapply (step_store _ c (Memref.whole cc0_scratch7) (Rect.unit (s := S4x512x512) ![2, 0, 0] S1x512x512.size inb_S4x512x512_S1x512x512_2_0_0) (fun _ => rfl) squeezes_S1x512x512_S512x512 rfl (sent P false 2 c) _ shapeCasts_S1x512x512_S512x512 (hwf2 _)) $$ Hf2
  iintro Hf2
  sl_rw [Prog.bind_lift]
  iapply (step_peek _ c (Memref.whole cc0_scratch8) (Rect.unit (s := S4x512x512) ![2, 0, 0] S1x512x512.size inb_S4x512x512_S1x512x512_2_0_0) (fun _ => rfl) squeezes_S1x512x512_S512x512 rfl shapeCasts_S512x512_S1x512x512) $$ Ht2
  iintro %_ Ht2
  sl_rw [Prog.bind_lift]
  iapply (step_store _ c (Memref.whole cc0_scratch8) (Rect.unit (s := S4x512x512) ![2, 0, 0] S1x512x512.size inb_S4x512x512_S1x512x512_2_0_0) (fun _ => rfl) squeezes_S1x512x512_S512x512 rfl (sent P true 2 c) _ shapeCasts_S1x512x512_S512x512 (hwt2 _)) $$ Ht2
  iintro Ht2
  sl_exec
  iapply (step_send (sent P) _ κ c _ false 2 (dev7_eq c) rfl rfl rfl rfl (debt c 3 + tallyAt (rCell true 2 (peer true c)) () N) (debt_4 c)) $$ [HO Hhf2 Hf2 Hlf2]
  · isplitr
    · iexact Hrec
    isplitl [HO]
    · iexact HO
    isplitl [Hhf2]
    · iexact Hhf2
    isplitl [Hf2]
    · iexact Hf2
    iexact Hlf2
  iintro ⟨HO, Hff2⟩
  sl_exec
  iapply (step_send (sent P) _ κ c _ true 2 (dev8_eq c) rfl rfl rfl rfl (debt c 3) rfl) $$ [HO Hht2 Ht2 Hlt2]
  · isplitr
    · iexact Hrec
    isplitl [HO]
    · iexact HO
    isplitl [Hht2]
    · iexact Hht2
    isplitl [Ht2]
    · iexact Ht2
    iexact Hlt2
  iintro ⟨HO, Hft2⟩
  sl_exec
  iapply (step_sent (sent P) _ κ c false 2 3 (by decide) rfl (dst_credit_src false 2)) $$ [HO Hff2]
  · isplitr
    · iexact Hrec
    isplitl [HO]
    · iexact HO
    iexact Hff2
  iintro ⟨HO, Hlf2, Hsf2⟩
  sl_exec
  iapply (step_recv (sent P) _ κ c false 2 3 (by decide) rfl (dst_credit false 2)) $$ [HO Hlf2]
  · isplitr
    · iexact Hrec
    isplitl [HO]
    · iexact HO
    iexact Hlf2
  iintro ⟨HO, Hof2, Hrf2⟩
  sl_exec
  iapply (step_sent (sent P) _ κ c true 2 3 (by decide) rfl (dst_credit_src true 2)) $$ [HO Hft2]
  · isplitr
    · iexact Hrec
    isplitl [HO]
    · iexact HO
    iexact Hft2
  iintro ⟨HO, Hlt2, Hst2⟩
  sl_exec
  iapply (step_recv (sent P) _ κ c true 2 3 (by decide) rfl (dst_credit true 2)) $$ [HO Hlt2]
  · isplitr
    · iexact Hrec
    isplitl [HO]
    · iexact HO
    iexact Hlt2
  iintro ⟨HO, Hot2, Hrt2⟩
  sl_seam

set_option maxHeartbeats 4000000 in
/-- The complete sums, and the first hop of the gathering. -/
def runG (c : Dev nD) (x : (cc0_stg0_0 : Ref sig .tc).ty.Contents (Elt F)) (w : (cc0_stg1_0 : Ref sig .tc).ty.Contents (Elt F))
    (k : (cc0_stg2_0 : Ref sig .tc).ty.Contents (Elt F)) (v : (cc0_stg3_0 : Ref sig .tc).ty.Contents (Elt F)) (o : (cc0_stg4_0 : Ref sig .tc).ty.Contents (Elt F))
    (f5 : (cc0_stg5_0 : Ref sig .tc).ty.Contents (Elt F))
    (g0 : (cc0_scratch0 : Ref sig .tc).ty.Contents (Elt F)) (g1 : (cc0_scratch1 : Ref sig .tc).ty.Contents (Elt F))
    (g2 : (cc0_scratch2 : Ref sig .tc).ty.Contents (Elt F)) (g3 : (cc0_scratch3 : Ref sig .tc).ty.Contents (Elt F))
    (g4 : (cc0_scratch4 : Ref sig .tc).ty.Contents (Elt F)) (g5 : (cc0_scratch5 : Ref sig .tc).ty.Contents (Elt F))
    (g6 : (cc0_scratch6 : Ref sig .tc).ty.Contents (Elt F)) (P : Dev nD → FVec F S1x2048x1024 .f32) (κ : GSem nD τ sig → ℕ) (Kt : PUnit → sProp 𝕄)
    (hP : P c = part (ctx (regroup (qAll x w)) (regroup k) (regroup v)) o) :
    Σ' (G : Prop), G → (runF c x w k v o f5 g0 g1 g2 g3 g4 g5 g6 P κ Kt hP).1 := by
  sl_stretch
  sl_resume
  icases Hsrc with ⟨Hf3, Ht3⟩
  icases Hhop with ⟨Hhf3, Hht3, Hhop⟩
  icases HLf with ⟨Hlf3, HLf⟩
  icases HLt with ⟨Hlt3, HLt⟩
  sl_exec
  iapply (step_load _ c (Memref.whole cc0_scratch9) (Rect.unit (s := S3x512x512) ![2, 0, 0] S1x512x512.size inb_S3x512x512_S1x512x512_2_0_0) (fun _ => rfl) squeezes_S1x512x512_S512x512 rfl shapeCasts_S512x512_S1x512x512 (sent P false 2 (peer (!false) c))) $$ Hrf2
  iintro Hrf2
  sl_rw [Prog.bind_lift]
  iapply (step_read _ c _ _) $$ Hout
  iintro Hout
  sl_rw [Prog.bind_lift]
  iapply (step_load _ c (Memref.whole cc0_scratch10) (Rect.unit (s := S3x512x512) ![2, 0, 0] S1x512x512.size inb_S3x512x512_S1x512x512_2_0_0) (fun _ => rfl) squeezes_S1x512x512_S512x512 rfl shapeCasts_S512x512_S1x512x512 (sent P true 2 (peer (!true) c))) $$ Hrt2
  iintro Hrt2
  sl_rw [Prog.bind_lift]
  iapply (step_read _ c _ _) $$ Hout
  iintro Hout
  have hwf3 : ∀ h2, shapeCast S512x512 (k0_pay237 (shapeCast S1x512x512 (sent P false 2 (peer (!false) c)) shapeCasts_S512x512_S1x512x512) (View.readAt (Elt F) (Memref.whole cc0_stg5_0).view (Rect.unit (s := S1x2048x1024) (k0_off7 c 2#32) S1x512x512.size (k0_off7_inb c 2)).toLoadRect ((P c)))) h2 = sent P false 3 c := fun h2 =>
    (pay237_at (fun _ => out_read (P c) _ (prv (prv (prv c))) false (off7_2 c) _ (fun _ _ => rfl) _) _ _ h2).trans (congrArg (fun z => truncf .bf16 z bitsLt_bf16_f32) (accum P false 2 c rfl rfl))
  have hwt3 : ∀ h2, shapeCast S512x512 (k0_pay239 (k0_pay238 (shapeCast S1x512x512 (sent P true 2 (peer (!true) c)) shapeCasts_S512x512_S1x512x512) (View.readAt (Elt F) (Memref.whole cc0_stg5_0).view (Rect.unit (s := S1x2048x1024) (k0_off8 c 2#32) S1x512x512.size (k0_off8_inb c 2)).toLoadRect ((P c))))) h2 = sent P true 3 c := fun h2 =>
    (pay239_at (fun _ => out_read (P c) _ (nxt (nxt (nxt c))) true (off8_2 c) _ (fun _ _ => rfl) _) _ _ h2).trans (congrArg (fun z => truncf .bf16 z bitsLt_bf16_f32) (accum P true 2 c rfl rfl))
  sl_rw [Prog.bind_lift]
  iapply (step_read _ c _ _) $$ Hout
  iintro Hout
  sl_rw [Prog.bind_lift]
  ihave Hout := (show pt c cc0_stg5_0 (P c) ⊢ pt c cc0_stg5_0 (outM.view.writes (Elt F) (P c) []) from Entails.of_eq rfl) $$ Hout
  iapply (step_place _ c (P c) _ _ _) $$ Hout
  iintro Hout
  sl_rw [Prog.bind_lift]
  iapply (step_read _ c _ _) $$ Hout
  iintro Hout
  sl_rw [Prog.bind_lift]
  iapply (step_place _ c (P c) _ _ _) $$ Hout
  iintro Hout
  sl_rw [Prog.bind_lift]
  iapply (step_peek _ c (Memref.whole cc0_scratch7) (Rect.unit (s := S4x512x512) ![3, 0, 0] S1x512x512.size inb_S4x512x512_S1x512x512_3_0_0) (fun _ => rfl) squeezes_S1x512x512_S512x512 rfl shapeCasts_S512x512_S1x512x512) $$ Hf3
  iintro %_ Hf3
  sl_rw [Prog.bind_lift]
  iapply (step_store _ c (Memref.whole cc0_scratch7) (Rect.unit (s := S4x512x512) ![3, 0, 0] S1x512x512.size inb_S4x512x512_S1x512x512_3_0_0) (fun _ => rfl) squeezes_S1x512x512_S512x512 rfl (sent P false 3 c) _ shapeCasts_S1x512x512_S512x512 (hwf3 _)) $$ Hf3
  iintro Hf3
  sl_rw [Prog.bind_lift]
  iapply (step_peek _ c (Memref.whole cc0_scratch8) (Rect.unit (s := S4x512x512) ![3, 0, 0] S1x512x512.size inb_S4x512x512_S1x512x512_3_0_0) (fun _ => rfl) squeezes_S1x512x512_S512x512 rfl shapeCasts_S512x512_S1x512x512) $$ Ht3
  iintro %_ Ht3
  sl_exec
  iapply (step_store _ c (Memref.whole cc0_scratch8) (Rect.unit (s := S4x512x512) ![3, 0, 0] S1x512x512.size inb_S4x512x512_S1x512x512_3_0_0) (fun _ => rfl) squeezes_S1x512x512_S512x512 rfl (sent P true 3 c) _ shapeCasts_S1x512x512_S512x512 (hwt3 _)) $$ Ht3
  iintro Ht3
  sl_exec
  iapply (step_send (sent P) _ κ c _ false 3 (dev9_eq c) rfl rfl rfl rfl (debt c 2 + tallyAt (rCell true 3 (peer true c)) () N) (debt_3 c)) $$ [HO Hhf3 Hf3 Hlf3]
  · isplitr
    · iexact Hrec
    isplitl [HO]
    · iexact HO
    isplitl [Hhf3]
    · iexact Hhf3
    isplitl [Hf3]
    · iexact Hf3
    iexact Hlf3
  iintro ⟨HO, Hff3⟩
  sl_exec
  iapply (step_send (sent P) _ κ c _ true 3 (dev10_eq c) rfl rfl rfl rfl (debt c 2) rfl) $$ [HO Hht3 Ht3 Hlt3]
  · isplitr
    · iexact Hrec
    isplitl [HO]
    · iexact HO
    isplitl [Hht3]
    · iexact Hht3
    isplitl [Ht3]
    · iexact Ht3
    iexact Hlt3
  iintro ⟨HO, Hft3⟩
  sl_exec
  iapply (step_sent (sent P) _ κ c false 3 2 (by decide) rfl (dst_credit_src false 3)) $$ [HO Hff3]
  · isplitr
    · iexact Hrec
    isplitl [HO]
    · iexact HO
    iexact Hff3
  iintro ⟨HO, Hlf3, Hsf3⟩
  sl_exec
  iapply (step_recv (sent P) _ κ c false 3 2 (by decide) rfl (dst_credit false 3)) $$ [HO Hlf3]
  · isplitr
    · iexact Hrec
    isplitl [HO]
    · iexact HO
    iexact Hlf3
  iintro ⟨HO, Hof3, Hrf3⟩
  sl_exec
  iapply (step_sent (sent P) _ κ c true 3 2 (by decide) rfl (dst_credit_src true 3)) $$ [HO Hft3]
  · isplitr
    · iexact Hrec
    isplitl [HO]
    · iexact HO
    iexact Hft3
  iintro ⟨HO, Hlt3, Hst3⟩
  sl_exec
  iapply (step_recv (sent P) _ κ c true 3 2 (by decide) rfl (dst_credit true 3)) $$ [HO Hlt3]
  · isplitr
    · iexact Hrec
    isplitl [HO]
    · iexact HO
    iexact Hlt3
  iintro ⟨HO, Hot3, Hrt3⟩
  sl_seam

end Cert.KernelIdeal.Ring
end
-- ==== Proof.Ring.RunF.lean ====
module

public import proofs.«01_k».proof.Proof.Ring.RunE

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

set_option maxHeartbeats 4000000 in
/-- The second hop of the gathering. -/
def runH (c : Dev nD) (x : (cc0_stg0_0 : Ref sig .tc).ty.Contents (Elt F)) (w : (cc0_stg1_0 : Ref sig .tc).ty.Contents (Elt F))
    (k : (cc0_stg2_0 : Ref sig .tc).ty.Contents (Elt F)) (v : (cc0_stg3_0 : Ref sig .tc).ty.Contents (Elt F)) (o : (cc0_stg4_0 : Ref sig .tc).ty.Contents (Elt F))
    (f5 : (cc0_stg5_0 : Ref sig .tc).ty.Contents (Elt F))
    (g0 : (cc0_scratch0 : Ref sig .tc).ty.Contents (Elt F)) (g1 : (cc0_scratch1 : Ref sig .tc).ty.Contents (Elt F))
    (g2 : (cc0_scratch2 : Ref sig .tc).ty.Contents (Elt F)) (g3 : (cc0_scratch3 : Ref sig .tc).ty.Contents (Elt F))
    (g4 : (cc0_scratch4 : Ref sig .tc).ty.Contents (Elt F)) (g5 : (cc0_scratch5 : Ref sig .tc).ty.Contents (Elt F))
    (g6 : (cc0_scratch6 : Ref sig .tc).ty.Contents (Elt F)) (P : Dev nD → FVec F S1x2048x1024 .f32) (κ : GSem nD τ sig → ℕ) (Kt : PUnit → sProp 𝕄)
    (hP : P c = part (ctx (regroup (qAll x w)) (regroup k) (regroup v)) o) :
    Σ' (G : Prop), G → (runG c x w k v o f5 g0 g1 g2 g3 g4 g5 g6 P κ Kt hP).1 := by
  sl_stretch
  sl_resume
  sl_exec
  iapply (step_load _ c (Memref.whole cc0_scratch11) (Rect.unit (s := S3x512x512) ![0, 0, 0] S1x512x512.size inb_S3x512x512_S1x512x512_0_0_0) (fun _ => rfl) squeezes_S1x512x512_S512x512 rfl shapeCasts_S512x512_S1x512x512 (sent P false 3 (peer (!false) c))) $$ Hrf3
  iintro Hrf3
  sl_rw [Prog.bind_lift]
  iapply (step_read _ c _ _) $$ Hout
  iintro Hout
  sl_rw [Prog.bind_lift]
  iapply (step_place _ c (P c) _ _ _) $$ Hout
  iintro Hout
  sl_rw [Prog.bind_lift]
  iapply (step_load _ c (Memref.whole cc0_scratch12) (Rect.unit (s := S3x512x512) ![0, 0, 0] S1x512x512.size inb_S3x512x512_S1x512x512_0_0_0) (fun _ => rfl) squeezes_S1x512x512_S512x512 rfl shapeCasts_S512x512_S1x512x512 (sent P true 3 (peer (!true) c))) $$ Hrt3
  iintro Hrt3
  sl_rw [Prog.bind_lift]
  iapply (step_read _ c _ _) $$ Hout
  iintro Hout
  sl_rw [Prog.bind_lift]
  iapply (step_place _ c (P c) _ _ _) $$ Hout
  iintro Hout
  icases Hhop with ⟨Hhf4, Hht4, Hhop⟩
  icases HLf with ⟨Hlf4, HLf⟩
  icases HLt with ⟨Hlt4, HLt⟩
  ihave Hrf3 := (show holds c (dstSlot false 3) (sent P false 3 (peer (!false) c)) ⊢ holds c (srcSlot false 4) (sent P false 4 c) from Entails.of_eq rfl) $$ Hrf3
  ihave Hrt3 := (show holds c (dstSlot true 3) (sent P true 3 (peer (!true) c)) ⊢ holds c (srcSlot true 4) (sent P true 4 c) from Entails.of_eq rfl) $$ Hrt3
  sl_exec
  iapply (step_send (sent P) _ κ c _ false 4 (dev11_eq c) rfl rfl rfl rfl (debt c 1 + tallyAt (rCell true 4 (peer true c)) () N) (debt_2 c)) $$ [HO Hhf4 Hrf3 Hlf4]
  · isplitr
    · iexact Hrec
    isplitl [HO]
    · iexact HO
    isplitl [Hhf4]
    · iexact Hhf4
    isplitl [Hrf3]
    · iexact Hrf3
    iexact Hlf4
  iintro ⟨HO, Hff4⟩
  sl_exec
  iapply (step_send (sent P) _ κ c _ true 4 (dev12_eq c) rfl rfl rfl rfl (debt c 1) rfl) $$ [HO Hht4 Hrt3 Hlt4]
  · isplitr
    · iexact Hrec
    isplitl [HO]
    · iexact HO
    isplitl [Hht4]
    · iexact Hht4
    isplitl [Hrt3]
    · iexact Hrt3
    iexact Hlt4
  iintro ⟨HO, Hft4⟩
  sl_exec
  iapply (step_sent (sent P) _ κ c false 4 1 (by decide) rfl (dst_credit_src false 4)) $$ [HO Hff4]
  · isplitr
    · iexact Hrec
    isplitl [HO]
    · iexact HO
    iexact Hff4
  iintro ⟨HO, Hlf4, Hsf4⟩
  sl_exec
  iapply (step_recv (sent P) _ κ c false 4 1 (by decide) rfl (dst_credit false 4)) $$ [HO Hlf4]
  · isplitr
    · iexact Hrec
    isplitl [HO]
    · iexact HO
    iexact Hlf4
  iintro ⟨HO, Hof4, Hrf4⟩
  sl_exec
  iapply (step_sent (sent P) _ κ c true 4 1 (by decide) rfl (dst_credit_src true 4)) $$ [HO Hft4]
  · isplitr
    · iexact Hrec
    isplitl [HO]
    · iexact HO
    iexact Hft4
  iintro ⟨HO, Hlt4, Hst4⟩
  sl_exec
  iapply (step_recv (sent P) _ κ c true 4 1 (by decide) rfl (dst_credit true 4)) $$ [HO Hlt4]
  · isplitr
    · iexact Hrec
    isplitl [HO]
    · iexact HO
    iexact Hlt4
  iintro ⟨HO, Hot4, Hrt4⟩
  sl_seam

/-- What the body leaves: the operands, the output at its sums, the scratch at some contents, every round of the exchange over and nothing owed. -/
def doneA (c : Dev nD) (x : (cc0_stg0_0 : Ref sig .tc).ty.Contents (Elt F)) (w : (cc0_stg1_0 : Ref sig .tc).ty.Contents (Elt F))
    (k : (cc0_stg2_0 : Ref sig .tc).ty.Contents (Elt F)) (v : (cc0_stg3_0 : Ref sig .tc).ty.Contents (Elt F)) (o : (cc0_stg4_0 : Ref sig .tc).ty.Contents (Elt F))
    (P : Dev nD → FVec F S1x2048x1024 .f32) : sProp 𝕄 :=
  iprop((pt c cc0_stg0_0 x ∗ pt c cc0_stg1_0 w ∗ pt c cc0_stg2_0 k ∗ pt c cc0_stg3_0 v ∗ pt c cc0_stg4_0 o ∗ pt c cc0_stg5_0 (result P c))
    ∗ ((∃ f, pt c cc0_scratch0 f) ∗ (∃ f, pt c cc0_scratch1 f) ∗ (∃ f, pt c cc0_scratch2 f) ∗ (∃ f, pt c cc0_scratch3 f) ∗ (∃ f, pt c cc0_scratch4 f)
      ∗ (∃ f, pt c cc0_scratch5 f) ∗ (∃ f, pt c cc0_scratch6 f))
    ∗ (some_ c (srcSlot false 0) ∗ some_ c (srcSlot false 1) ∗ some_ c (srcSlot false 2) ∗ some_ c (srcSlot false 3))
    ∗ (some_ c (srcSlot true 0) ∗ some_ c (srcSlot true 1) ∗ some_ c (srcSlot true 2) ∗ some_ c (srcSlot true 3))
    ∗ (some_ c (dstSlot false 0) ∗ some_ c (dstSlot false 1) ∗ some_ c (dstSlot false 2))
    ∗ (some_ c (dstSlot true 0) ∗ some_ c (dstSlot true 1) ∗ some_ c (dstSlot true 2))
    ∗ (some_ c (dstSlot false 3) ∗ some_ c (dstSlot false 4) ∗ some_ c (dstSlot false 5))
    ∗ (some_ c (dstSlot true 3) ∗ some_ c (dstSlot true 4) ∗ some_ c (dstSlot true 5))
    ∗ atPos ER (barCell c) 1 ∅ 0
    ∗ (over false 0 c ∗ over true 0 c ∗ over false 1 c ∗ over true 1 c ∗ over false 2 c ∗ over true 2 c ∗ over false 3 c ∗ over true 3 c ∗ over false 4 c ∗ over true 4 c ∗ over false 5 c ∗ over true 5 c)
    ∗ owing c 0)

set_option maxHeartbeats 4000000 in
/-- The whole body. -/
theorem body_run (c : Dev nD) (x : (cc0_stg0_0 : Ref sig .tc).ty.Contents (Elt F)) (w : (cc0_stg1_0 : Ref sig .tc).ty.Contents (Elt F))
    (k : (cc0_stg2_0 : Ref sig .tc).ty.Contents (Elt F)) (v : (cc0_stg3_0 : Ref sig .tc).ty.Contents (Elt F)) (o : (cc0_stg4_0 : Ref sig .tc).ty.Contents (Elt F))
    (f5 : (cc0_stg5_0 : Ref sig .tc).ty.Contents (Elt F))
    (g0 : (cc0_scratch0 : Ref sig .tc).ty.Contents (Elt F)) (g1 : (cc0_scratch1 : Ref sig .tc).ty.Contents (Elt F))
    (g2 : (cc0_scratch2 : Ref sig .tc).ty.Contents (Elt F)) (g3 : (cc0_scratch3 : Ref sig .tc).ty.Contents (Elt F))
    (g4 : (cc0_scratch4 : Ref sig .tc).ty.Contents (Elt F)) (g5 : (cc0_scratch5 : Ref sig .tc).ty.Contents (Elt F))
    (g6 : (cc0_scratch6 : Ref sig .tc).ty.Contents (Elt F)) (P : Dev nD → FVec F S1x2048x1024 .f32) (κ : GSem nD τ sig → ℕ)
    (hP : P c = part (ctx (regroup (qAll x w)) (regroup k) (regroup v)) o) :
    preA c x w k v o f5 g0 g1 g2 g3 g4 g5 g6 (start P κ c)
      ⊢ wp frame (wpE (defs₀ (F := F)) 𝒱₀ (c : Thread nD τ) none) Set.univ body (fun _ => doneA c x w k v o P) := by
  refine (runA c x w k v o f5 g0 g1 g2 g3 g4 g5 g6 (start P κ c) (fun _ => doneA c x w k v o P)).2 ((runB c x w k v o f5 g0 g1 g2 g3 g4 g5 g6 P κ (fun _ => doneA c x w k v o P) hP).2 ((runC c x w k v o f5 g0 g1 g2 g3 g4 g5 g6 P κ (fun _ => doneA c x w k v o P) hP).2 ((runD c x w k v o f5 g0 g1 g2 g3 g4 g5 g6 P κ (fun _ => doneA c x w k v o P) hP).2 ((runE c x w k v o f5 g0 g1 g2 g3 g4 g5 g6 P κ (fun _ => doneA c x w k v o P) hP).2
    ((runF c x w k v o f5 g0 g1 g2 g3 g4 g5 g6 P κ (fun _ => doneA c x w k v o P) hP).2 ((runG c x w k v o f5 g0 g1 g2 g3 g4 g5 g6 P κ (fun _ => doneA c x w k v o P) hP).2 ((runH c x w k v o f5 g0 g1 g2 g3 g4 g5 g6 P κ (fun _ => doneA c x w k v o P) hP).2 ?_)))))))
  sl_resume
  sl_exec
  iapply (step_load _ c (Memref.whole cc0_scratch11) (Rect.unit (s := S3x512x512) ![1, 0, 0] S1x512x512.size inb_S3x512x512_S1x512x512_1_0_0) (fun _ => rfl) squeezes_S1x512x512_S512x512 rfl shapeCasts_S512x512_S1x512x512 (sent P false 4 (peer (!false) c))) $$ Hrf4
  iintro Hrf4
  sl_rw [Prog.bind_lift]
  iapply (step_read _ c _ _) $$ Hout
  iintro Hout
  sl_rw [Prog.bind_lift]
  iapply (step_place _ c (P c) _ _ _) $$ Hout
  iintro Hout
  sl_rw [Prog.bind_lift]
  iapply (step_load _ c (Memref.whole cc0_scratch12) (Rect.unit (s := S3x512x512) ![1, 0, 0] S1x512x512.size inb_S3x512x512_S1x512x512_1_0_0) (fun _ => rfl) squeezes_S1x512x512_S512x512 rfl shapeCasts_S512x512_S1x512x512 (sent P true 4 (peer (!true) c))) $$ Hrt4
  iintro Hrt4
  sl_rw [Prog.bind_lift]
  iapply (step_read _ c _ _) $$ Hout
  iintro Hout
  sl_rw [Prog.bind_lift]
  iapply (step_place _ c (P c) _ _ _) $$ Hout
  iintro Hout
  icases Hhop with ⟨Hhf5, Hht5⟩
  irename HLf => Hlf5
  irename HLt => Hlt5
  ihave Hrf4 := (show holds c (dstSlot false 4) (sent P false 4 (peer (!false) c)) ⊢ holds c (srcSlot false 5) (sent P false 5 c) from Entails.of_eq rfl) $$ Hrf4
  ihave Hrt4 := (show holds c (dstSlot true 4) (sent P true 4 (peer (!true) c)) ⊢ holds c (srcSlot true 5) (sent P true 5 c) from Entails.of_eq rfl) $$ Hrt4
  sl_exec
  iapply (step_send (sent P) _ κ c _ false 5 (dev13_eq c) rfl rfl rfl rfl (debt c 0 + tallyAt (rCell true 5 (peer true c)) () N) (debt_1 c)) $$ [HO Hhf5 Hrf4 Hlf5]
  · isplitr
    · iexact Hrec
    isplitl [HO]
    · iexact HO
    isplitl [Hhf5]
    · iexact Hhf5
    isplitl [Hrf4]
    · iexact Hrf4
    iexact Hlf5
  iintro ⟨HO, Hff5⟩
  sl_exec
  iapply (step_send (sent P) _ κ c _ true 5 (dev14_eq c) rfl rfl rfl rfl (debt c 0) rfl) $$ [HO Hht5 Hrt4 Hlt5]
  · isplitr
    · iexact Hrec
    isplitl [HO]
    · iexact HO
    isplitl [Hht5]
    · iexact Hht5
    isplitl [Hrt4]
    · iexact Hrt4
    iexact Hlt5
  iintro ⟨HO, Hft5⟩
  sl_exec
  iapply (step_sent (sent P) _ κ c false 5 0 (by decide) rfl (dst_credit_src false 5)) $$ [HO Hff5]
  · isplitr
    · iexact Hrec
    isplitl [HO]
    · iexact HO
    iexact Hff5
  iintro ⟨HO, Hlf5, Hsf5⟩
  sl_exec
  iapply (step_recv (sent P) _ κ c false 5 0 (by decide) rfl (dst_credit false 5)) $$ [HO Hlf5]
  · isplitr
    · iexact Hrec
    isplitl [HO]
    · iexact HO
    iexact Hlf5
  iintro ⟨HO, Hof5, Hrf5⟩
  sl_exec
  iapply (step_sent (sent P) _ κ c true 5 0 (by decide) rfl (dst_credit_src true 5)) $$ [HO Hft5]
  · isplitr
    · iexact Hrec
    isplitl [HO]
    · iexact HO
    iexact Hft5
  iintro ⟨HO, Hlt5, Hst5⟩
  sl_exec
  iapply (step_recv (sent P) _ κ c true 5 0 (by decide) rfl (dst_credit true 5)) $$ [HO Hlt5]
  · isplitr
    · iexact Hrec
    isplitl [HO]
    · iexact HO
    iexact Hlt5
  iintro ⟨HO, Hot5, Hrt5⟩
  sl_exec
  iapply (step_load _ c (Memref.whole cc0_scratch11) (Rect.unit (s := S3x512x512) ![2, 0, 0] S1x512x512.size inb_S3x512x512_S1x512x512_2_0_0) (fun _ => rfl) squeezes_S1x512x512_S512x512 rfl shapeCasts_S512x512_S1x512x512 (sent P false 5 (peer (!false) c))) $$ Hrf5
  iintro Hrf5
  sl_rw [Prog.bind_lift]
  iapply (step_read _ c _ _) $$ Hout
  iintro Hout
  sl_rw [Prog.bind_lift]
  iapply (step_place _ c (P c) _ _ _) $$ Hout
  iintro Hout
  sl_rw [Prog.bind_lift]
  iapply (step_load _ c (Memref.whole cc0_scratch12) (Rect.unit (s := S3x512x512) ![2, 0, 0] S1x512x512.size inb_S3x512x512_S1x512x512_2_0_0) (fun _ => rfl) squeezes_S1x512x512_S512x512 rfl shapeCasts_S512x512_S1x512x512 (sent P true 5 (peer (!true) c))) $$ Hrt5
  iintro Hrt5
  sl_rw [Prog.bind_lift]
  iapply (step_read _ c _ _) $$ Hout
  iintro Hout
  sl_rw [Prog.bind_lift]
  iapply (step_place _ c (P c) _ _ _) $$ Hout
  iintro Hout
  rw [tiles (P c) (result P c) (prv (prv (prv c))) (off7_2 c) ?_
    (nxt (nxt (nxt c))) (off8_2 c) ?_
    (c) (off9_0 c) ?_
    (c) (off10_0 c) ?_
    (prv c) (off9_1 c) ?_
    (nxt c) (off10_1 c) ?_
    (prv (prv c)) (off9_2 c) ?_
    (nxt (nxt c)) (off10_2 c) ?_ (prv_cover c) (nxt_cover c)]
  pick_goal 2
  · exact fun j i hi => result_piece P c (prv (prv (prv c))) false (off7_2 c) shapeCasts_S512x512_S1x512x512 ((pay235_at (fun _ => out_read (P c) _ (prv (prv (prv c))) false (off7_2 c) _ (fun _ _ => rfl) _) _ _).trans (congrArg (fun z => shapeCast S1x512x512 z shapeCasts_S512x512_S1x512x512) ((accum P false 2 c rfl rfl).trans (final_self P false (prv4 c)).symm))) j i hi
  pick_goal 2
  · exact fun j i hi => result_piece P c (nxt (nxt (nxt c))) true (off8_2 c) shapeCasts_S512x512_S1x512x512 ((pay236_at (fun _ => out_read (P c) _ (nxt (nxt (nxt c))) true (off8_2 c) _ (fun _ _ => rfl) _) _ _).trans (congrArg (fun z => shapeCast S1x512x512 z shapeCasts_S512x512_S1x512x512) ((accum P true 2 c rfl rfl).trans (final_self P true (nxt4 c)).symm))) j i hi
  pick_goal 2
  · exact fun j i hi => result_piece P c (c) false (off9_0 c) shapeCasts_S512x512_S1x512x512 ((pay240_at _ _).trans (congrArg (fun z => shapeCast S1x512x512 z shapeCasts_S512x512_S1x512x512) (final_ne P false (prv_ne c).1).symm)) j i hi
  pick_goal 2
  · exact fun j i hi => result_piece P c (c) true (off10_0 c) shapeCasts_S512x512_S1x512x512 ((pay241_at _ _).trans (congrArg (fun z => shapeCast S1x512x512 z shapeCasts_S512x512_S1x512x512) (final_ne P true (nxt_ne c).1).symm)) j i hi
  pick_goal 2
  · exact fun j i hi => result_piece P c (prv c) false (off9_1 c) shapeCasts_S512x512_S1x512x512 ((pay242_at _ _).trans (congrArg (fun z => shapeCast S1x512x512 z shapeCasts_S512x512_S1x512x512) (final_ne P false (prv_ne c).2.1).symm)) j i hi
  pick_goal 2
  · exact fun j i hi => result_piece P c (nxt c) true (off10_1 c) shapeCasts_S512x512_S1x512x512 ((pay243_at _ _).trans (congrArg (fun z => shapeCast S1x512x512 z shapeCasts_S512x512_S1x512x512) (final_ne P true (nxt_ne c).2.1).symm)) j i hi
  pick_goal 2
  · exact fun j i hi => result_piece P c (prv (prv c)) false (off9_2 c) shapeCasts_S512x512_S1x512x512 ((pay244_at _ _).trans (congrArg (fun z => shapeCast S1x512x512 z shapeCasts_S512x512_S1x512x512) (final_ne P false (prv_ne c).2.2).symm)) j i hi
  pick_goal 2
  · exact fun j i hi => result_piece P c (nxt (nxt c)) true (off10_2 c) shapeCasts_S512x512_S1x512x512 ((pay245_at _ _).trans (congrArg (fun z => shapeCast S1x512x512 z shapeCasts_S512x512_S1x512x512) (final_ne P true (nxt_ne c).2.2).symm)) j i hi
  sl_exec
  rw [wp_ret]
  imodintro
  unfold doneA
  isplitl [Hx Hw Hk Hv Ho Hout]
  · isplitl [Hx]; · iexact Hx
    isplitl [Hw]; · iexact Hw
    isplitl [Hk]; · iexact Hk
    isplitl [Hv]; · iexact Hv
    isplitl [Ho]; · iexact Ho
    iexact Hout
  isplitl [Hqp Hkp Hvp Hcp Hcg Hwq Hwo]
  · isplitl [Hqp]; · iexists _; iexact Hqp
    isplitl [Hkp]; · iexists _; iexact Hkp
    isplitl [Hvp]; · iexists _; iexact Hvp
    isplitl [Hcp]; · iexists _; iexact Hcp
    isplitl [Hcg]; · iexists _; iexact Hcg
    isplitl [Hwq]; · iexists _; iexact Hwq
    iexists _; iexact Hwo
  isplitl [Hsf0 Hsf1 Hsf2 Hsf3]
  · isplitl [Hsf0]; · iapply (holds_some c _ _) $$ Hsf0
    isplitl [Hsf1]; · iapply (holds_some c _ _) $$ Hsf1
    isplitl [Hsf2]; · iapply (holds_some c _ _) $$ Hsf2
    iapply (holds_some c _ _) $$ Hsf3
  isplitl [Hst0 Hst1 Hst2 Hst3]
  · isplitl [Hst0]; · iapply (holds_some c _ _) $$ Hst0
    isplitl [Hst1]; · iapply (holds_some c _ _) $$ Hst1
    isplitl [Hst2]; · iapply (holds_some c _ _) $$ Hst2
    iapply (holds_some c _ _) $$ Hst3
  isplitl [Hrf0 Hrf1 Hrf2]
  · isplitl [Hrf0]; · iapply (holds_some c _ _) $$ Hrf0
    isplitl [Hrf1]; · iapply (holds_some c _ _) $$ Hrf1
    iapply (holds_some c _ _) $$ Hrf2
  isplitl [Hrt0 Hrt1 Hrt2]
  · isplitl [Hrt0]; · iapply (holds_some c _ _) $$ Hrt0
    isplitl [Hrt1]; · iapply (holds_some c _ _) $$ Hrt1
    iapply (holds_some c _ _) $$ Hrt2
  isplitl [Hsf4 Hsf5 Hrf5]
  · isplitl [Hsf4]; · iapply (holds_some c _ _) $$ Hsf4
    isplitl [Hsf5]; · iapply (holds_some c _ _) $$ Hsf5
    iapply (holds_some c _ _) $$ Hrf5
  isplitl [Hst4 Hst5 Hrt5]
  · isplitl [Hst4]; · iapply (holds_some c _ _) $$ Hst4
    isplitl [Hst5]; · iapply (holds_some c _ _) $$ Hst5
    iapply (holds_some c _ _) $$ Hrt5
  isplitl [Hab]
  · iexact Hab
  isplitl [Hof0 Hot0 Hof1 Hot1 Hof2 Hot2 Hof3 Hot3 Hof4 Hot4 Hof5 Hot5]
  · isplitl [Hof0]; · iexact Hof0
    isplitl [Hot0]; · iexact Hot0
    isplitl [Hof1]; · iexact Hof1
    isplitl [Hot1]; · iexact Hot1
    isplitl [Hof2]; · iexact Hof2
    isplitl [Hot2]; · iexact Hot2
    isplitl [Hof3]; · iexact Hof3
    isplitl [Hot3]; · iexact Hot3
    isplitl [Hof4]; · iexact Hof4
    isplitl [Hot4]; · iexact Hot4
    isplitl [Hof5]; · iexact Hof5
    iexact Hot5
  iexact HO

end Cert.KernelIdeal.Ring
end
-- ==== Proof.Ring.Slots.lean ====
module

public import proofs.«01_k».proof.Proof.Ring.Protocol

@[expose] public section

/-! The slot buffers, taken apart into their slots and put together again. -/

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Two
variable {ℓ : Loc nD τ sig} {I J : Finset (Idx ℓ)}

theorem some_split (h : Disjoint I J) :
    (iprop(∃ f : Buf (Elt F) ℓ, ℓ ↦[I ∪ J]{fullShare} f) : sProp 𝕄) ⊢ iprop((∃ f : Buf (Elt F) ℓ, ℓ ↦[I]{fullShare} f) ∗ (∃ f : Buf (Elt F) ℓ, ℓ ↦[J]{fullShare} f)) := by
  iintro ⟨%f, H⟩
  ihave H' := (pointsTo_union h).1 $$ H
  icases H' with ⟨HI, HJ⟩
  isplitl [HI]
  · iexists f; iexact HI
  iexists f; iexact HJ

theorem some_join (h : Disjoint I J) :
    (iprop((∃ f : Buf (Elt F) ℓ, ℓ ↦[I]{fullShare} f) ∗ (∃ f : Buf (Elt F) ℓ, ℓ ↦[J]{fullShare} f)) : sProp 𝕄) ⊢ iprop(∃ f : Buf (Elt F) ℓ, ℓ ↦[I ∪ J]{fullShare} f) := by
  iintro ⟨⟨%f, HI⟩, ⟨%g, HJ⟩⟩
  iexists _
  iapply (pointsTo_join h)
  isplitl [HI] <;> iassumption
end Two

section Sets

variable {k k' : ℕ}

theorem mem_slot4 (m : Memref sig .tc .vmem S4x512x512 .bf16) (h) (x : S4x512x512.Idx) : m.view.emb x ∈ (slot4 m k h).view.set ↔ (x 0).val = k := by
  show _ ∈ ((m.view.slice _).reshape S512x512 _).set ↔ _
  rw [View.set_reshape, View.set_slice, Finset.mem_map' m.view.emb, Rect.mem_set_unit]
  constructor
  · intro H; have := H 0; simp only [Matrix.cons_val_zero] at this
    have e : S1x512x512.size 0 = 1 := rfl
    omega
  · intro H a
    have e0 : S1x512x512.size 0 = 1 := rfl
    have e1 : S1x512x512.size 1 = 512 := rfl
    have e2 : S1x512x512.size 2 = 512 := rfl
    have l1 : (x 1).val < 512 := (x 1).isLt
    have l2 : (x 2).val < 512 := (x 2).isLt
    match a with
    | 0 => show k ≤ (x 0).val ∧ (x 0).val < k + 1; omega
    | 1 => show 0 ≤ (x 1).val ∧ (x 1).val < 0 + 512; omega
    | 2 => show 0 ≤ (x 2).val ∧ (x 2).val < 0 + 512; omega

theorem mem_slot3 (m : Memref sig .tc .vmem S3x512x512 .bf16) (h) (x : S3x512x512.Idx) : m.view.emb x ∈ (slot3 m k h).view.set ↔ (x 0).val = k := by
  show _ ∈ ((m.view.slice _).reshape S512x512 _).set ↔ _
  rw [View.set_reshape, View.set_slice, Finset.mem_map' m.view.emb, Rect.mem_set_unit]
  constructor
  · intro H; have := H 0; simp only [Matrix.cons_val_zero] at this
    have e : S1x512x512.size 0 = 1 := rfl
    omega
  · intro H a
    have l1 : (x 1).val < 512 := (x 1).isLt
    have l2 : (x 2).val < 512 := (x 2).isLt
    match a with
    | 0 => show k ≤ (x 0).val ∧ (x 0).val < k + 1; omega
    | 1 => show 0 ≤ (x 1).val ∧ (x 1).val < 0 + 512; omega
    | 2 => show 0 ≤ (x 2).val ∧ (x 2).val < 0 + 512; omega

end Sets

section Four
variable (m : Memref sig .tc .vmem S4x512x512 .bf16)

abbrev at4 (k : Fin 4) : Memref sig .tc .vmem S512x512 .bf16 := match k with
  | 0 => slot4 m 0 inb_S4x512x512_S1x512x512_0_0_0
  | 1 => slot4 m 1 inb_S4x512x512_S1x512x512_1_0_0
  | 2 => slot4 m 2 inb_S4x512x512_S1x512x512_2_0_0
  | 3 => slot4 m 3 inb_S4x512x512_S1x512x512_3_0_0

theorem sets4 (hm : m.view.set = Finset.univ) (y : m.view.ty.Idx) : ∃ x : S4x512x512.Idx, y = m.view.emb x := by
  have := hm ▸ Finset.mem_univ y
  obtain ⟨x, -, e⟩ := Finset.mem_map.mp this
  exact ⟨x, e.symm⟩

theorem disj4 (hm : m.view.set = Finset.univ) {k k' : ℕ} (h h') (hk : k ≠ k') : Disjoint (slot4 m k h).view.set (slot4 m k' h').view.set := by
  rw [Finset.disjoint_left]
  intro y h1 h2
  obtain ⟨x, rfl⟩ := sets4 m hm y
  exact hk (((mem_slot4 m h x).mp h1).symm.trans ((mem_slot4 m h' x).mp h2))

theorem union4 (hm : m.view.set = Finset.univ) :
    (slot4 m 0 inb_S4x512x512_S1x512x512_0_0_0).view.set ∪ ((slot4 m 1 inb_S4x512x512_S1x512x512_1_0_0).view.set
      ∪ ((slot4 m 2 inb_S4x512x512_S1x512x512_2_0_0).view.set ∪ (slot4 m 3 inb_S4x512x512_S1x512x512_3_0_0).view.set)) = (Finset.univ : Finset m.view.ty.Idx) := by
  ext y
  refine ⟨fun _ => Finset.mem_univ _, fun _ => ?_⟩
  obtain ⟨x, rfl⟩ := sets4 m hm y
  have l : (x 0).val < 4 := (x 0).isLt
  simp only [Finset.mem_union]
  rw [mem_slot4 m, mem_slot4 m, mem_slot4 m, mem_slot4 m]
  omega

theorem disj4s (hm : m.view.set = Finset.univ) :
    Disjoint (slot4 m 0 inb_S4x512x512_S1x512x512_0_0_0).view.set ((slot4 m 1 inb_S4x512x512_S1x512x512_1_0_0).view.set
      ∪ ((slot4 m 2 inb_S4x512x512_S1x512x512_2_0_0).view.set ∪ (slot4 m 3 inb_S4x512x512_S1x512x512_3_0_0).view.set))
    ∧ Disjoint (slot4 m 1 inb_S4x512x512_S1x512x512_1_0_0).view.set
      ((slot4 m 2 inb_S4x512x512_S1x512x512_2_0_0).view.set ∪ (slot4 m 3 inb_S4x512x512_S1x512x512_3_0_0).view.set)
    ∧ Disjoint (slot4 m 2 inb_S4x512x512_S1x512x512_2_0_0).view.set (slot4 m 3 inb_S4x512x512_S1x512x512_3_0_0).view.set := by
  refine ⟨Finset.disjoint_union_right.mpr ⟨?_, Finset.disjoint_union_right.mpr ⟨?_, ?_⟩⟩, Finset.disjoint_union_right.mpr ⟨?_, ?_⟩, ?_⟩ <;>
    exact disj4 m hm _ _ (by decide)

/-- A buffer of four slots is its slots. -/
theorem open4 (hm : m.view.set = Finset.univ) (c : Dev nD) :
    (iprop(∃ f : Buf (Elt F) (m.view.loc (c : Thread nD τ)), m.view.loc (c : Thread nD τ) ↦{fullShare} f) : sProp 𝕄)
      ⊢ iprop(some_ c (at4 m 0) ∗ some_ c (at4 m 1) ∗ some_ c (at4 m 2) ∗ some_ c (at4 m 3)) := by
  obtain ⟨d0, d1, d2⟩ := disj4s m hm
  have e := union4 m hm
  refine (show _ ⊢ iprop(∃ f : Buf (Elt F) (m.view.loc (c : Thread nD τ)), m.view.loc (c : Thread nD τ) ↦[_]{fullShare} f) from
    Entails.of_eq (by rw [← e])).trans ?_
  refine (some_split d0).trans (sep_mono_right ((some_split d1).trans (sep_mono_right (some_split d2))))

theorem close4 (hm : m.view.set = Finset.univ) (c : Dev nD) :
    (iprop(some_ c (at4 m 0) ∗ some_ c (at4 m 1) ∗ some_ c (at4 m 2) ∗ some_ c (at4 m 3)) : sProp 𝕄)
      ⊢ iprop(∃ f : Buf (Elt F) (m.view.loc (c : Thread nD τ)), m.view.loc (c : Thread nD τ) ↦{fullShare} f) := by
  obtain ⟨d0, d1, d2⟩ := disj4s m hm
  have e := union4 m hm
  refine BIBase.Entails.trans ?_ (show iprop(∃ f : Buf (Elt F) (m.view.loc (c : Thread nD τ)), m.view.loc (c : Thread nD τ) ↦[_]{fullShare} f) ⊢ _ from
    Entails.of_eq (by rw [← e]))
  exact (sep_mono_right ((sep_mono_right (some_join d2)).trans (some_join d1))).trans (some_join d0)

end Four

section Three
variable (m : Memref sig .tc .vmem S3x512x512 .bf16)

abbrev at3 (k : Fin 3) : Memref sig .tc .vmem S512x512 .bf16 := match k with
  | 0 => slot3 m 0 inb_S3x512x512_S1x512x512_0_0_0
  | 1 => slot3 m 1 inb_S3x512x512_S1x512x512_1_0_0
  | 2 => slot3 m 2 inb_S3x512x512_S1x512x512_2_0_0

theorem sets3 (hm : m.view.set = Finset.univ) (y : m.view.ty.Idx) : ∃ x : S3x512x512.Idx, y = m.view.emb x := by
  have := hm ▸ Finset.mem_univ y
  obtain ⟨x, -, e⟩ := Finset.mem_map.mp this
  exact ⟨x, e.symm⟩

theorem disj3 (hm : m.view.set = Finset.univ) {k k' : ℕ} (h h') (hk : k ≠ k') : Disjoint (slot3 m k h).view.set (slot3 m k' h').view.set := by
  rw [Finset.disjoint_left]
  intro y h1 h2
  obtain ⟨x, rfl⟩ := sets3 m hm y
  exact hk (((mem_slot3 m h x).mp h1).symm.trans ((mem_slot3 m h' x).mp h2))

theorem union3 (hm : m.view.set = Finset.univ) :
    (slot3 m 0 inb_S3x512x512_S1x512x512_0_0_0).view.set ∪ ((slot3 m 1 inb_S3x512x512_S1x512x512_1_0_0).view.set
      ∪ (slot3 m 2 inb_S3x512x512_S1x512x512_2_0_0).view.set) = (Finset.univ : Finset m.view.ty.Idx) := by
  ext y
  refine ⟨fun _ => Finset.mem_univ _, fun _ => ?_⟩
  obtain ⟨x, rfl⟩ := sets3 m hm y
  have l : (x 0).val < 3 := (x 0).isLt
  simp only [Finset.mem_union]
  rw [mem_slot3 m, mem_slot3 m, mem_slot3 m]
  omega

theorem disj3s (hm : m.view.set = Finset.univ) :
    Disjoint (slot3 m 0 inb_S3x512x512_S1x512x512_0_0_0).view.set ((slot3 m 1 inb_S3x512x512_S1x512x512_1_0_0).view.set
      ∪ (slot3 m 2 inb_S3x512x512_S1x512x512_2_0_0).view.set)
    ∧ Disjoint (slot3 m 1 inb_S3x512x512_S1x512x512_1_0_0).view.set (slot3 m 2 inb_S3x512x512_S1x512x512_2_0_0).view.set := by
  refine ⟨Finset.disjoint_union_right.mpr ⟨?_, ?_⟩, ?_⟩ <;> exact disj3 m hm _ _ (by decide)

/-- A buffer of three slots is its slots. -/
theorem open3 (hm : m.view.set = Finset.univ) (c : Dev nD) :
    (iprop(∃ f : Buf (Elt F) (m.view.loc (c : Thread nD τ)), m.view.loc (c : Thread nD τ) ↦{fullShare} f) : sProp 𝕄)
      ⊢ iprop(some_ c (at3 m 0) ∗ some_ c (at3 m 1) ∗ some_ c (at3 m 2)) := by
  obtain ⟨d0, d1⟩ := disj3s m hm
  have e := union3 m hm
  refine (show _ ⊢ iprop(∃ f : Buf (Elt F) (m.view.loc (c : Thread nD τ)), m.view.loc (c : Thread nD τ) ↦[_]{fullShare} f) from
    Entails.of_eq (by rw [← e])).trans ?_
  exact (some_split d0).trans (sep_mono_right (some_split d1))

theorem close3 (hm : m.view.set = Finset.univ) (c : Dev nD) :
    (iprop(some_ c (at3 m 0) ∗ some_ c (at3 m 1) ∗ some_ c (at3 m 2)) : sProp 𝕄)
      ⊢ iprop(∃ f : Buf (Elt F) (m.view.loc (c : Thread nD τ)), m.view.loc (c : Thread nD τ) ↦{fullShare} f) := by
  obtain ⟨d0, d1⟩ := disj3s m hm
  have e := union3 m hm
  refine BIBase.Entails.trans ?_ (show iprop(∃ f : Buf (Elt F) (m.view.loc (c : Thread nD τ)), m.view.loc (c : Thread nD τ) ↦[_]{fullShare} f) ⊢ _ from
    Entails.of_eq (by rw [← e]))
  exact (sep_mono_right (some_join d1)).trans (some_join d0)

end Three

end Cert.KernelIdeal.Ring
end
-- ==== Proof.Ring.Region.lean ====
module

public import proofs.«01_k».proof.Proof.Ring.RunF
public import proofs.«01_k».proof.Proof.Ring.Slots
public import proofs.«01_k».proof.Proof.Gen.KernelIdeal.Regions
public import Idealize.ShloMosaic.Lib.Pipeline.RegionTalk
public import Idealize.ShloMosaic.Lib.Pipeline.ValueKit
public import Idealize.ShloMosaic.Lib.Rounds.Family

@[expose] public section

/-! The kernel's region: what its windows hold before and after the body, and the body's obligation. -/

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ

variable (m : (ℓ : Loc nD τ sig) → Buf (Elt F) ℓ)

/-! ### The arrays -/

/-- What the kernel's windows hold on device `c` when the region is entered. -/
def xIn (c : Dev nD) : S2048x1024.Idx → Elt F .bf16 := V1 m c (Proc.devRef .tc main_v5)
def wIn (c : Dev nD) : S1024x1024.Idx → Elt F .bf16 := V1 m c (Proc.devRef .tc main_arg1)
def kIn (c : Dev nD) : S2048x1024.Idx → Elt F .bf16 := V1 m c (Proc.devRef .tc main_v18)
def vIn (c : Dev nD) : S2048x1024.Idx → Elt F .bf16 := V1 m c (Proc.devRef .tc main_v19)
def oIn (c : Dev nD) : S1024x1024.Idx → Elt F .bf16 := V1 m c (Proc.devRef .tc main_arg4)

/-- Device `c`'s partial result. -/
def Pm (c : Dev nD) : FVec F S1x2048x1024 .f32 :=
  part (ctx (regroup (qAll (xIn m c) (wIn m c))) (regroup (kIn m c)) (regroup (vIn m c))) (oIn m c)

/-- The result array of device `c`. -/
def outOf (c : Dev nD) : S1x2048x1024.Idx → Elt F .f32 := result (Pm m) c

/-- The buffers when the region is left. -/
def Vout (c : Dev nD) : Valuation τ sig (Elt F) := Function.update (V1 m c) (Proc.devRef .tc main_v20) (outOf m c)

theorem Vout_out (c : Dev nD) : Vout m c (Proc.devRef .tc main_v20) = outOf m c := Function.update_self ..
theorem Vout_of (c : Dev nD) (r : Ref sig .tc) (h : r ∉ ([main_v20] : List (Ref sig .tc))) : Vout m c (Proc.devRef .tc r) = V1 m c (Proc.devRef .tc r) :=
  Function.update_of_ne (StableHlo.devRef_ne_of_ne (List.ne_of_not_mem_cons h) : (Proc.devRef .tc r : DevRef τ sig) ≠ Proc.devRef .tc main_v20) _ _

/-! ### The cells as one family -/

def osem (k : Bool × Bool × Fin 6) : SemLoc sig := .dma (dsem k.1 k.2.1 k.2.2)

theorem cells_split (Θ : Bool × Bool × Fin 6 → sProp 𝕄) :
    bigSep Finset.univ Θ = bigSep Finset.univ fun k : Bool × Fin 6 => iprop(Θ (k.1, false, k.2) ∗ Θ (k.1, true, k.2)) := by
  rw [bigSep_univ_prod, bigSep_univ_prod]
  refine bigSep_congr fun d _ => ?_
  rw [bigSep_univ_prod, bigSep_sep', bigSep_univ_eq_bigSepL [false, true] (by decide) (by decide)]
  rfl

theorem hops_eq (Ψ : Bool × Fin 6 → sProp 𝕄) : bigSep Finset.univ Ψ
    = iprop(Ψ (false, 0) ∗ Ψ (true, 0) ∗ Ψ (false, 1) ∗ Ψ (true, 1) ∗ Ψ (false, 2) ∗ Ψ (true, 2) ∗ Ψ (false, 3) ∗ Ψ (true, 3)
        ∗ Ψ (false, 4) ∗ Ψ (true, 4) ∗ Ψ (false, 5) ∗ Ψ (true, 5)) :=
  bigSep_univ_eq_bigSepL [(false, 0), (true, 0), (false, 1), (true, 1), (false, 2), (true, 2), (false, 3), (true, 3), (false, 4), (true, 4), (false, 5), (true, 5)]
    (by decide) (by decide) Ψ

/-! ### The protocol's share of a device -/

/-- What the launch dealt device `c` for hop `i` in direction `d`. -/
def dealt (d : Bool) (i : Fin 6) (c : Dev nD) : sProp 𝕄 :=
  iprop(dutyTok ER (sCell d i c) 0 false ∗ dutyTok ER (rCell d i (peer d c)) 0 false ∗ cred (tallyAt (rCell d i c) () N))

/-- The barrier's share. -/
def gate (c : Dev nD) : sProp 𝕄 :=
  iprop(dutyTok ER (barCell (prv c)) 0 false ∗ dutyTok ER (barCell (nxt c)) 0 true ∗ cred (tallyAt (barCell c) () 2) ∗ atPos ER (barCell c) 0 ∅ 0)

/-- Before the copies' cells are open. -/
def Tk (c : Dev nD) : sProp 𝕄 :=
  iprop(∃ κ, records (sent (Pm m)) κ ∗ gate c ∗ (bigSep Finset.univ fun k : Bool × Bool × Fin 6 => openTok ER ((c : Thread nD τ), osem k))
    ∗ bigSep Finset.univ fun k : Bool × Fin 6 => dealt k.1 k.2 c)

/-- After. -/
def Xk (c : Dev nD) : sProp 𝕄 :=
  iprop(∃ κ, records (sent (Pm m)) κ ∗ gate c ∗ bigSep Finset.univ fun k : Bool × Fin 6 => iprop(hop k.1 k.2 c ∗ reached ER (rCell k.1 k.2 c) 0))

def Yk (c : Dev nD) : sProp 𝕄 := semVal (barCell c) 0

theorem hop_intro (d : Bool) (i : Fin 6) (c : Dev nD) :
    iprop(dealt d i c ∗ (atPos ER (sCell d i c) 0 ∅ 0 ∗ reached ER (sCell d i c) 0) ∗ (atPos ER (rCell d i c) 0 ∅ 0 ∗ reached ER (rCell d i c) 0))
      ⊢ (iprop(hop d i c ∗ reached ER (rCell d i c) 0) : sProp 𝕄) := by
  unfold dealt hop
  iintro ⟨⟨Ht, Hu, Hc⟩, ⟨Ha, Hr⟩, ⟨Hb, Hs⟩⟩
  isplitr [Hs]
  · isplitl [Ht]; · iexact Ht
    isplitl [Hu]; · iexact Hu
    isplitl [Hr]; · iexact Hr
    isplitl [Ha]; · iexact Ha
    isplitl [Hb] <;> iassumption
  iexact Hs

theorem hopen (c : Dev nD) : iprop(Tk m c ∗ Pipeline.ownSems0 osem c ∗ levAts L lv) ⊢ (|={Set.univ}=> Xk m c : sProp 𝕄) := by
  unfold Tk Xk Pipeline.ownSems0
  iintro ⟨⟨%κ, #HR, Hg, Ho, Hd⟩, Hs, -⟩
  have h1 : iprop(records (sent (Pm m)) κ ∗ bigSep Finset.univ fun k : Bool × Bool × Fin 6 => openTok ER ((c : Thread nD τ), osem k))
      ⊢ (bigSep Finset.univ fun k : Bool × Bool × Fin 6 => iprop(cellInv ER (rd (sent (Pm m))) (κ ((c : Thread nD τ), osem k)) ((c : Thread nD τ), osem k) ∗ openTok ER ((c : Thread nD τ), osem k)) : sProp 𝕄) :=
    bigSep_with_persistent fun k _ => sep_mono_left (inv_dma (sent (Pm m)) κ c k.1 k.2.1 k.2.2)
  ihave Hio := h1 $$ [Ho]
  · isplitr; · iexact HR
    iexact Ho
  imod (Rounds.cells_open ER (rd (sent (Pm m))) Finset.univ (fun k : Bool × Bool × Fin 6 => ((c : Thread nD τ), osem k))
    (fun k => κ ((c : Thread nD τ), osem k)) (Es := Set.univ) (fun k _ => Set.mem_univ _)) $$ [Hio Hs] with Ha
  · isplitl [Hio]; · iexact Hio
    iexact Hs
  imodintro
  iexists κ
  isplitr; · iexact HR
  isplitl [Hg]; · iexact Hg
  have h2 : (bigSep Finset.univ fun k : Bool × Bool × Fin 6 => (iprop(atPos ER ((c : Thread nD τ), osem k) 0 ∅ 0 ∗ reached ER ((c : Thread nD τ), osem k) 0) : sProp 𝕄))
      ⊢ (bigSep Finset.univ fun k : Bool × Fin 6 => iprop((atPos ER (sCell k.1 k.2 c) 0 ∅ 0 ∗ reached ER (sCell k.1 k.2 c) 0) ∗ (atPos ER (rCell k.1 k.2 c) 0 ∅ 0 ∗ reached ER (rCell k.1 k.2 c) 0)) : sProp 𝕄) :=
    Entails.of_eq (cells_split _)
  ihave Hb := h2 $$ Ha
  have h3 : iprop((bigSep Finset.univ fun k : Bool × Fin 6 => dealt k.1 k.2 c)
        ∗ bigSep Finset.univ fun k : Bool × Fin 6 => iprop((atPos ER (sCell k.1 k.2 c) 0 ∅ 0 ∗ reached ER (sCell k.1 k.2 c) 0) ∗ (atPos ER (rCell k.1 k.2 c) 0 ∅ 0 ∗ reached ER (rCell k.1 k.2 c) 0)))
      ⊢ (bigSep Finset.univ fun k : Bool × Fin 6 => iprop(hop k.1 k.2 c ∗ reached ER (rCell k.1 k.2 c) 0) : sProp 𝕄) := by
    rw [← bigSep_sep']
    exact bigSep_mono fun k _ => hop_intro k.1 k.2 c
  iapply h3
  isplitl [Hd] <;> iassumption

/-! ### Before and after the body -/

/-- The buffers the windows don't stage. -/
def scratch (c : Dev nD) : sProp 𝕄 := Pipeline.scopedRest spec0 c

theorem scratch_eq (c : Dev nD) : (scratch c : sProp 𝕄)
    = iprop((∃ f, pt c cc0_scratch0 f) ∗ (∃ f, pt c cc0_scratch1 f) ∗ (∃ f, pt c cc0_scratch2 f) ∗ (∃ f, pt c cc0_scratch3 f) ∗ (∃ f, pt c cc0_scratch4 f)
      ∗ (∃ f, pt c cc0_scratch5 f) ∗ (∃ f, pt c cc0_scratch6 f) ∗ (∃ f, pt c cc0_scratch7 f) ∗ (∃ f, pt c cc0_scratch8 f) ∗ (∃ f, pt c cc0_scratch9 f)
      ∗ (∃ f, pt c cc0_scratch10 f) ∗ (∃ f, pt c cc0_scratch11 f) ∗ (∃ f, pt c cc0_scratch12 f)) := scopedRest0_eq c

theorem pre_body (c : Dev nD) (κ : GSem nD τ sig → ℕ) :
    iprop(records (sent (Pm m)) κ ∗ owing c (O₀ c) ∗ gate c ∗ (bigSep Finset.univ fun k : Bool × Fin 6 => iprop(hop k.1 k.2 c ∗ reached ER (rCell k.1 k.2 c) 0))
        ∗ (∃ f, pt c cc0_scratch7 f) ∗ (∃ f, pt c cc0_scratch8 f) ∗ (∃ f, pt c cc0_scratch9 f)
        ∗ (∃ f, pt c cc0_scratch10 f) ∗ (∃ f, pt c cc0_scratch11 f) ∗ (∃ f, pt c cc0_scratch12 f))
      ⊢ (start (Pm m) κ c : sProp 𝕄) := by
  rw [bigSep_sep', hops_eq, hops_eq]
  unfold start gate slotsAt land
  iintro ⟨#HR, HO, ⟨Ht, Hu, Hc, Ha⟩, ⟨Hhops, ⟨#R1, #R2, #R3, #R4, #R5, #R6, #R7, #R8, #R9, #R10, #R11, #R12⟩⟩, H7, H8, H9, H10, H11, H12⟩
  ihave H7 := (open4 (F := F) (Memref.whole cc0_scratch7) (View.set_whole _) c) $$ H7
  icases H7 with ⟨S70, S71, S72, S73⟩
  ihave H8 := (open4 (F := F) (Memref.whole cc0_scratch8) (View.set_whole _) c) $$ H8
  icases H8 with ⟨S80, S81, S82, S83⟩
  ihave H9 := (open3 (F := F) (Memref.whole cc0_scratch9) (View.set_whole _) c) $$ H9
  icases H9 with ⟨S90, S91, S92⟩
  ihave H10 := (open3 (F := F) (Memref.whole cc0_scratch10) (View.set_whole _) c) $$ H10
  icases H10 with ⟨SA0, SA1, SA2⟩
  ihave H11 := (open3 (F := F) (Memref.whole cc0_scratch11) (View.set_whole _) c) $$ H11
  icases H11 with ⟨SB0, SB1, SB2⟩
  ihave H12 := (open3 (F := F) (Memref.whole cc0_scratch12) (View.set_whole _) c) $$ H12
  icases H12 with ⟨SC0, SC1, SC2⟩
  isplitr; · iexact HR
  isplitl [HO]; · iexact HO
  isplitl [Ht Hu Hc Ha S90 S91 S92 SA0 SA1 SA2 SB0 SB1 SB2 SC0 SC1 SC2]
  · isplitl [Ht]; · iexact Ht
    isplitl [Hu]; · iexact Hu
    isplitl [S90 S91 S92 SB0 SB1 SB2]
    · isplitl [S90]
      · isplitl [S90]; · iexact S90
        iexact R1
      isplitl [S91]
      · isplitl [S91]; · iexact S91
        iexact R3
      isplitl [S92]
      · isplitl [S92]; · iexact S92
        iexact R5
      isplitl [SB0]
      · isplitl [SB0]; · iexact SB0
        iexact R7
      isplitl [SB1]
      · isplitl [SB1]; · iexact SB1
        iexact R9
      isplitl [SB2]; · iexact SB2
      iexact R11
    isplitl [SA0 SA1 SA2 SC0 SC1 SC2]
    · isplitl [SA0]
      · isplitl [SA0]; · iexact SA0
        iexact R2
      isplitl [SA1]
      · isplitl [SA1]; · iexact SA1
        iexact R4
      isplitl [SA2]
      · isplitl [SA2]; · iexact SA2
        iexact R6
      isplitl [SC0]
      · isplitl [SC0]; · iexact SC0
        iexact R8
      isplitl [SC1]
      · isplitl [SC1]; · iexact SC1
        iexact R10
      isplitl [SC2]; · iexact SC2
      iexact R12
    isplitl [Hc] <;> iassumption
  isplitl [S70 S71 S72 S73 S80 S81 S82 S83]
  · isplitl [S70]; · iexact S70
    isplitl [S80]; · iexact S80
    isplitl [S71]; · iexact S71
    isplitl [S81]; · iexact S81
    isplitl [S72]; · iexact S72
    isplitl [S82]; · iexact S82
    isplitl [S73]; · iexact S73
    iexact S83
  iexact Hhops

/-- What the body leaves, but for the windows. -/
def leaves (c : Dev nD) : sProp 𝕄 := iprop(semVal (barCell c) 0 ∗ Pipeline.ownSems0 osem c ∗ scratch c ∗ owing c 0)

theorem close_dma (c : Dev nD) (κ : GSem nD τ sig → ℕ) :
    iprop(records (sent (Pm m)) κ ∗ bigSep Finset.univ fun k : Bool × Fin 6 => over k.1 k.2 c) ⊢ (|={Set.univ}=> Pipeline.ownSems0 osem c : sProp 𝕄) := by
  unfold Pipeline.ownSems0
  have h1 : (bigSep Finset.univ fun k : Bool × Fin 6 => (over k.1 k.2 c : sProp 𝕄))
      ⊢ (bigSep Finset.univ fun k : Bool × Bool × Fin 6 => (atPos ER ((c : Thread nD τ), osem k) 1 ∅ 0 : sProp 𝕄)) := by
    rw [cells_split]; exact Entails.of_eq rfl
  refine (sep_mono_right h1).trans ?_
  refine (bigSep_with_persistent (Ψ := fun k => iprop(cellInv ER (rd (sent (Pm m))) (κ ((c : Thread nD τ), osem k)) ((c : Thread nD τ), osem k) ∗ atPos ER ((c : Thread nD τ), osem k) 1 ∅ 0))
    fun k _ => sep_mono_left (inv_dma (sent (Pm m)) κ c k.1 k.2.1 k.2.2)).trans ?_
  exact Rounds.cells_close ER (rd (sent (Pm m))) Finset.univ (fun k : Bool × Bool × Fin 6 => ((c : Thread nD τ), osem k))
    (fun k => κ ((c : Thread nD τ), osem k)) (fun k _ => Set.mem_univ _) (fun k _ => id) (fun _ => 1) (fun k _ => duties_later _ _)

theorem post_body (c : Dev nD) (κ : GSem nD τ sig → ℕ) (x w k v o) :
    iprop(records (sent (Pm m)) κ ∗ doneA c x w k v o (Pm m))
      ⊢ (|={Set.univ}=> ((pt c cc0_stg0_0 x ∗ pt c cc0_stg1_0 w ∗ pt c cc0_stg2_0 k ∗ pt c cc0_stg3_0 v ∗ pt c cc0_stg4_0 o
          ∗ pt c cc0_stg5_0 (result (Pm m) c)) ∗ leaves c) : sProp 𝕄) := by
  unfold doneA leaves
  rw [scratch_eq]
  iintro ⟨#HR, Hw, ⟨G0, G1, G2, G3, G4, G5, G6⟩, ⟨S70, S71, S72, S73⟩, ⟨S80, S81, S82, S83⟩, ⟨S90, S91, S92⟩, ⟨SA0, SA1, SA2⟩, ⟨SB0, SB1, SB2⟩,
    ⟨SC0, SC1, SC2⟩, Hb, Hover, HO⟩
  have h1 := hops_eq (F := F) (fun k : Bool × Fin 6 => over k.1 k.2 c)
  ihave Hov := (Entails.of_eq h1.symm) $$ Hover
  imod (close_dma m c κ) $$ [Hov] with Hs
  · isplitr; · iexact HR
    iexact Hov
  ihave #HI := (inv_bar (sent (Pm m)) κ c) $$ HR
  imod (Rounds.cell_close ER (rd (sent (Pm m))) (g := barCell c) (Set.mem_univ (κ (barCell c))) id (duties_later (sent (Pm m)) (barCell c))) $$ [Hb] with Hb
  · isplitr; · iexact HI
    iexact Hb
  imodintro
  isplitl [Hw]; · iexact Hw
  isplitl [Hb]; · iexact Hb
  isplitl [Hs]; · iexact Hs
  isplitr [HO]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [S70 S71 S72 S73]
    · iapply (close4 (F := F) (Memref.whole cc0_scratch7) (View.set_whole _) c)
      isplitl [S70]; · iexact S70
      isplitl [S71]; · iexact S71
      isplitl [S72] <;> iassumption
    isplitl [S80 S81 S82 S83]
    · iapply (close4 (F := F) (Memref.whole cc0_scratch8) (View.set_whole _) c)
      isplitl [S80]; · iexact S80
      isplitl [S81]; · iexact S81
      isplitl [S82] <;> iassumption
    isplitl [S90 S91 S92]
    · iapply (close3 (F := F) (Memref.whole cc0_scratch9) (View.set_whole _) c)
      isplitl [S90]; · iexact S90
      isplitl [S91] <;> iassumption
    isplitl [SA0 SA1 SA2]
    · iapply (close3 (F := F) (Memref.whole cc0_scratch10) (View.set_whole _) c)
      isplitl [SA0]; · iexact SA0
      isplitl [SA1] <;> iassumption
    isplitl [SB0 SB1 SB2]
    · iapply (close3 (F := F) (Memref.whole cc0_scratch11) (View.set_whole _) c)
      isplitl [SB0]; · iexact SB0
      isplitl [SB1] <;> iassumption
    iapply (close3 (F := F) (Memref.whole cc0_scratch12) (View.set_whole _) c)
    isplitl [SC0]; · iexact SC0
    isplitl [SC1] <;> iassumption
  iexact HO

end Cert.KernelIdeal.Ring
end
-- ==== Proof.Ring.Body.lean ====
module

public import proofs.«01_k».proof.Proof.Ring.Region

@[expose] public section

/-! The region's record: its data, the body's obligation, and how it is entered and left. -/

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ

variable (m : (ℓ : Loc nD τ sig) → Buf (Elt F) ℓ)

/-- The region's data: the arrays as the host left them, the result array at the device's result afterwards. -/
def dat0 (c : Dev nD) : Dat τ (Elt F) Unit ℕ UU ℕ cfg0 c where
  A w := V1 m c (Proc.devRef .tc (Pipeline.arrRef spec0 w))
  after w _ := match w with
    | ⟨0, _⟩ => xIn m c
    | ⟨1, _⟩ => wIn m c
    | ⟨2, _⟩ => kIn m c
    | ⟨3, _⟩ => vIn m c
    | ⟨4, _⟩ => oIn m c
    | ⟨5, _⟩ => outOf m c
  Φ t := if t.val = 0 then iprop(Xk m c ∗ scratch c ∗ ∃ r, prngReg c r)
    else iprop(semVal (barCell c) 0 ∗ Pipeline.ownSems0 osem c ∗ scratch c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem blk_0 (f : (main_v5 : Ref sig .tc).ty.Contents (Elt F)) : ((cfg0.win 0).blk t0_0).view.read (Elt F) f = f := by
  funext y
  show f (((cfg0.win 0).blk t0_0).view.emb y) = f y
  refine congrArg f (funext fun a => Fin.ext ?_)
  exact Pipeline.Window.rect_emb_val_of_index_zero (cfg0.win 0) t0_0 a rfl y
theorem before_0 (c : Dev nD) (d : (cfg0.win 0).block.Idx → Elt F (cfg0.win 0).elt) : (dat0 m c).before 0 t0_0 d = xIn m c := by
  unfold Dat.before
  rw [if_pos (fetch0_0 t0_0)]
  exact blk_0 (xIn m c)
theorem blk_1 (f : (main_arg1 : Ref sig .tc).ty.Contents (Elt F)) : ((cfg0.win 1).blk t0_0).view.read (Elt F) f = f := by
  funext y
  show f (((cfg0.win 1).blk t0_0).view.emb y) = f y
  refine congrArg f (funext fun a => Fin.ext ?_)
  exact Pipeline.Window.rect_emb_val_of_index_zero (cfg0.win 1) t0_0 a rfl y
theorem before_1 (c : Dev nD) (d : (cfg0.win 1).block.Idx → Elt F (cfg0.win 1).elt) : (dat0 m c).before 1 t0_0 d = wIn m c := by
  unfold Dat.before
  rw [if_pos (fetch0_1 t0_0)]
  exact blk_1 (wIn m c)
theorem blk_2 (f : (main_v18 : Ref sig .tc).ty.Contents (Elt F)) : ((cfg0.win 2).blk t0_0).view.read (Elt F) f = f := by
  funext y
  show f (((cfg0.win 2).blk t0_0).view.emb y) = f y
  refine congrArg f (funext fun a => Fin.ext ?_)
  exact Pipeline.Window.rect_emb_val_of_index_zero (cfg0.win 2) t0_0 a rfl y
theorem before_2 (c : Dev nD) (d : (cfg0.win 2).block.Idx → Elt F (cfg0.win 2).elt) : (dat0 m c).before 2 t0_0 d = kIn m c := by
  unfold Dat.before
  rw [if_pos (fetch0_2 t0_0)]
  exact blk_2 (kIn m c)
theorem blk_3 (f : (main_v19 : Ref sig .tc).ty.Contents (Elt F)) : ((cfg0.win 3).blk t0_0).view.read (Elt F) f = f := by
  funext y
  show f (((cfg0.win 3).blk t0_0).view.emb y) = f y
  refine congrArg f (funext fun a => Fin.ext ?_)
  exact Pipeline.Window.rect_emb_val_of_index_zero (cfg0.win 3) t0_0 a rfl y
theorem before_3 (c : Dev nD) (d : (cfg0.win 3).block.Idx → Elt F (cfg0.win 3).elt) : (dat0 m c).before 3 t0_0 d = vIn m c := by
  unfold Dat.before
  rw [if_pos (fetch0_3 t0_0)]
  exact blk_3 (vIn m c)
theorem blk_4 (f : (main_arg4 : Ref sig .tc).ty.Contents (Elt F)) : ((cfg0.win 4).blk t0_0).view.read (Elt F) f = f := by
  funext y
  show f (((cfg0.win 4).blk t0_0).view.emb y) = f y
  refine congrArg f (funext fun a => Fin.ext ?_)
  exact Pipeline.Window.rect_emb_val_of_index_zero (cfg0.win 4) t0_0 a rfl y
theorem before_4 (c : Dev nD) (d : (cfg0.win 4).block.Idx → Elt F (cfg0.win 4).elt) : (dat0 m c).before 4 t0_0 d = oIn m c := by
  unfold Dat.before
  rw [if_pos (fetch0_4 t0_0)]
  exact blk_4 (oIn m c)

theorem owed_zero (c : Dev nD) : (pdats (F := F) m 0 c).owed 0 = O₀ c := by
  show (if ((0 : Fin (cfg0.N + 1)).val = 0) then O₀ c else 0) = O₀ c; exact if_pos rfl
theorem owed_first (c : Dev nD) : (dat0 (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem arr_last (c : Dev nD) (w : Fin 6) :
    (pdats (F := F) m 0 c).arrAt w (Pipeline.pin (pcfgs (F := F)) adm 0).N = Vout m c (Proc.devRef .tc (Pipeline.arrRef (Pipeline.pin (pcfgs (F := F)) adm 0).spec w)) := by
  match w with
  | 0 => exact ((dat0 (F := F) m c).arrAt_in 0 rfl _).trans (Vout_of m c main_v5 (by decide)).symm
  | 1 => exact ((dat0 (F := F) m c).arrAt_in 1 rfl _).trans (Vout_of m c main_arg1 (by decide)).symm
  | 2 => exact ((dat0 (F := F) m c).arrAt_in 2 rfl _).trans (Vout_of m c main_v18 (by decide)).symm
  | 3 => exact ((dat0 (F := F) m c).arrAt_in 3 rfl _).trans (Vout_of m c main_v19 (by decide)).symm
  | 4 => exact ((dat0 (F := F) m c).arrAt_in 4 rfl _).trans (Vout_of m c main_arg4 (by decide)).symm
  | 5 =>
    refine Eq.trans ?_ (Vout_out m c).symm
    refine (dat0 (F := F) m c).arrAt_eq_of_after_last 5 t0_0 (by decide +kernel) (outOf m c) (fun j => ?_) (Memref.isWhole_whole _)
    rfl

theorem owesAt_of {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) : (owing c O : sProp 𝕄) ⊢ (dat.owesAt () t : sProp 𝕄) := by
  unfold owing Dat.owesAt Pipeline.owesWithin Dat.bound
  rw [h0, hr]
  iintro ⟨%W, HO⟩
  iexists W
  isplitr
  · ipureintro
    exact fun _ _ => Or.inl trivial
  iexact HO
theorem of_owesAt {cfg : Pipeline.Cfg sig Λ₀} {c : Dev nD} (dat : Dat τ (Elt F) Unit ℕ UU ℕ cfg c) (t : Fin (cfg.N + 1))
    (O : CellTallies nD τ sig Unit) (h0 : dat.owed t = O) : (dat.owesAt () t : sProp 𝕄) ⊢ owing c O := by
  unfold owing Dat.owesAt Pipeline.owesWithin
  rw [h0]
  iintro ⟨%W, -, HO⟩
  iexists W
  iexact HO

omit [FloatOps F] in
theorem owns_whole_eq (c : Dev nD) (b : Ref sig .tc) (X : b.ty.Contents (Elt F)) :
    (owns (c : Thread nD τ) (Memref.whole b) fullShare X : sProp 𝕄) = iprop(∃ f, ⌜f = X⌝ ∗ pt c b f) := by
  unfold owns; simp only [Memref.view_whole, View.read_whole, View.set_whole]

/-- The body at its buffers, closing its cells when it is done. -/
theorem body_closed (c : Dev nD) (f5 : (cc0_stg5_0 : Ref sig .tc).ty.Contents (Elt F)) :
    iprop(Xk m c ∗ scratch c ∗ (∃ r, prngReg c r) ∗ owing c (O₀ c) ∗ pt c cc0_stg0_0 (xIn m c) ∗ pt c cc0_stg1_0 (wIn m c) ∗ pt c cc0_stg2_0 (kIn m c)
        ∗ pt c cc0_stg3_0 (vIn m c) ∗ pt c cc0_stg4_0 (oIn m c) ∗ pt c cc0_stg5_0 f5)
      ⊢ wp frame (wpE (defs₀ (F := F)) 𝒱₀ (c : Thread nD τ) none) Set.univ body (fun _ => iprop((∃ r, prngReg c r)
          ∗ (pt c cc0_stg0_0 (xIn m c) ∗ pt c cc0_stg1_0 (wIn m c) ∗ pt c cc0_stg2_0 (kIn m c) ∗ pt c cc0_stg3_0 (vIn m c) ∗ pt c cc0_stg4_0 (oIn m c)
            ∗ pt c cc0_stg5_0 (outOf m c)) ∗ leaves c)) := by
  unfold Xk
  rw [scratch_eq]
  iintro ⟨⟨%κ, #HR, Hg, Hh⟩, ⟨⟨%g0, G0⟩, ⟨%g1, G1⟩, ⟨%g2, G2⟩, ⟨%g3, G3⟩, ⟨%g4, G4⟩, ⟨%g5, G5⟩, ⟨%g6, G6⟩, G7, G8, G9, G10, G11, G12⟩, Hp, HO, H0, H1, H2, H3, H4, H5⟩
  iapply (wp_fupd frame (wpE (defs₀ (F := F)) 𝒱₀ (c : Thread nD τ) none) Set.univ)
  ihave Hst := (pre_body m c κ) $$ [HO Hg Hh G7 G8 G9 G10 G11 G12]
  · isplitr; · iexact HR
    isplitl [HO]; · iexact HO
    isplitl [Hg]; · iexact Hg
    isplitl [Hh]; · iexact Hh
    isplitl [G7]; · iexact G7
    isplitl [G8]; · iexact G8
    isplitl [G9]; · iexact G9
    isplitl [G10]; · iexact G10
    isplitl [G11] <;> iassumption
  ihave Hwp := (body_run c (xIn m c) (wIn m c) (kIn m c) (vIn m c) (oIn m c) f5 g0 g1 g2 g3 g4 g5 g6 (Pm m) κ rfl) $$ [H0 H1 H2 H3 H4 H5 G0 G1 G2 G3 G4 G5 G6 Hst]
  · unfold preA
    isplitl [H0]; · iexact H0
    isplitl [H1]; · iexact H1
    isplitl [H2]; · iexact H2
    isplitl [H3]; · iexact H3
    isplitl [H4]; · iexact H4
    isplitl [H5]; · iexact H5
    isplitl [G0]; · iexact G0
    isplitl [G1]; · iexact G1
    isplitl [G2]; · iexact G2
    isplitl [G3]; · iexact G3
    isplitl [G4]; · iexact G4
    isplitl [G5]; · iexact G5
    isplitl [G6]; · iexact G6
    iexact Hst
  iapply (wp_wand frame (wpE (defs₀ (F := F)) 𝒱₀ (c : Thread nD τ) none) Set.univ) $$ Hwp
  iintro %a Hd
  imod (post_body m c κ (xIn m c) (wIn m c) (kIn m c) (vIn m c) (oIn m c)) $$ [Hd] with Hq
  · isplitr; · iexact HR
    iexact Hd
  imodintro
  isplitl [Hp]; · iexact Hp
  iexact Hq

end Cert.KernelIdeal.Ring
end
-- ==== Proof.Ring.Enter.lean ====
module

public import proofs.«01_k».proof.Proof.Ring.Body

@[expose] public section

/-! The region's record: the body's obligation, and how the region is entered and left. -/

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ

variable (m : (ℓ : Loc nD τ sig) → Buf (Elt F) ℓ)

set_option maxRecDepth 4000 in
theorem body_obligation (c : Dev nD) : BodyObligation (dat0 (F := F) m c) (defs₀ (F := F)) 𝒱₀ () Set.univ := fun t => by
  obtain rfl := fin_N0 t
  rw [bigSep_W0, bigSep_W0]
  simp only [owns_whole_eq]
  rw [show (dat0 m c).Φ t0_0.castSucc = iprop(Xk m c ∗ scratch c ∗ ∃ r, prngReg c r) from rfl,
    show (dat0 m c).Φ t0_0.succ = iprop(semVal (barCell c) 0 ∗ Pipeline.ownSems0 osem c ∗ scratch c ∗ ∃ r, prngReg c r) from rfl]
  iintro ⟨⟨HX, Hs, Hp⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before_0] at hf0
  rw [before_1] at hf1
  rw [before_2] at hf2
  rw [before_3] at hf3
  rw [before_4] at hf4
  subst hf0 hf1 hf2 hf3 hf4
  ihave HO := (of_owesAt (dat0 m c) t0_0.castSucc (O₀ c) (owed_first m c)) $$ HO
  ihave Hwp := (body_closed m c f5) $$ [HX Hs Hp HO H0 H1 H2 H3 H4 H5]
  · isplitl [HX]; · iexact HX
    isplitl [Hs]; · iexact Hs
    isplitl [Hp]; · iexact Hp
    isplitl [HO]; · iexact HO
    isplitl [H0]; · iexact H0
    isplitl [H1]; · iexact H1
    isplitl [H2]; · iexact H2
    isplitl [H3]; · iexact H3
    isplitl [H4]; · iexact H4
    iexact H5
  iapply (wp_wand frame (wpE (defs₀ (F := F)) 𝒱₀ (c : Thread nD τ) none) Set.univ) $$ Hwp
  iintro %a ⟨Hp, ⟨H0, H1, H2, H3, H4, H5⟩, Hl⟩
  unfold leaves
  icases Hl with ⟨Hb, Hos, Hs, HO⟩
  isplitl [Hp Hb Hos Hs]
  · isplitl [Hb]; · iexact Hb
    isplitl [Hos]; · iexact Hos
    isplitl [Hs]; · iexact Hs
    iexact Hp
  isplitl [HO]; · iapply (owesAt_of (dat0 m c) t0_0.succ 0 (owed_last m c) rfl); iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; rfl
  iexists _; isplitr; swap; (· iexact H5); ipureintro; rfl

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The host's buffers that no window moves. -/

def others : Finset (DevRef τ sig) := Pipeline.ucRefs τ sig \ Pipeline.arrRefs (τ := τ) (pcfgs (F := F) 0).spec

theorem hin (c : Dev nD) : iprop(Pipeline.scopedRest (Pipeline.pin (pcfgs (F := F)) adm 0).spec c ∗ (∃ r, prngReg c r) ∗ StableHlo.held (c.tc : Thread nD τ) ∅ (V1 m c) ∗ Xk m c)
    ⊢ ((pdats m 0 c).Φ 0 : sProp 𝕄) := by
  rw [show (pdats m 0 c).Φ 0 = iprop(Xk m c ∗ scratch c ∗ ∃ r, prngReg c r) from rfl]
  unfold scratch
  iintro ⟨Hs, Hp, -, HX⟩
  isplitl [HX]; · iexact HX
  isplitl [Hs]; · iexact Hs
  iexact Hp

theorem held_none (c : Dev nD) (W : Valuation τ sig (Elt F)) : (StableHlo.held (c.tc : Thread nD τ) ∅ W : sProp 𝕄) = BI.emp := by
  unfold StableHlo.held
  exact BI.bigSep_empty

theorem hout (c : Dev nD) : (pdats m 0 c).Φ (Fin.last (Pipeline.pin (pcfgs (F := F)) adm 0).N)
    ⊢ (iprop(Pipeline.scopedRest (Pipeline.pin (pcfgs (F := F)) adm 0).spec c ∗ (∃ r, prngReg c r) ∗ StableHlo.held (c.tc : Thread nD τ) ∅ (Vout m c) ∗ Pipeline.ownSems0 osem c ∗ Yk c) : sProp 𝕄) := by
  rw [show (pdats m 0 c).Φ (Fin.last _) = iprop(semVal (barCell c) 0 ∗ Pipeline.ownSems0 osem c ∗ scratch c ∗ ∃ r, prngReg c r) from rfl, held_none]
  unfold scratch Yk
  iintro ⟨Hb, Hos, Hs, Hp⟩
  isplitl [Hs]; · iexact Hs
  isplitl [Hp]; · iexact Hp
  isplitr; · iempintro
  isplitl [Hos]; · iexact Hos
  iexact Hb

theorem level_stage (c : Dev nD) (w : Fin 6) (s : Fin ((cfg0.win w).nbuf)) : lv ((c : Thread nD τ), .dma ((cfg0.win w).sem s)) () = 0 := by
  revert s
  match w with
  | 0 => exact fun _ => rfl
  | 1 => exact fun _ => rfl
  | 2 => exact fun _ => rfl
  | 3 => exact fun _ => rfl
  | 4 => exact fun _ => rfl
  | 5 => exact fun _ => rfl

theorem hcut : Pipeline.LevelCutOwed (pcfgs (F := F)) adm (pdats m) () L lv 0 (fun _ => 0) where
  hι c w s := by rw [L_tc]; exact Finset.mem_singleton_self _
  hιb c w s := le_of_eq (level_stage c w s)
  hD c t g i h := by
    have e : (pdats (F := F) m 0 c).owed t = if t.val = 0 then O₀ c else 0 := rfl
    rw [e] at h
    split at h
    · exact O₀_pos h
    · exact absurd h (Nat.lt_irrefl 0)

theorem Vout_others (c : Dev nD) : ∀ b ∈ others (F := F) \ ∅, Vout m c b = V1 m c b := fun b hb => by
  unfold others at hb
  rw [Finset.sdiff_empty, Finset.mem_sdiff] at hb
  refine Function.update_of_ne (fun e => hb.2 ?_) _ _
  subst e
  exact Finset.mem_map_of_mem _ (Finset.mem_image_of_mem _ (Finset.mem_univ (5 : Fin 6)))

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (others (F := F)) (Finset.empty_subset _) kitP rfl (fun c => (body_obligation m c).loose)
    (fun _ => 0) O₀ (fun c => (owed_zero m c).trans (zero_add _).symm) (owed_last m) (fun _ => rfl)
    (fun c => (pdats m 0 c).share_full fun _ => rfl)
    (V1 m) (Vout m) (Vout_others m)
    (Tk m) Yk (Xk m) Yk (hopen m) (hin m) (hout m)
    (fun c => by iintro H; imodintro; iexact H)
    (fun _ => 0) (hcut m)
    (fun _ => iprop(emp))
    (fun _ _ => rfl) (arr_last m)

end Cert.KernelIdeal.Ring
end
-- ==== Proof.Ring.Fund.lean ====
module

public import proofs.«01_k».proof.Proof.Ring.Enter

@[expose] public section

/-! What the launch deals: the cells, the duties' tokens and the credit, handed round the ring. -/

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ

/-! ### Cells and tokens -/

theorem osem_inj : Function.Injective osem := by decide
theorem osem_ne_bar : ∀ k, osem k ≠ .reg barS := by decide

def barEmb : Dev nD ↪ GSem nD τ sig := ⟨fun c => barCell c, fun _ _ h => congrArg (fun g : GSem nD τ sig => g.1.1) h⟩
def dmaEmb : Dev nD × (Bool × Bool × Fin 6) ↪ GSem nD τ sig :=
  ⟨fun k => ((k.1 : Thread nD τ), osem k.2), fun _ _ h =>
    Prod.ext (congrArg (fun g : GSem nD τ sig => g.1.1) h) (osem_inj (congrArg Prod.snd h))⟩

def barCells : Finset (GSem nD τ sig) := Finset.univ.map barEmb
def dmaCells : Finset (GSem nD τ sig) := Finset.univ.map dmaEmb

theorem disjoint_cells : Disjoint barCells dmaCells := by
  rw [Finset.disjoint_left]
  rintro g h₁ h₂
  obtain ⟨c, -, rfl⟩ := Finset.mem_map.mp h₁
  obtain ⟨k, -, h⟩ := Finset.mem_map.mp h₂
  exact osem_ne_bar k.2 (congrArg Prod.snd h)

def barTokEmb : Dev nD × Bool ↪ GSem nD τ sig × ℕ × Bool :=
  ⟨fun k => (barCell k.1, 0, k.2), fun _ _ h =>
    Prod.ext (congrArg (fun t : GSem nD τ sig × ℕ × Bool => t.1.1.1) h) (congrArg (fun t : GSem nD τ sig × ℕ × Bool => t.2.2) h)⟩
def dmaTokEmb : Dev nD × (Bool × Bool × Fin 6) ↪ GSem nD τ sig × ℕ × Bool :=
  ⟨fun k => (((k.1 : Thread nD τ), osem k.2), 0, false), fun _ _ h => dmaEmb.injective (congrArg Prod.fst h)⟩
def barToks : Finset (GSem nD τ sig × ℕ × Bool) := Finset.univ.map barTokEmb
def dmaToks : Finset (GSem nD τ sig × ℕ × Bool) := Finset.univ.map dmaTokEmb

theorem disjoint_toks : Disjoint barToks dmaToks := by
  rw [Finset.disjoint_left]
  rintro g h₁ h₂
  obtain ⟨c, -, rfl⟩ := Finset.mem_map.mp h₁
  obtain ⟨k, -, h⟩ := Finset.mem_map.mp h₂
  exact osem_ne_bar k.2 (congrArg (fun t : GSem nD τ sig × ℕ × Bool => t.1.2) h)

/-- The tokens device `c` pays with. -/
def pays (c : Dev nD) : sProp 𝕄 :=
  iprop((dutyTok ER (barCell (prv c)) 0 false ∗ dutyTok ER (barCell (nxt c)) 0 true)
    ∗ bigSep Finset.univ fun k : Bool × Fin 6 => iprop(dutyTok ER (sCell k.1 k.2 c) 0 false ∗ dutyTok ER (rCell k.1 k.2 (peer k.1 c)) 0 false))

/-- A device and a hop, the device moved on in the hop's direction. -/
def along : Dev nD × (Bool × Fin 6) ≃ Dev nD × (Bool × Fin 6) :=
  ⟨fun k => (peer k.2.1 k.1, k.2), fun k => (peer (!k.2.1) k.1, k.2), fun k => Prod.ext (peer_peer k.2.1 k.1) rfl, fun k => Prod.ext (peer_peer' k.2.1 k.1) rfl⟩

omit [FloatOps F] in
theorem barToks_around : (bigSep barToks fun x => (dutyTok ER x.1 x.2.1 x.2.2 : sProp 𝕄))
    = bigSep Finset.univ fun c : Dev nD => iprop(dutyTok ER (barCell (prv c)) 0 false ∗ dutyTok ER (barCell (nxt c)) 0 true) := by
  unfold barToks
  rw [bigSep_map, bigSep_univ_prod]
  have h (c : Dev nD) : (bigSep Finset.univ fun b : Bool => (dutyTok ER (barTokEmb (c, b)).1 (barTokEmb (c, b)).2.1 (barTokEmb (c, b)).2.2 : sProp 𝕄))
      = iprop(dutyTok ER (barCell c) 0 false ∗ dutyTok ER (barCell c) 0 true) :=
    bigSep_univ_eq_bigSepL [false, true] (by decide) (by decide) _
  rw [bigSep_congr fun c _ => h c, bigSep_sep', bigSep_sep', bigSep_univ_equiv turn.symm (fun c : Dev nD => (dutyTok ER (barCell c) 0 false : sProp 𝕄)),
    bigSep_univ_equiv turn (fun c : Dev nD => (dutyTok ER (barCell c) 0 true : sProp 𝕄))]
  rfl

theorem dmaToks_around : (bigSep dmaToks fun x => (dutyTok ER x.1 x.2.1 x.2.2 : sProp 𝕄))
    = bigSep Finset.univ fun c : Dev nD => bigSep Finset.univ fun k : Bool × Fin 6 => iprop(dutyTok ER (sCell k.1 k.2 c) 0 false ∗ dutyTok ER (rCell k.1 k.2 (peer k.1 c)) 0 false) := by
  unfold dmaToks
  rw [bigSep_map, bigSep_univ_prod]
  have h (c : Dev nD) : (bigSep Finset.univ fun k : Bool × Bool × Fin 6 => (dutyTok ER (dmaTokEmb (c, k)).1 (dmaTokEmb (c, k)).2.1 (dmaTokEmb (c, k)).2.2 : sProp 𝕄))
      = bigSep Finset.univ fun k : Bool × Fin 6 => iprop(dutyTok ER (sCell k.1 k.2 c) 0 false ∗ dutyTok ER (rCell k.1 k.2 c) 0 false) := cells_split _
  rw [bigSep_congr fun c _ => h c, ← bigSep_univ_prod (fun x : Dev nD × (Bool × Fin 6) => (iprop(dutyTok ER (sCell x.2.1 x.2.2 x.1) 0 false ∗ dutyTok ER (rCell x.2.1 x.2.2 x.1) 0 false) : sProp 𝕄)),
    ← bigSep_univ_prod (fun x : Dev nD × (Bool × Fin 6) => (iprop(dutyTok ER (sCell x.2.1 x.2.2 x.1) 0 false ∗ dutyTok ER (rCell x.2.1 x.2.2 (peer x.2.1 x.1)) 0 false) : sProp 𝕄)),
    bigSep_sep', bigSep_sep', bigSep_univ_equiv along (fun x : Dev nD × (Bool × Fin 6) => (dutyTok ER (rCell x.2.1 x.2.2 x.1) 0 false : sProp 𝕄))]
  rfl

theorem toks_around : (bigSep (barToks ∪ dmaToks) fun x => (dutyTok ER x.1 x.2.1 x.2.2 : sProp 𝕄)) = bigSep Finset.univ fun c : Dev nD => pays c := by
  have h := bigSep_union disjoint_toks (Φ := fun x : GSem nD τ sig × ℕ × Bool => (dutyTok ER x.1 x.2.1 x.2.2 : sProp 𝕄))
  rw [h, barToks_around, dmaToks_around]
  exact (bigSep_sep' _ _ _).symm

/-! ### The launch credit -/

theorem rCell_eq {d d' : Bool} {i i' : Fin 6} {c c' : Dev nD} : rCell d i c = rCell d' i' c' ↔ d = d' ∧ i = i' ∧ c = c' := by
  constructor
  · intro h
    have h1 : c = c' := congrArg (fun g : GSem nD τ sig => g.1.1) h
    have h2 := congrArg (fun g : GSem nD τ sig => g.2) h
    have h3 := dsem_inj (SemLoc.dma.inj h2)
    exact ⟨h3.1, h3.2.2, h1⟩
  · rintro ⟨rfl, rfl, rfl⟩; rfl
theorem rCell_ne_bar (d : Bool) (i : Fin 6) (c e : Dev nD) : rCell d i c ≠ barCell e := fun h => by
  have := congrArg (fun g : GSem nD τ sig => g.2) h
  cases this
theorem barCell_eq {c e : Dev nD} : barCell c = barCell e ↔ c = e :=
  ⟨fun h => congrArg (fun g : GSem nD τ sig => g.1.1) h, fun h => by rw [h]⟩

theorem debt_r (x : Dev nD) (d : Bool) (i : Fin 6) (c : Dev nD) : debt x 6 (rCell d i c) () = if x = peer (!d) c then N else 0 := by
  have hx : (c = peer d x) ↔ (x = peer (!d) c) := ⟨fun h => by rw [h, peer_peer], fun h => by rw [h, peer_peer']⟩
  simp only [← hx]
  simp only [debt, Pi.add_apply, Finsupp.add_apply, tallyAt_apply, rCell_eq, Pi.zero_apply, Finsupp.zero_apply]
  cases d <;> fin_cases i <;> simp [peer] <;> congr

theorem debt_bar (x c : Dev nD) : ∀ n, debt x n (barCell c) () = 0
  | 0 => rfl
  | n + 1 => by
    unfold debt
    rw [Pi.add_apply, Finsupp.add_apply, Pi.add_apply, Finsupp.add_apply, debt_bar x c n, tallyAt_ne_cell (rCell_ne_bar _ _ _ _).symm,
      tallyAt_ne_cell (rCell_ne_bar _ _ _ _).symm]
    rfl

theorem O₀_r (x : Dev nD) (d : Bool) (i : Fin 6) (c : Dev nD) : O₀ x (rCell d i c) () = if x = peer (!d) c then N else 0 := by
  unfold O₀
  rw [Pi.add_apply, Finsupp.add_apply, Pi.add_apply, Finsupp.add_apply, debt_r, tallyAt_ne_cell (rCell_ne_bar _ _ _ _), tallyAt_ne_cell (rCell_ne_bar _ _ _ _)]
  rfl

theorem O₀_bar (x c : Dev nD) : O₀ x (barCell c) () = (if x = prv c then 1 else 0) + (if x = nxt c then 1 else 0) := by
  unfold O₀
  rw [Pi.add_apply, Finsupp.add_apply, Pi.add_apply, Finsupp.add_apply, debt_bar, tallyAt_apply, tallyAt_apply, zero_add]
  have h1 : (barCell c = barCell (nxt x)) ↔ x = prv c := barCell_eq.trans ⟨fun h => by rw [h, prv_nxt], fun h => by rw [h, nxt_prv]⟩
  have h2 : (barCell c = barCell (prv x)) ↔ x = nxt c := barCell_eq.trans ⟨fun h => by rw [h, nxt_prv], fun h => by rw [h, prv_nxt]⟩
  simp only [h1, h2, and_true]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_r (d : Bool) (i : Fin 6) (c : Dev nD) :
    tallyOn (rCell d i c) (launchCredit (Pipeline.owing O₀) 0 (rCell d i c)) = (tallyAt (rCell d i c) () N : CellTallies nD τ sig Unit) := by
  unfold tallyAt; refine congrArg _ (Finsupp.ext fun u => ?_); cases u
  rw [Pipeline.launchCredit_owing, Finsupp.single_eq_same, Finset.sum_congr rfl fun x _ => O₀_r x d i c, Finset.sum_ite_eq' Finset.univ (peer (!d) c) fun _ => N,
    if_pos (Finset.mem_univ _)]

def rEmb : Bool × Fin 6 ↪ SemLoc sig :=
  ⟨fun k => osem (k.1, true, k.2), fun a b h => by have := osem_inj h; exact Prod.ext (congrArg (·.1) this) (congrArg (·.2.2) this)⟩

omit [FloatOps F] in
theorem creds (c : Dev nD) : (Pipeline.launchCred O₀ c : sProp 𝕄)
    ⊢ iprop(cred (tallyAt (barCell c) () 2) ∗ bigSep Finset.univ fun k : Bool × Fin 6 => cred (tallyAt (rCell k.1 k.2 c) () N)) := by
  unfold Pipeline.launchCred
  rw [bigSep_univ_at _ (SemLoc.reg barS), launch_bar]
  refine sep_mono_right ?_
  refine (bigSep_subset (t := Finset.univ.map rEmb) fun g hg => ?_).trans ?_
  · obtain ⟨k, -, rfl⟩ := Finset.mem_map.mp hg
    exact Finset.mem_erase.mpr ⟨osem_ne_bar _, Finset.mem_univ _⟩
  · rw [bigSep_map]
    exact bigSep_mono fun k _ => Entails.of_eq (congrArg cred (launch_r k.1 k.2 c))

end Cert.KernelIdeal.Ring
end
-- ==== Proof.Ring.Launch.lean ====
module

public import proofs.«01_k».proof.Proof.Ring.Fund
public import Idealize.ShloMosaic.Lib.Quiescent
public import Idealize.ShloMosaic.Harness.Basic

@[expose] public section

/-! The launch, and the whole run of the program on the four devices. -/

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ

variable (m : (ℓ : Loc nD τ sig) → Buf (Elt F) ℓ) (ρ : Dev nD → PrngReg)

abbrev EP : Emb (UR sig nD τ) 𝕄 := embL

/-- A resource given to one device. -/
def parked (c₀ : Dev nD) (X : sProp 𝕄) (c : Dev nD) : sProp 𝕄 := if c = c₀ then X else iprop(emp)

omit [FloatOps F] in
theorem parked_all (c₀ : Dev nD) (X : sProp 𝕄) : bigSep Finset.univ (parked c₀ X) = X := by
  have h : ∀ c ∈ Finset.univ.erase c₀, parked c₀ X c = (BI.emp : sProp 𝕄) := fun c hc => by
    unfold parked; rw [if_neg (Finset.ne_of_mem_erase hc)]; rfl
  rw [bigSep_univ_at _ c₀, bigSep_congr h, BI.bigSep_emp_const]
  unfold parked; rw [if_pos rfl]
  exact BI.equiv_iff.mp sep_emp

def G : Dev nD → sProp 𝕄 := parked 0 (BI.own (ER (launchOf barCells dmaCells (barToks ∪ dmaToks))))

def u₀ : UU :=
  (initOf (Pipeline.cells (Pipeline.pin (pcfgs (F := F)) adm) cellOf_inj) (Pipeline.launchToks (Pipeline.pin (pcfgs (F := F)) adm) cellOf_inj),
    launchOf barCells dmaCells (barToks ∪ dmaToks))

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device holds of the protocol, apart from the shared records. -/
def lot (c : Dev nD) : sProp 𝕄 :=
  iprop(pays c ∗ atPos ER (barCell c) 0 ∅ 0 ∗ (bigSep Finset.univ fun k : Bool × Bool × Fin 6 => openTok ER ((c : Thread nD τ), osem k))
    ∗ cred (tallyAt (barCell c) () 2) ∗ bigSep Finset.univ fun k : Bool × Fin 6 => cred (tallyAt (rCell k.1 k.2 c) () N))

theorem dealt_one (k : Bool × Fin 6) (c : Dev nD) :
    iprop((dutyTok ER (sCell k.1 k.2 c) 0 false ∗ dutyTok ER (rCell k.1 k.2 (peer k.1 c)) 0 false) ∗ cred (tallyAt (rCell k.1 k.2 c) () N))
      ⊢ (dealt k.1 k.2 c : sProp 𝕄) := by
  unfold dealt
  iintro ⟨⟨H1, H2⟩, H3⟩
  isplitl [H1]; · iexact H1
  isplitl [H2] <;> iassumption

theorem dealt_all (c : Dev nD) :
    iprop((bigSep Finset.univ fun k : Bool × Fin 6 => iprop(dutyTok ER (sCell k.1 k.2 c) 0 false ∗ dutyTok ER (rCell k.1 k.2 (peer k.1 c)) 0 false))
      ∗ bigSep Finset.univ fun k : Bool × Fin 6 => cred (tallyAt (rCell k.1 k.2 c) () N))
    ⊢ (bigSep Finset.univ fun k : Bool × Fin 6 => dealt k.1 k.2 c : sProp 𝕄) := by
  rw [← bigSep_sep']
  exact bigSep_mono fun k _ => dealt_one k c

theorem Tk_intro (κ : GSem nD τ sig → ℕ) (c : Dev nD) : iprop(records (sent (Pm m)) κ ∗ lot c) ⊢ (Tk m c : sProp 𝕄) := by
  unfold lot pays Tk gate
  iintro ⟨HR, ⟨⟨H1, H2⟩, H3⟩, H4, H5, H6, H7⟩
  iexists κ
  isplitl [HR]; · iexact HR
  isplitl [H1 H2 H4 H6]
  · isplitl [H1]; · iexact H1
    isplitl [H2]; · iexact H2
    isplitl [H6] <;> iassumption
  isplitl [H5]; · iexact H5
  iapply dealt_all
  isplitl [H3] <;> iassumption

/-- What rides beside the buffers up to the region. -/
def E (_ : Fin 2) (c : Dev nD) : sProp 𝕄 := iprop(Tk m c ∗ (∃ r, prngReg c r) ∗ owing c (O₀ c))

/-- The part that waits for the records. -/
def rest (c : Dev nD) : sProp 𝕄 :=
  iprop(StableHlo.held (c : Thread nD τ) (Pipeline.ucRefs τ sig) (V0 m c) ∗ (∃ r, prngReg c r) ∗ owing c (O₀ c))

def T₀ (c : Dev nD) : sProp 𝕄 := iprop(StableHlo.held (c : Thread nD τ) (Pipeline.ucRefs τ sig) (V0 m c) ∗ E m 0 c)
def Tn (c : Dev nD) : sProp 𝕄 := iprop(StableHlo.held (c : Thread nD τ) (Pipeline.ucRefs τ sig) (Vout m c) ∗ semVal (barCell c) 0)

theorem T₀_intro (κ : GSem nD τ sig → ℕ) (c : Dev nD) : iprop(records (sent (Pm m)) κ ∗ lot c ∗ rest m c) ⊢ (T₀ m c : sProp 𝕄) := by
  unfold rest T₀ E
  iintro ⟨HR, HL, Hh, Hp, HO⟩
  isplitl [Hh]; · iexact Hh
  isplitl [HR HL]
  · iapply (Tk_intro m κ c)
    isplitl [HR] <;> iassumption
  isplitl [Hp] <;> iassumption

theorem core_init (c : Dev nD) : iprop(unscopedBufs c (fun b => m ((c.tc : Thread nD τ).loc b)) ∗ unscopedSems0 c
      ∗ owes (c.tc : Thread nD τ) (O₀ c) ∅ ∗ Pipeline.launchCred O₀ c ∗ prngReg c (ρ c) ∗ G c)
    ⊢ (iprop((rest m c ∗ cred (tallyAt (barCell c) () 2) ∗ bigSep Finset.univ fun k : Bool × Fin 6 => cred (tallyAt (rCell k.1 k.2 c) () N))
        ∗ semVal (barCell c) 0 ∗ G c) : sProp 𝕄) := by
  rw [show unscopedBufs c (fun b => m ((c.tc : Thread nD τ).loc b)) = (StableHlo.held (c : Thread nD τ) (Pipeline.ucRefs τ sig) (V0 m c) : sProp 𝕄)
    from Pipeline.unscopedBufs_held c (V0 m c), unscopedSems_eq]
  unfold rest owing
  iintro ⟨Hh, Hs, HO, Hc, Hp, HG⟩
  ihave Hc' := (creds (F := F) c) $$ Hc
  isplitl [Hh HO Hp Hc']
  · isplitl [Hh HO Hp]
    · isplitl [Hh]; · iexact Hh
      isplitl [Hp]; · iexists _; iexact Hp
      iexists _; iexact HO
    iexact Hc'
  isplitl [Hs] <;> iassumption

theorem records_intro (κ : GSem nD τ sig → ℕ) :
    iprop((bigSep (barCells ∪ dmaCells) fun g => cellInv ER (rd (sent (Pm m))) (κ g) g) ∗ (bigSep barCells fun g => reached ER g 0) ∗ levAts L lv)
      ⊢ (records (sent (Pm m)) κ : sProp 𝕄) := by
  unfold records
  rw [show (bigSep (barCells ∪ dmaCells) fun g => (cellInv ER (rd (sent (Pm m))) (κ g) g : sProp 𝕄))
    = iprop((bigSep barCells fun g => cellInv ER (rd (sent (Pm m))) (κ g) g) ∗ bigSep dmaCells fun g => cellInv ER (rd (sent (Pm m))) (κ g) g)
    from bigSep_union disjoint_cells]
  unfold barCells dmaCells
  rw [bigSep_map, bigSep_map, bigSep_map]
  iintro ⟨⟨H1, H2⟩, H3, H4⟩
  isplitl [H1]; · iexact H1
  isplitl [H2]; · iexact H2
  isplitl [H3]; · iexact H3
  iexact H4

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep dmaCells (fun g => (openTok ER g : sProp 𝕄))
      ⊢ bigSep Finset.univ (fun c : Dev nD => bigSep Finset.univ fun k : Bool × Bool × Fin 6 => openTok ER ((c : Thread nD τ), osem k)) :=
    Entails.of_eq (by
      unfold dmaCells
      rw [bigSep_map, bigSep_univ_prod]
      rfl)
  have htok := Entails.of_eq (toks_around (F := F))
  have hG : bigSep Finset.univ (G (F := F)) ⊢ BI.own (ER (launchOf barCells dmaCells (barToks ∪ dmaToks))) := Entails.of_eq (parked_all 0 _)
  have hcore : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (bigSep Finset.univ fun c : Dev nD => iprop((rest m c ∗ cred (tallyAt (barCell c) () 2) ∗ bigSep Finset.univ fun k : Bool × Fin 6 => cred (tallyAt (rCell k.1 k.2 c) () N))
        ∗ semVal (barCell c) 0 ∗ G c) : sProp 𝕄) := bigSep_mono fun c _ => core_init m ρ c
  iintro ⟨H, Hla⟩
  ihave H' := hcore $$ H
  ihave H2 := Smoke.bigSep_unpair $$ H'; icases H2 with ⟨HB, H3⟩
  ihave H4 := Smoke.bigSep_unpair $$ H3; icases H4 with ⟨Hv, HG⟩
  ihave H5 := Smoke.bigSep_unpair $$ HB; icases H5 with ⟨HB, Hc⟩
  ihave Hu := hG $$ HG
  ihave Hv' := hv $$ Hv
  imod (Rounds.fund_launch ER (rd (sent (Pm m))) disjoint_cells (fun g _ h => h) (barToks ∪ dmaToks)) $$ [Hv' Hu] with ⟨%κ, -, #Hinv, #Hr, Hat, Hopen, Htok⟩
  · isplitl [Hv'] <;> iassumption
  imodintro
  iapply (bigSep_with_persistent (R := records (sent (Pm m)) κ) (Φ := fun c => iprop(lot c ∗ rest m c)) fun c _ => T₀_intro m κ c)
  isplitl [Hla]
  · iapply (records_intro m κ)
    isplitr; · iexact Hinv
    isplitr; · iexact Hr
    iexact Hla
  iapply Smoke.bigSep_pair
  isplitr [HB]
  · unfold lot
    iapply Smoke.bigSep_pair; isplitl [Htok]; · iapply htok $$ Htok
    iapply Smoke.bigSep_pair; isplitl [Hat]; · iapply hat $$ Hat
    iapply Smoke.bigSep_pair; isplitl [Hopen]; · iapply hop $$ Hopen
    iexact Hc
  · iexact HB

theorem arr_sub : Pipeline.arrRefs (τ := τ) (pcfgs (F := F) 0).spec ⊆ Pipeline.ucRefs τ sig :=
  Pipeline.arrRefs_sub_ucRefs _ (by decide : ∀ w : Fin 6, (Pipeline.arrRef spec0 w).isScoped = false)

set_option backward.isDefEq.respectTransparency.types false in
theorem pre0 (c : Dev nD) : iprop(StableHlo.held (c : Thread nD τ) (Pipeline.ucRefs τ sig) (V1 m c) ∗ E m 0 c) ⊢ ((reg0 m).pre c : sProp 𝕄) := by
  show _ ⊢ iprop(StableHlo.held (c : Thread nD τ) (Pipeline.arrRefs (τ := τ) (pcfgs (F := F) 0).spec) (V1 m c) ∗ (∃ r, prngReg c r)
    ∗ (StableHlo.held (c : Thread nD τ) (others (F := F)) (V1 m c) ∗ emp) ∗ Tk m c ∗ ∃ W, owes (c : Thread nD τ) (0 + O₀ c) W)
  rw [StableHlo.held_sub_split (c : Thread nD τ) (arr_sub (F := F)) (V1 m c), zero_add]
  unfold E owing others
  iintro ⟨⟨H1, H2⟩, H3, H4, H5⟩
  isplitl [H1]; · iexact H1
  isplitl [H4]; · iexact H4
  isplitl [H2]
  · isplitl [H2]; · iexact H2
    iempintro
  isplitl [H3] <;> iassumption

set_option backward.isDefEq.respectTransparency.types false in
theorem post0 (c : Dev nD) : ((reg0 m).post c : sProp 𝕄) ⊢ iprop(Tn m c ∗ ∃ W, owes (c : Thread nD τ) (0 : CellTallies nD τ sig Unit) W) := by
  show iprop(StableHlo.held (c : Thread nD τ) (Pipeline.arrRefs (τ := τ) (pcfgs (F := F) 0).spec) (Vout m c) ∗ (∃ r, prngReg c r)
    ∗ (StableHlo.held (c : Thread nD τ) (others (F := F)) (Vout m c) ∗ emp) ∗ Yk c ∗ ∃ W, owes (c : Thread nD τ) 0 W) ⊢ _
  unfold Tn Yk
  rw [StableHlo.held_sub_split (c : Thread nD τ) (arr_sub (F := F)) (Vout m c)]
  unfold others
  iintro ⟨H1, -, ⟨H2, -⟩, H3, H4⟩
  isplitr [H4]
  · isplitr [H3]
    · isplitl [H1] <;> iassumption
    iexact H3
  iexact H4

theorem unscoped_bar : ∀ sm : SemLoc sig, sm.isScoped .tc = false → sm = .reg barS := by decide

/-- A buffer the host owns holds, at the end, what the region left in it. -/
theorem read_end (c : Dev nD) (s' : Phys nD τ sig (Elt F)) :
    iprop(Tn m c ∗ SI s') ⊢ (|={Set.univ}=> iprop(⌜(∀ b ∈ Pipeline.ucRefs τ sig, s'.mem.mem ((c : Thread nD τ).1, b) = Vout m c b) ∧ s'.mem.sem (barCell c) = 0⌝ ∗ SI s') : sProp 𝕄) := by
  unfold Tn StableHlo.held
  iintro ⟨⟨Hh, Hb⟩, HSI⟩
  icombine HSI Hb gives %hb
  ihave Hr := (pointsTo_read_all (Pipeline.ucRefs τ sig) (fun b => ((c : Thread nD τ).1, b)) (Vout m c) s') $$ [Hh HSI]
  · isplitl [Hh] <;> iassumption
  icases Hr with ⟨%h, HSI⟩
  imodintro
  isplitr
  · ipureintro
    exact ⟨h, by simpa using hb⟩
  · iexact HSI

set_option backward.isDefEq.respectTransparency.types false in
/-- The run: every execution of the program on the four devices ends, the host's buffers hold what `Vout` says, and every counter is zero. -/
theorem run_all : θ_run defs (onTc (τ := τ) (main (F := F))) ⟨m, fun _ => 0, ρ⟩
    (fun r => (∀ c : Dev nD, ∀ b ∈ Pipeline.ucRefs τ sig, r.2.mem ((c : Thread nD τ).1, b) = Vout m c b) ∧ r.2.sem = fun _ => 0) :=
  Pipeline.θ_run_regions_kit_dev_sems (pcfgs (F := F)) adm (pdats m) () cellOf_inj EP defs₀ 𝒱₀ L lv m ρ main
    (segs m 𝒱₀ L lv (E m) () (pdats m) (reg0 m))
    (fun c Q => by
      rewrite [main_chain c, Pipeline.Seg.run_eq_chain,
        show (segs m 𝒱₀ L lv (E m) () (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [parked_all]; iexact HX)
    (T₀ := T₀ m) (Tₙ := Tn m)
    (hch := fun c => ⟨.rfl, pre0 m c, post0 m c⟩)
    (hinit := init m ρ)
    (QY := fun c s => (∀ b ∈ Pipeline.ucRefs τ sig, s.mem ((c : Thread nD τ).1, b) = Vout m c b) ∧ s.sem (barCell c) = 0)
    (hfin := fun c s' => read_end m c s')
    (hQ := fun s h hs => ⟨fun c => (h c).1,
      sem_eq_zero hs fun c sm hsm => by
        obtain rfl := unscoped_bar sm hsm
        exact (h c).2⟩)

theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

theorem Vout_arg (c : Dev nD) (r : Ref sig .tc) (h : r ∉ hostOps0_W) (h' : r ∉ ([main_v20] : List (Ref sig .tc))) :
    Vout m c (Proc.devRef .tc r) = m ((c.tc : Thread nD τ).loc r) := (Vout_of m c r h').trans (V1_of m c r h)

/-- The run as the claims name it: the arguments are unchanged, and the result is `outOf`. -/
theorem run_main : θ_run defs (onTc (τ := τ) (main (F := F))) ⟨m, fun _ => 0, ρ⟩
    (fun r => (∀ c : Dev nD, r.2.mem ((c.tc : Thread nD τ).loc main_v20) = outOf m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run defs _ _).mono (fun r h => ⟨fun c =>
    ⟨(h.1 c (Proc.devRef .tc main_v20) (mem_uc main_v20 (by decide))).trans (Vout_out m c),
      (h.1 c (Proc.devRef .tc main_arg0) (mem_uc main_arg0 (by decide))).trans (Vout_arg m c main_arg0 (by decide) (by decide)),
      (h.1 c (Proc.devRef .tc main_arg1) (mem_uc main_arg1 (by decide))).trans (Vout_arg m c main_arg1 (by decide) (by decide)),
      (h.1 c (Proc.devRef .tc main_arg2) (mem_uc main_arg2 (by decide))).trans (Vout_arg m c main_arg2 (by decide) (by decide)),
      (h.1 c (Proc.devRef .tc main_arg3) (mem_uc main_arg3 (by decide))).trans (Vout_arg m c main_arg3 (by decide) (by decide)),
      (h.1 c (Proc.devRef .tc main_arg4) (mem_uc main_arg4 (by decide))).trans (Vout_arg m c main_arg4 (by decide) (by decide))⟩, h.2⟩) (run_all m ρ)

end Cert.KernelIdeal.Ring
end
-- ==== Proof.Ring.Same.lean ====
module

public import proofs.«01_k».proof.Proof.Ring.Launch
public import proofs.«01_k».proof.Proof.Gen.Kernel

@[expose] public section

/-! The printed program and its idealization are one program (the pass rewrites nothing), so the run of one is the run of the other. -/

noncomputable section

namespace Cert.KernelIdeal.Ring

open Idealize.ShloMosaic Idealize.SL.Sem

variable {F : FTy → Type} [FloatOps F]

theorem bodies_same : Cert.Kernel.defs₀ (F := F) = Cert.KernelIdeal.defs₀ (F := F) := by
  unfold Cert.Kernel.defs₀ Cert.KernelIdeal.defs₀
  congr 1
  funext a x
  match a, x with
  | 0, (t, s) => rfl

theorem defs_same : Cert.Kernel.defs (F := F) = Cert.KernelIdeal.defs (F := F) :=
  congrArg (Pipeline.defs (Cert.KernelIdeal.pcfgs (F := F))) bodies_same

theorem main_same : Cert.Kernel.main (F := F) = Cert.KernelIdeal.main (F := F) := rfl

/-- The run of the program as it was printed. -/
theorem run_printed (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4))
        ∧ r.2.sem = fun _ => 0) := by
  rw [defs_same]
  exact (θ_run (Cert.KernelIdeal.defs (F := F)) _ _).mono (fun r h => ⟨fun c => (h.1 c).2, h.2⟩) (run_main m ρ)

end Cert.KernelIdeal.Ring
end
-- ==== Proof.Value.Host.lean ====
module

public import proofs.«01_k».proof.Proof.Ring.Region
public import Idealize.ShloMosaic.Lib.ValueIdx
public import Idealize.ShloMosaic.Lib.WordCmp
public import Idealize.ShloMosaic.Lib.StableHlo.RunRead
public import Idealize.ShloMosaic.Lib.Pipeline.Value

@[expose] public section

/-! What the host hands the kernel on each device: the input rows, and the eight heads of keys and values that are the device's. -/

noncomputable section

namespace Cert.KernelIdeal.Value

open Cert.KernelIdeal Cert.KernelIdeal.Gen Cert.KernelIdeal.Ring
open Idealize.ShloMosaic Idealize.ShloMosaic.TcCoe Idealize.ShloMosaic.StableHlo
open Idealize.ShloMosaic.ValueIdx hiding ix1 ix2 ix3 ix4 ix5

variable {F : FTy → Type} [FloatOps F]
variable (m : (ℓ : Loc nD τ sig) → Buf (Elt F) ℓ)

/-- The first of the device's heads, as the host computes it. -/
def headWord (c : Dev nD) : S_.Idx → BitVec 32 :=
  have d : S_.Idx → BitVec 32 := Host.remui (Host.divui (constantI S_ 32 (Dev.word c)) (constantI S_ 32 1#32)) (constantI S_ 32 4#32)
  have p : S_.Idx → BitVec 32 := muli d (constantI S_ 32 8#32)
  select (cmpi .slt p (constantI S_ 32 0#32)) (addi p (constantI S_ 32 32#32)) p

theorem headWord_toInt (c : Dev nD) (i : S_.Idx) : (headWord c i).toInt = ((8 * c.val : ℕ) : Int) := by
  have h : ∀ c : Fin 4, (Scalar.select (IntOp.cmpi .slt (IntOp.muli (IntOp.remui .host (IntOp.divui .host (Dev.word (nD := 4) c) 1#32) 4#32) 8#32) 0#32)
      (IntOp.addi (IntOp.muli (IntOp.remui .host (IntOp.divui .host (Dev.word (nD := 4) c) 1#32) 4#32) 8#32) 32#32)
      (IntOp.muli (IntOp.remui .host (IntOp.divui .host (Dev.word (nD := 4) c) 1#32) 4#32) 8#32)).toInt = ((8 * c.val : ℕ) : Int) := by decide
  exact h c

/-- The device's heads of an array of keys or values. -/
def heads (f : S1x2048x32x128.Idx → Elt F .bf16) (c : Dev nD) : S2048x1024.Idx → Elt F .bf16 :=
  shapeCast S2048x1024 (Host.dynamicSlice S2048x8x128 (shapeCast S2048x32x128 f shapeCasts_S1x2048x32x128_S2048x32x128)
    (fun k => ((![constantI S_ 32 0#32, headWord c, constantI S_ 32 0#32] : Fin 3 → (⟨S_, .i32⟩ : BufTy).Contents (Elt F)) k (Shape.Idx.first h_S_)).toInt) sliceFits_S2048x32x128_S2048x8x128)
    shapeCasts_S2048x8x128_S2048x1024

theorem xIn_eq (c : Dev nD) : xIn m c = shapeCast S2048x1024 (m ((c.tc : Thread nD τ).loc main_arg0)) shapeCasts_S1x2048x1024_S2048x1024 := by
  unfold xIn V1 hostOps0
  after_results_simp <;> rfl

theorem wIn_eq (c : Dev nD) : wIn m c = m ((c.tc : Thread nD τ).loc main_arg1) := (V1_of m c main_arg1 (by decide)).trans rfl
theorem oIn_eq (c : Dev nD) : oIn m c = m ((c.tc : Thread nD τ).loc main_arg4) := (V1_of m c main_arg4 (by decide)).trans rfl

theorem kIn_eq (c : Dev nD) : kIn m c = heads (m ((c.tc : Thread nD τ).loc main_arg2)) c := by
  unfold kIn V1 hostOps0
  after_reads_simp
  refine congrArg (fun st : Fin 3 → ℤ => shapeCast S2048x1024 (Host.dynamicSlice S2048x8x128
    (shapeCast S2048x32x128 (m ((c.tc : Thread nD τ).loc main_arg2)) shapeCasts_S1x2048x32x128_S2048x32x128) st sliceFits_S2048x32x128_S2048x8x128) shapeCasts_S2048x8x128_S2048x1024)
    (funext fun k => ?_)
  fin_cases k <;> simp only [Fin.zero_eta, Fin.mk_one, Fin.reduceFinMk, Matrix.cons_val] <;> after_reads_simp <;> rfl

theorem vIn_eq (c : Dev nD) : vIn m c = heads (m ((c.tc : Thread nD τ).loc main_arg3)) c := by
  unfold vIn V1 hostOps0
  after_reads_simp
  refine congrArg (fun st : Fin 3 → ℤ => shapeCast S2048x1024 (Host.dynamicSlice S2048x8x128
    (shapeCast S2048x32x128 (m ((c.tc : Thread nD τ).loc main_arg3)) shapeCasts_S1x2048x32x128_S2048x32x128) st sliceFits_S2048x32x128_S2048x8x128) shapeCasts_S2048x8x128_S2048x1024)
    (funext fun k => ?_)
  fin_cases k <;> simp only [Fin.zero_eta, Fin.mk_one, Fin.reduceFinMk, Matrix.cons_val] <;> after_reads_simp <;> rfl

theorem xIn_apply (c : Dev nD) (t : Fin 2048) (e : Fin 1024) : xIn m c (ix2 t e) = m ((c.tc : Thread nD τ).loc main_arg0) (ix3 (n0 := 1) 0 t e) := by
  rw [xIn_eq]
  refine shapeCast_apply _ shapeCasts_S1x2048x1024_S2048x1024 _ (ix3 (n0 := 1) 0 t e) ?_
  rw [Shape.rowMajor_val_two, Shape.rowMajor_val_three]
  show (0 * 2048 + t.val) * 1024 + e.val = t.val * 1024 + e.val
  omega

theorem heads_apply (f : S1x2048x32x128.Idx → Elt F .bf16) (c : Dev nD) (j : Fin 2048) (a : Fin 1024) :
    heads f c (ix2 j a) = f (ix4 (n0 := 1) 0 j ⟨8 * c.val + a.val / 128, by have := a.isLt; have : c.val < 4 := c.isLt; omega⟩ ⟨a.val % 128, Nat.mod_lt _ (by decide)⟩) := by
  have ha := a.isLt
  have hc : c.val < 4 := c.isLt
  unfold heads
  rw [WordCmp.dynamicSlice_eq_extract S2048x8x128 _ _ sliceFits_S2048x32x128_S2048x8x128 ![0, 8 * c.val, 0] ⟨rfl, fun k => by
      match k with
      | ⟨0, _⟩ => exact Nat.le_refl 2048
      | ⟨1, _⟩ => show 8 * c.val + 8 ≤ 32; omega
      | ⟨2, _⟩ => exact Nat.le_refl 128⟩ (fun k => by
      match k with
      | ⟨0, _⟩ => rfl
      | ⟨1, _⟩ => exact headWord_toInt c _
      | ⟨2, _⟩ => rfl)]
  refine (shapeCast_apply _ shapeCasts_S2048x8x128_S2048x1024 _ (ix3 (n0 := 2048) (n1 := 8) (n2 := 128) j ⟨a.val / 128, by omega⟩ ⟨a.val % 128, Nat.mod_lt _ (by decide)⟩) ?_).trans ?_
  · rw [Shape.rowMajor_val_two, Shape.rowMajor_val_three]
    show (j.val * 8 + a.val / 128) * 128 + a.val % 128 = j.val * 1024 + a.val
    omega
  refine (extractStridedSlice_apply _ _ _ _ (ix3 (n0 := 2048) (n1 := 32) (n2 := 128) j ⟨8 * c.val + a.val / 128, by omega⟩ ⟨a.val % 128, Nat.mod_lt _ (by decide)⟩) ?_).trans ?_
  · intro k
    match k with
    | ⟨0, _⟩ => show j.val = 0 + j.val; omega
    | ⟨1, _⟩ => rfl
    | ⟨2, _⟩ => show a.val % 128 = 0 + a.val % 128; omega
  refine shapeCast_apply _ shapeCasts_S1x2048x32x128_S2048x32x128 _ _ ?_
  rw [Shape.rowMajor_val_three, Shape.rowMajor_val_four]
  show ((0 * 2048 + j.val) * 32 + (8 * c.val + a.val / 128)) * 128 + a.val % 128 = (j.val * 32 + (8 * c.val + a.val / 128)) * 128 + a.val % 128
  omega

end Cert.KernelIdeal.Value
end
-- ==== Proof.Value.Sum.lean ====
module

public import proofs.«01_k».proof.Proof.Ring.Steps
public import Idealize.ShloMosaic.PureOps.Ideal.Laws

@[expose] public section

/-! At the extended reals the ring leaves the sum of the four partial results on every device. -/

noncomputable section

namespace Cert.KernelIdeal.Value

open Cert.KernelIdeal Cert.KernelIdeal.Gen Cert.KernelIdeal.Ring
open Idealize.ShloMosaic

/-- Going once round the four devices, in either direction, meets each of them. -/
theorem round_sum (f : Dev nD → EReal) (d : Bool) (c : Dev nD) :
    f (peer (!d) (peer (!d) (peer (!d) c))) + f (peer (!d) (peer (!d) c)) + f (peer (!d) c) + f c = ∑ e : Fin 4, f e := by
  have h : ∀ (d : Bool) (c : Fin 4), Finset.univ = ({peer (!d) (peer (!d) (peer (!d) c)), peer (!d) (peer (!d) c), peer (!d) c, c} : Finset (Fin 4))
      ∧ peer (!d) (peer (!d) (peer (!d) c)) ∉ ({peer (!d) (peer (!d) c), peer (!d) c, c} : Finset (Fin 4))
      ∧ peer (!d) (peer (!d) c) ∉ ({peer (!d) c, c} : Finset (Fin 4)) ∧ peer (!d) c ≠ c := by decide
  obtain ⟨h0, h1, h2, h3⟩ := h d c
  rw [h0, Finset.sum_insert h1, Finset.sum_insert h2, Finset.sum_pair h3]
  simp only [add_assoc]

theorem chunk_round (d : Bool) (g : Dev nD) : peer (!d) (peer (!d) (peer (!d) (peer (!d) g))) = g := by
  revert d g; decide

theorem sums_succ (P : Dev nD → FVec Ideal S1x2048x1024 .f32) (d : Bool) (n : ℕ) (c : Dev nD) (j : S512x512.Idx) :
    sums (F := Ideal) P d (n + 1) c j = sums (F := Ideal) P d n (peer (!d) c) j + blk (F := Ideal) (P c) (chunkOf d (n + 1) c) d j := rfl

theorem result_apply (P : Dev nD → FVec Ideal S1x2048x1024 .f32) (c : Dev nD) (i : S1x2048x1024.Idx) :
    result (F := Ideal) P c i = ∑ e : Fin 4, P e i := by
  have hi1 : (i 1).val < 2048 := (i 1).isLt
  have hi2 : (i 2).val < 1024 := (i 2).isLt
  have hi0 : (i 0).val < 1 := (i 0).isLt
  have hfin : ∀ (d : Bool) (c e : Dev nD) j, final (F := Ideal) P d c e j = sums (F := Ideal) P d 3 e j := fun d c e j => by
    unfold final; split <;> rfl
  unfold result
  rw [hfin]
  generalize hd : decide (512 ≤ (i 2).val) = d
  have hb : ∀ (e g : Dev nD), g.val = (i 1).val / 512 →
      blk (F := Ideal) (P e) g d (ix2 (n0 := 512) (n1 := 512) ⟨(i 1).val % 512, Nat.mod_lt _ (by decide)⟩ ⟨(i 2).val % 512, Nat.mod_lt _ (by decide)⟩) = P e i := by
    intro e g hg
    unfold blk
    refine congrArg (P e) (funext fun a => Fin.ext ?_)
    match a with
    | ⟨0, _⟩ => show 0 = (i 0).val; omega
    | ⟨1, _⟩ => show 512 * g.val + (i 1).val % 512 = (i 1).val; omega
    | ⟨2, _⟩ =>
      show 512 * d.toNat + (i 2).val % 512 = (i 2).val
      subst hd
      by_cases h : 512 ≤ (i 2).val
      · simp only [h, decide_true, Bool.toNat_true]; omega
      · simp only [h, decide_false, Bool.toNat_false]; omega
  generalize hg : (⟨(i 1).val / 512, _⟩ : Dev nD) = g
  have hg' : g.val = (i 1).val / 512 := by rw [← hg]
  rw [← round_sum (fun e => P e i) d (peer (!d) g)]
  have e3 := chunk_round d g
  rw [sums_succ, sums_succ, sums_succ]
  refine congrArg₂ (· + ·) (congrArg₂ (· + ·) (congrArg₂ (· + ·) ?_ ?_) ?_) ?_
  · exact hb _ _ (by rw [e3]; exact hg')
  · refine hb _ _ ?_
    show (peer (!d) (peer (!d) (peer (!d) (peer (!d) g)))).val = _
    rw [e3]; exact hg'
  · refine hb _ _ ?_
    show (peer (!d) (peer (!d) (peer (!d) (peer (!d) g)))).val = _
    rw [e3]; exact hg'
  · refine hb _ _ ?_
    show (peer (!d) (peer (!d) (peer (!d) (peer (!d) g)))).val = _
    rw [e3]; exact hg'

end Cert.KernelIdeal.Value
end
-- ==== Proof.Value.Device.lean ====
module

public import proofs.«01_k».proof.Proof.Ring.Model
public import Idealize.ShloMosaic.Lib.MatmulPlain
public import Idealize.ShloMosaic.Lib.IdealHost
public import Idealize.ShloMosaic.Lib.ValueIdx
public import Idealize.ShloMosaic.Lib.ValueLayoutCasts
public import Idealize.ShloMosaic.PureOps.Ideal.Laws

@[expose] public section

/-! One device's partial result at the extended reals, element by element. -/

noncomputable section

namespace Cert.KernelIdeal.Value

open Cert.KernelIdeal Cert.KernelIdeal.Gen Cert.KernelIdeal.Ring
open Idealize.ShloMosaic
open Idealize.ShloMosaic.ValueIdx hiding ix1 ix2 ix3 ix4 ix5

/-- The factor on the scores, `1/√128` rounded to a float. -/
def sc : EReal := Ideal.ofBits .f32 0x3DB504F3#32

theorem mm_proj (x : FVec Ideal S512x1024 .bf16) (w : FVec Ideal S1024x1024 .bf16) (i : Fin 512) (n : Fin 1024) :
    matmul dot_S512x1024_S1024x1024_S512x1024_1_0_0_1_n_n none x w (constant S512x1024 .f32 0x00000000#32) (ix2 i n)
      = ∑ e : Fin 1024, x (ix2 i e) * w (ix2 e n) := by
  have h : dot_S512x1024_S1024x1024_S512x1024_1_0_0_1_n_n = DotDims.plain 512 1024 1024 := rfl
  rw [h]
  refine (Ideal.matmul_plain_apply none x w _ i n).trans ?_
  exact (congrArg (· + _) Ideal.ofBits_zero_f32).trans (zero_add _)

theorem mm_score (q k : FVec Ideal S512x128 .bf16) (i j : Fin 512) :
    matmul dot_S512x128_S512x128_S512x512_1_1_0_0_n_n none q k (constant S512x512 .f32 0x00000000#32) (ix2 i j)
      = ∑ d : Fin 128, q (ix2 i d) * k (ix2 j d) := by
  have h : dot_S512x128_S512x128_S512x512_1_1_0_0_n_n = DotDims.transposedRhs 512 128 512 := rfl
  rw [h]
  refine (Ideal.matmul_transposedRhs_apply none q k _ i j).trans ?_
  exact (congrArg (· + _) Ideal.ofBits_zero_f32).trans (zero_add _)

theorem mm_value (e : FVec Ideal S512x512 .bf16) (v : FVec Ideal S512x128 .bf16) (i : Fin 512) (d : Fin 128) :
    matmul dot_S512x512_S512x128_S512x128_1_0_0_1_n_n none e v (constant S512x128 .f32 0x00000000#32) (ix2 i d)
      = ∑ j : Fin 512, e (ix2 i j) * v (ix2 j d) := by
  have h : dot_S512x512_S512x128_S512x128_1_0_0_1_n_n = DotDims.plain 512 512 128 := rfl
  rw [h]
  refine (Ideal.matmul_plain_apply none e v _ i d).trans ?_
  exact (congrArg (· + _) Ideal.ofBits_zero_f32).trans (zero_add _)

theorem qAll_apply (x : FVec Ideal S2048x1024 .bf16) (w : FVec Ideal S1024x1024 .bf16) (t : Fin 2048) (a : Fin 1024) :
    qAll (F := Ideal) x w (ix2 t a) = (∑ e : Fin 1024, x (ix2 t e) * w (ix2 e a)) * sc := by
  unfold qAll qblk
  show matmul dot_S512x1024_S1024x1024_S512x1024_1_0_0_1_n_n none _ w _ (ix2 ⟨t.val % 512, _⟩ a) * sc = _
  rw [mm_proj]
  congr 1
  refine Finset.sum_congr rfl fun e _ => ?_
  congr 1
  unfold rows512
  refine congrArg x (congrArg₂ ix2 (Fin.ext ?_) rfl)
  show 512 * (t.val / 512) + t.val % 512 = t.val
  omega

theorem att_apply (q k v : FVec Ideal S512x128 .bf16) (i : Fin 512) (d : Fin 128) :
    att (F := Ideal) q k v (ix2 i d)
      = (∑ j : Fin 512, Ideal.exp (∑ d' : Fin 128, q (ix2 i d') * k (ix2 j d')) * v (ix2 j d))
        * Ideal.div 1 (∑ j : Fin 512, Ideal.exp (∑ d' : Fin 128, q (ix2 i d') * k (ix2 j d'))) := by
  have he : ∀ j : Fin 512, Ideal.exp (matmul dot_S512x128_S512x128_S512x512_1_1_0_0_n_n none q k (constant S512x512 .f32 0x00000000#32) (ix2 i j))
      = Ideal.exp (∑ d' : Fin 128, q (ix2 i d') * k (ix2 j d')) := fun j => congrArg _ (mm_score q k i j)
  unfold att
  show matmul dot_S512x512_S512x128_S512x128_1_0_0_1_n_n none _ v _ (ix2 i d) * _ = _
  rw [mm_value]
  congr 1
  · exact Finset.sum_congr rfl fun j _ => congrArg (· * _) (he j)
  · rw [broadcastTo_apply _ broadcasts_S512x1_S512x128 (ix2 i d) (ix2 i 0) (by
      intro a; match a with | ⟨0, _⟩ => rfl | ⟨1, _⟩ => rfl)]
    show Ideal.div (Ideal.ofBits .f32 0x3F800000#32) _ = _
    rw [Ideal.ofBits_one_f32]
    congr 1
    refine (shapeCast_a_a1_apply _ _ i 0).trans ?_
    refine (Ideal.multiReduction_add_single (a := 1) _ _ _ _ _ _).trans ?_
    exact Finset.sum_congr rfl fun j _ => (congrArg (fun i' => Ideal.exp (matmul dot_S512x128_S512x128_S512x512_1_1_0_0_n_n none q k (constant S512x512 .f32 0x00000000#32) i'))
      (by funext a; match a with | ⟨0, _⟩ => rfl | ⟨1, _⟩ => rfl)).trans (he j)

/-- The column of `a`'s head at lane `d`. -/
def col (a : Fin 1024) (d : Fin 128) : Fin 1024 := ⟨128 * (a.val / 128) + d.val, by have := a.isLt; have := d.isLt; omega⟩

/-- Row `j` of the 512 keys that a query at row `t` attends. -/
def key (t : Fin 2048) (j : Fin 512) : Fin 2048 := ⟨(j.val / 64 * 4 + t.val / 64 % 4) * 64 + j.val % 64, by have := j.isLt; omega⟩

/-- The exponential of query row `t`'s score against its key `j`, in the head of column `a`. -/
def ew (q k : S2048x1024.Idx → EReal) (t : Fin 2048) (a : Fin 1024) (j : Fin 512) : EReal :=
  Ideal.exp (∑ d : Fin 128, q (ix2 t (col a d)) * k (ix2 (key t j) (col a d)))

theorem ctx_apply (q k v : FVec Ideal S2048x1024 .bf16) (t : Fin 2048) (a : Fin 1024) (r : Fin 2048) (hr : src r.val = t.val) :
    ctx (F := Ideal) (regroup q) (regroup k) (regroup v) (ix2 r a)
      = (∑ j : Fin 512, ew q k t a j * v (ix2 (key t j) a)) * Ideal.div 1 (∑ j : Fin 512, ew q k t a j) := by
  unfold ctx
  refine (att_apply _ _ _ _ _).trans ?_
  have hr' : src r.val = (r.val % 512 / 64 * 4 + r.val / 512) * 64 + r.val % 64 := rfl
  have ht : t.val / 64 % 4 = r.val / 512 := by have := r.isLt; omega
  have row : ∀ i : Fin 512, i.val = r.val % 512 → ∀ h, (⟨src (512 * (r.val / 512) + i.val), h⟩ : Fin 2048) = t := fun i hi h => Fin.ext (by
    show src (512 * (r.val / 512) + i.val) = t.val
    rw [hi, Nat.div_add_mod, hr])
  have krow : ∀ (j : Fin 512) h, (⟨src (512 * (r.val / 512) + j.val), h⟩ : Fin 2048) = key t j := fun j h => Fin.ext (by
    have := j.isLt
    show src (512 * (r.val / 512) + j.val) = (j.val / 64 * 4 + t.val / 64 % 4) * 64 + j.val % 64
    unfold src; omega)
  have acol : ∀ h, (⟨128 * (a.val / 128) + a.val % 128, h⟩ : Fin 1024) = a := fun h => Fin.ext (Nat.div_add_mod _ _)
  have he : ∀ j : Fin 512, Ideal.exp (∑ d' : Fin 128, sub (regroup q) (r.val / 512) (a.val / 128) (by have := r.isLt; omega) (by have := a.isLt; omega) (ix2 ⟨r.val % 512, Nat.mod_lt _ (by decide)⟩ d')
      * sub (regroup k) (r.val / 512) (a.val / 128) (by have := r.isLt; omega) (by have := a.isLt; omega) (ix2 j d')) = ew q k t a j := fun j => by
    unfold ew
    refine congrArg Ideal.exp (Finset.sum_congr rfl fun d _ => congrArg₂ (· * ·) ?_ ?_)
    · exact congrArg q (congrArg₂ ix2 (row _ rfl _) rfl)
    · exact congrArg k (congrArg₂ ix2 (krow j _) rfl)
  refine congrArg₂ (· * ·) (Finset.sum_congr rfl fun j _ => congrArg₂ (· * ·) (he j) ?_) (congrArg (Ideal.div 1) (Finset.sum_congr rfl fun j _ => he j))
  exact congrArg v (congrArg₂ ix2 (krow j _) (acol _))

/-- The row that the projection reads for row `t` of the output is row `t`, regrouped. -/
theorem src_gath {t : ℕ} (ht : t < 2048) : src (back (t % 512) / 128 * 512 + 128 * (t / 512) + back (t % 512) % 128) = t := by
  obtain ⟨g, b, r, l, hg, hb, hr, hl, rfl⟩ : ∃ g b r l, g < 4 ∧ b < 2 ∧ r < 4 ∧ l < 64 ∧ t = 512 * g + (256 * b + (64 * r + l)) :=
    ⟨t / 512, t / 256 % 2, t / 64 % 4, t % 64, by omega, by omega, by omega, by omega, by omega⟩
  have h1 : (512 * g + (256 * b + (64 * r + l))) % 512 = 256 * b + (64 * r + l) := by omega
  have h2 : (512 * g + (256 * b + (64 * r + l))) / 512 = g := by omega
  have h3 : back (256 * b + (64 * r + l)) = r * 128 + (b * 64 + l) := by
    have h4 : (256 * b + (64 * r + l)) / 64 = 4 * b + r := by omega
    unfold back; rw [h4]; omega
  have h5 : (r * 128 + (b * 64 + l)) / 128 = r := by omega
  have h6 : (r * 128 + (b * 64 + l)) % 128 = b * 64 + l := by omega
  rw [h1, h2, h3, h5, h6]
  have h7 : (r * 512 + 128 * g + (b * 64 + l)) % 512 = 128 * g + (b * 64 + l) := by omega
  have h8 : (128 * g + (b * 64 + l)) / 64 = 2 * g + b := by omega
  have h9 : (r * 512 + 128 * g + (b * 64 + l)) / 512 = r := by omega
  unfold src
  rw [h7, h8, h9]; omega

/-- Element `t, n` of a device's partial result. -/
theorem part_apply (q k v : FVec Ideal S2048x1024 .bf16) (wo : FVec Ideal S1024x1024 .bf16) (u : Fin 1) (t : Fin 2048) (n : Fin 1024) :
    part (F := Ideal) (ctx (F := Ideal) (regroup q) (regroup k) (regroup v)) wo (ix3 u t n)
      = ∑ a : Fin 1024, ((∑ j : Fin 512, ew q k t a j * v (ix2 (key t j) a)) * Ideal.div 1 (∑ j : Fin 512, ew q k t a j)) * wo (ix2 a n) := by
  unfold part proj
  refine (mm_proj _ wo _ n).trans (Finset.sum_congr rfl fun a _ => congrArg (· * _) ?_)
  unfold gath
  refine ctx_apply q k v t a _ ?_
  exact src_gath t.isLt

end Cert.KernelIdeal.Value
end
-- ==== Proof.Value.Mask.lean ====
module

public import proofs.«01_k».proof.Proof.Gen.ReferenceIdeal.Read

@[expose] public section

/-! Which keys a query attends: those whose block of 64 positions leaves the same remainder modulo 4 as the query's. -/

noncomputable section

namespace Cert.ReferenceIdeal.Value

open Cert.ReferenceIdeal Cert.ReferenceIdeal.Gen Cert.ReferenceIdeal.Read
open Idealize.ShloMosaic

variable {F : FTy → Type} [FloatOps F]

/-- The sign of a word. -/
def sgn (w : BitVec 32) : BitVec 32 := if w = 0 then 0 else if w.msb then -1 else 1

/-- A word divided by 64 and rounded down, in the operations the host takes for it. -/
def floorDiv64 (w : BitVec 32) : BitVec 32 :=
  Scalar.select (IntOp.andi (IntOp.cmpi .ne (sgn w) (sgn 64#32)) (IntOp.cmpi .ne (IntOp.remsi .host w 64#32) 0#32))
    (IntOp.subi (IntOp.divsi .host w 64#32) 1#32) (IntOp.divsi .host w 64#32)

theorem floorDiv64_eq : ∀ n : Fin 2048, floorDiv64 (BitVec.ofNat 32 n.val) = BitVec.ofNat 32 (n.val / 64) := by
  unfold floorDiv64
  decide +kernel

/-- The divisor four, after the host's guard against zero. -/
def four : BitVec 32 := Scalar.select (IntOp.cmpi .eq 4#32 0#32) 1#32 4#32

/-- The remainder modulo 4 with the divisor's sign, in the operations the host takes for it. -/
def mod4 (w : BitVec 32) : BitVec 32 :=
  Scalar.select (IntOp.andi (IntOp.cmpi .ne (IntOp.cmpi .slt (IntOp.remsi .host w four) 0#32) (IntOp.cmpi .slt four 0#32))
      (IntOp.cmpi .ne (IntOp.remsi .host w four) 0#32))
    (IntOp.addi (IntOp.remsi .host w four) four) (IntOp.remsi .host w four)

/-- Two blocks are the same or have the same remainder modulo 4, exactly when they have the same remainder. -/
theorem same_class : ∀ a b : Fin 32,
    IntOp.ori (IntOp.cmpi .eq (BitVec.ofNat 32 a.val) (BitVec.ofNat 32 b.val)) (IntOp.cmpi .eq (mod4 (BitVec.ofNat 32 b.val)) (mod4 (BitVec.ofNat 32 a.val)))
      = if a.val % 4 = b.val % 4 then 1#1 else 0#1 := by
  unfold mod4 four
  decide +kernel

theorem v4_apply (i : S2048.Idx) : val_main_v4 (F := F) i = floorDiv64 (BitVec.ofNat 32 (i 0).val) := by
  rw [val_main_v4_apply, val_main_call0_v11_apply, val_main_call0_v13_apply, val_main_call0_v6_apply, val_main_call0_v10_apply,
    val_main_call0_v2_apply, val_main_call0_v8_apply, val_main_call0_v5_apply, val_main_call0_v9_apply, val_main_call0_v12_apply,
    val_main_call0_v1_apply, val_main_call0_v7_apply]
  rfl

theorem v7_apply (i : S2048.Idx) : val_main_v7 (F := F) i = floorDiv64 (BitVec.ofNat 32 (i 0).val) := by
  rw [val_main_v7_apply, val_main_call1_v11_apply, val_main_call1_v13_apply, val_main_call1_v6_apply, val_main_call1_v10_apply,
    val_main_call1_v2_apply, val_main_call1_v8_apply, val_main_call1_v5_apply, val_main_call1_v9_apply, val_main_call1_v12_apply,
    val_main_call1_v1_apply, val_main_call1_v7_apply]
  rfl

theorem v12_apply (i : S1x2048.Idx) : val_main_v12 (F := F) i = mod4 (val_main_v8 (F := F) i) := by
  rw [val_main_v12_apply, val_main_call2_v12_apply, val_main_call2_v14_apply, val_main_call2_v11_apply, val_main_call2_v6_apply,
    val_main_call2_v8_apply, val_main_call2_v10_apply, val_main_call2_v4_apply, val_main_call2_v3_apply, val_main_call2_v5_apply,
    val_main_call2_v7_apply, val_main_call2_v13_apply]
  rfl

theorem v13_apply (i : S2048x1.Idx) : val_main_v13 (F := F) i = mod4 (val_main_v5 (F := F) i) := by
  rw [val_main_v13_apply, val_main_call3_v12_apply, val_main_call3_v14_apply, val_main_call3_v11_apply, val_main_call3_v6_apply,
    val_main_call3_v8_apply, val_main_call3_v10_apply, val_main_call3_v4_apply, val_main_call3_v3_apply, val_main_call3_v5_apply,
    val_main_call3_v7_apply, val_main_call3_v13_apply]
  rfl

/-- The mask. -/
theorem mask_apply (i : S2048x2048.Idx) :
    val_main_v17 (F := F) i = if (i 0).val / 64 % 4 = (i 1).val / 64 % 4 then 1#1 else 0#1 := by
  have h0 : (i 0).val < 2048 := (i 0).isLt
  have h1 : (i 1).val < 2048 := (i 1).isLt
  rw [val_main_v17_apply, val_main_v11_apply, val_main_v16_apply, val_main_v14_apply, val_main_v15_apply, val_main_v9_apply, val_main_v10_apply,
    v12_apply, v13_apply]
  simp only [val_main_v8_apply, val_main_v5_apply, v4_apply, v7_apply]
  exact (congr (congrArg (fun a b => IntOp.ori (IntOp.cmpi .eq a b) (IntOp.cmpi .eq (mod4 b) (mod4 a))) (floorDiv64_eq ⟨(i 0).val, h0⟩))
    (floorDiv64_eq ⟨(i 1).val, h1⟩)).trans (same_class ⟨(i 0).val / 64, by omega⟩ ⟨(i 1).val / 64, by omega⟩)

/-- A fold by `or` with a one in it is one. -/
theorem fold_ori_one {ι : Type} [Fintype ι] (b : BitVec 1) (f : ι → BitVec 1) (t : ι) (h : f t = 1#1) : Finset.univ.fold IntOp.ori b f = 1#1 := by
  classical
  rw [← Finset.insert_erase (Finset.mem_univ t), Finset.fold_insert (Finset.notMem_erase _ _), h]
  exact (by decide : ∀ z : BitVec 1, IntOp.ori 1#1 z = 1#1) _

/-- Every query attends some key, itself. -/
theorem rowKeep_apply (i : S2048.Idx) : val_main_v30 (F := F) i = 1#1 := by
  unfold val_main_v30
  refine (Host.reduce_eq_fold_single (a := 1) IntOp.ori _ _ reducesTo_S2048x2048_S2048_d1 (by decide) h_S_ i).trans ?_
  refine fold_ori_one _ _ (i 0) ?_
  refine (mask_apply _).trans (if_pos ?_)
  rfl

end Cert.ReferenceIdeal.Value
end
-- ==== Proof.Value.Finite.lean ====
module

public import proofs.«01_k».proof.Defs
public import Idealize.ShloMosaic.Lib.ReduceAll
public import Idealize.ShloMosaic.PureOps.Ideal.Laws

@[expose] public section

/-! The precondition, read back: every entry of the input, of the query weights and of the keys is a real number. -/

noncomputable section

namespace Cert.Value

open Idealize.ShloMosaic

theorem facts_kernel : Cert.Pre_finite_inputs_KernelIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S1x2048x32x128 := by decide
  reducesTo_S1x2048x32x128_S_d0_1_2_3 := by decide

theorem facts_reference : Cert.Pre_finite_inputs_ReferenceIdeal.Facts where
  bcast_S_S1x2048x1024 := by decide
  reducesTo_S1x2048x1024_S_d0_1_2 := by decide
  h_S_ := by decide
  bcast_S_S1024x4096 := by decide
  reducesTo_S1024x4096_S_d0_1 := by decide
  bcast_S_S1x2048x32x128 := by decide
  reducesTo_S1x2048x32x128_S_d0_1_2_3 := by decide

theorem bf16_top : Ideal.ofBits .bf16 0x7F80#16 = ⊤ := by simp [Ideal.ofBits, Ideal.ieee]
theorem bf16_bot : Ideal.ofBits .bf16 0xFF80#16 = ⊥ := by simp [Ideal.ofBits, Ideal.ieee]
theorem f32_bot : Ideal.ofBits .f32 0xFF800000#32 = ⊥ := by simp [Ideal.ofBits, Ideal.ieee]

/-- An entry that compares below `⊤` and above `⊥` is a real number. -/
theorem real_of_cmp {a : EReal} (h : IntOp.andi (Ideal.cmp .olt a (Ideal.ofBits .bf16 0x7F80#16)) (Ideal.cmp .ogt a (Ideal.ofBits .bf16 0xFF80#16)) = 1#1) :
    ∃ r : ℝ, a = r := by
  obtain ⟨h1, h2⟩ := IntOp.andi_eq_one.1 h
  rw [bf16_top] at h1
  rw [bf16_bot] at h2
  induction a using EReal.rec with
  | bot => simp [Ideal.cmp] at h2
  | top => simp [Ideal.cmp] at h1
  | coe r => exact ⟨r, rfl⟩

instance : Subsingleton Cert.Pre_finite_inputs_KernelIdeal.S_.Idx := ⟨fun a b => funext fun k => k.elim0⟩

theorem finite_of_pre (h : Cert.Pre_finite_inputs_KernelIdeal.Facts)
    (x : FVec Ideal ⟨3, ![1, 2048, 1024]⟩ .bf16) (w : FVec Ideal ⟨2, ![1024, 1024]⟩ .bf16) (k v : FVec Ideal ⟨4, ![1, 2048, 32, 128]⟩ .bf16)
    (o : FVec Ideal ⟨2, ![1024, 1024]⟩ .bf16) (hp : Cert.Pre_finite_inputs_KernelIdeal.fn (F := Ideal) x w k v o = fun _ => 1#1) :
    (∀ i, ∃ r : ℝ, x i = r) ∧ (∀ i, ∃ r : ℝ, w i = r) ∧ ∀ i, ∃ r : ℝ, k i = r := by
  have h0 := congrFun hp (fun a => a.elim0)
  unfold Cert.Pre_finite_inputs_KernelIdeal.fn Cert.Pre_finite_inputs_KernelIdeal.fn_part1 at h0
  obtain ⟨h1, h2⟩ := IntOp.andi_eq_one.1 h0
  obtain ⟨h3, h4⟩ := IntOp.andi_eq_one.1 h1
  exact ⟨fun i => real_of_cmp (Host.reduce_andi_all _ _ _ _ _ h3 i), fun i => real_of_cmp (Host.reduce_andi_all _ _ _ _ _ h4 i),
    fun i => real_of_cmp (Host.reduce_andi_all _ _ _ _ _ h2 i)⟩

end Cert.Value
end
-- ==== Proof.Value.Softmax.lean ====
module

public import Idealize.ShloMosaic.PureOps.Ideal.Laws
public import Idealize.ShloMosaic.Lib.IdealHost

@[expose] public section

/-! Softmax over a set of keys, once with the row's maximum taken off and every weight divided by the sum, once with neither.

The scores are real; the values may be any extended reals. -/

noncomputable section

namespace Cert.Value

open Idealize.ShloMosaic

variable {ι : Type} [Fintype ι]

/-- A finite sum of real numbers is real. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exists_coe_sum (f : ι → EReal) (h : ∀ i, ∃ r : ℝ, f i = r) : ∃ r : ℝ, ∑ i, f i = r := by
  choose g hg using h
  exact ⟨∑ i, g i, by rw [coe_sum]; exact Finset.sum_congr rfl fun i _ => hg i⟩

/-- A real factor that isn't negative goes through a sum of extended reals. -/
theorem sum_mul_real (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

/-- The maximum of real numbers and `⊥`, not all `⊥`, is real. -/
theorem real_max (f : ι → EReal) (hf : ∀ i, f i ≠ ⊤) {i₀ : ι} (h0 : f i₀ ≠ ⊥) : ∃ r : ℝ, Finset.univ.fold max ⊥ f = r := by
  have hle : ∀ i, f i ≤ Finset.univ.fold max ⊥ f := fun i => (Finset.le_fold_max _).2 (Or.inr ⟨i, Finset.mem_univ _, le_rfl⟩)
  have htop : Finset.univ.fold max ⊥ f ≠ ⊤ := by
    have : Finset.univ.fold max ⊥ f < ⊤ := (Finset.fold_max_lt _).2 ⟨bot_lt_top, fun i _ => lt_top_iff_ne_top.2 (hf i)⟩
    exact this.ne
  have hbot : Finset.univ.fold max ⊥ f ≠ ⊥ := fun h => h0 (le_bot_iff.1 (h ▸ hle i₀))
  exact ⟨_, (EReal.coe_toReal htop hbot).symm⟩

/-- The two softmaxes agree: `p` says which keys count, `s` are the scores, `M` is what is taken off. -/
theorem softmax_eq (p : ι → Prop) [DecidablePred p] (s : ι → ℝ) (M : ℝ) (v : ι → EReal) {i₀ : ι} (h0 : p i₀) :
    (∑ i, v i * Ideal.div (Ideal.exp ((if p i then (s i : EReal) else ⊥) - M)) (∑ i, Ideal.exp ((if p i then (s i : EReal) else ⊥) - M)))
      = (∑ i ∈ Finset.univ.filter p, Ideal.exp (s i) * v i) * Ideal.div 1 (∑ i ∈ Finset.univ.filter p, Ideal.exp (s i)) := by
  have hw : ∀ i, Ideal.exp ((if p i then (s i : EReal) else ⊥) - M) = (((if p i then Real.exp (s i - M) else 0) : ℝ) : EReal) := fun i => by
    split
    · rw [← EReal.coe_sub]; rfl
    · rw [EReal.bot_sub]; rfl
  have hZ : 0 < ∑ i ∈ Finset.univ.filter p, Real.exp (s i) :=
    Finset.sum_pos (fun i _ => Real.exp_pos _) ⟨i₀, by simp [h0]⟩
  have hsum : (∑ i, (if p i then Real.exp (s i - M) else 0)) = Real.exp (-M) * ∑ i ∈ Finset.univ.filter p, Real.exp (s i) := by
    rw [Finset.mul_sum, Finset.sum_filter]
    refine Finset.sum_congr rfl fun i _ => ?_
    split
    · rw [← Real.exp_add]; congr 1; ring
    · rfl
  have hne : (∑ i, (if p i then Real.exp (s i - M) else 0)) ≠ 0 := by
    rw [hsum]; exact (mul_pos (Real.exp_pos _) hZ).ne'
  have hR : (∑ i ∈ Finset.univ.filter p, Ideal.exp (s i)) = ((∑ i ∈ Finset.univ.filter p, Real.exp (s i) : ℝ) : EReal) := (coe_sum _ _).symm
  simp only [hw]
  rw [← coe_sum, hR, Ideal.div_coe hZ.ne', one_mul, sum_mul_real _ _ (by positivity), Finset.sum_filter]
  refine Finset.sum_congr rfl fun i _ => ?_
  rw [Ideal.div_coe hne]
  split
  · have e : Real.exp (s i - M) * (1 / ∑ i, (if p i then Real.exp (s i - M) else 0)) = Real.exp (s i) * (1 / ∑ i ∈ Finset.univ.filter p, Real.exp (s i)) := by
      rw [hsum, Real.exp_sub, Real.exp_neg]
      have := (Real.exp_pos M).ne'
      field_simp
    rw [← EReal.coe_mul, e, EReal.coe_mul, ← mul_assoc, mul_comm (v i)]
    rfl
  · rw [EReal.coe_zero, zero_mul, mul_zero]

end Cert.Value
end
-- ==== Proof.Value.Ref.lean ====
module

public import proofs.«01_k».proof.Proof.Value.Mask
public import proofs.«01_k».proof.Proof.Value.Finite
public import proofs.«01_k».proof.Proof.Value.Softmax
public import Idealize.ShloMosaic.Lib.Pointwise.Index

@[expose] public section

/-! The reference's result as a formula: a softmax over the attended keys, the values weighted by it, the output projection. -/

noncomputable section

namespace Cert.ReferenceIdeal.Value

open Cert.ReferenceIdeal Cert.ReferenceIdeal.Gen Cert.ReferenceIdeal.Read Cert.Value
open Idealize.ShloMosaic

/-- The factor on the scores. -/
def sc : EReal := Ideal.ofBits .f32 0x3DB504F3#32

variable (x : S1x2048x1024.Idx → EReal) (w : S1024x4096.Idx → EReal) (k v : S1x2048x32x128.Idx → EReal) (o : S4096x1024.Idx → EReal)

/-- A query's entry. -/
def qd (t : Fin 2048) (A : Fin 4096) : EReal := ∑ e : Fin 1024, x (ix3 (n0 := 1) 0 t e) * w (ix2 e A)

/-- A score: head `H`, query `t`, key `j`. -/
def score (H : Fin 32) (t j : Fin 2048) : EReal :=
  (∑ d : Fin 128, qd x w t ⟨128 * H.val + d.val, by omega⟩ * k (ix4 (n0 := 1) 0 j H d)) * sc

/-- Query `t` attends key `j`. -/
def Att (t j : Fin 2048) : Prop := t.val / 64 % 4 = j.val / 64 % 4

instance (t : Fin 2048) : DecidablePred (Att t) := fun j => inferInstanceAs (Decidable (t.val / 64 % 4 = j.val / 64 % 4))

/-- A score, where the query attends the key; `⊥` elsewhere. -/
def masked (H : Fin 32) (t j : Fin 2048) : EReal := if Att t j then score x w k H t j else ⊥

theorem v2_eq (t : Fin 2048) (H : Fin 32) (d : Fin 128) :
    val_main_v2 (F := Ideal) x w (ix4 (n0 := 1) 0 t H d) = qd x w t ⟨128 * H.val + d.val, by omega⟩ := by
  rw [val_main_v2_apply, val_main_v1_apply]
  show val_main_v0 (F := Ideal) x w _ = _
  rw [val_main_v0_apply]
  refine Finset.sum_congr rfl fun e _ => congr (congrArg HMul.hMul (congrArg x ?_)) (congrArg w ?_)
  · funext a
    match a with
    | ⟨0, _⟩ => rfl
    | ⟨1, _⟩ => exact Fin.ext (show (((0 * 2048 + t.val) * 32 + H.val) * 128 + d.val) / 4096 % 2048 = t.val by omega)
    | ⟨2, _⟩ => rfl
  · funext a
    match a with
    | ⟨0, _⟩ => rfl
    | ⟨1, _⟩ => exact Fin.ext (show (((0 * 2048 + t.val) * 32 + H.val) * 128 + d.val) % 4096 = 128 * H.val + d.val by omega)

theorem v22_eq (H : Fin 32) (t j : Fin 2048) : val_main_v22 (F := Ideal) x w k (ix4 (n0 := 1) 0 H t j) = score x w k H t j := by
  rw [val_main_v22_apply, val_main_v21_apply, val_main_v20_apply, val_main_v19_apply]
  show val_main_v18 (F := Ideal) x w k _ * sc = _
  rw [val_main_v18_apply]
  refine congrArg (· * sc) (Finset.sum_congr rfl fun d _ => congr (congrArg HMul.hMul ?_) (congrArg k ?_))
  · refine (congrArg (val_main_v2 (F := Ideal) x w) (funext fun a => ?_)).trans (v2_eq x w t H d)
    match a with | ⟨0, _⟩ => rfl | ⟨1, _⟩ => rfl | ⟨2, _⟩ => rfl | ⟨3, _⟩ => rfl
  · funext a
    match a with | ⟨0, _⟩ => rfl | ⟨1, _⟩ => rfl | ⟨2, _⟩ => rfl | ⟨3, _⟩ => rfl

theorem v24_eq (H : Fin 32) (t j : Fin 2048) : val_main_v24 (F := Ideal) x w k (ix4 (n0 := 1) 0 H t j) = masked x w k H t j := by
  rw [val_main_v24_apply, val_main_call4_v1_apply, val_main_call4_v2_apply, val_main_v23_apply, mask_apply, v22_eq]
  show Scalar.select (if Att t j then 1#1 else 0#1) _ (Ideal.ofBits .f32 0xFF800000#32) = _
  rw [f32_bot]
  unfold Scalar.select masked
  split <;> rfl

/-- The largest of a query's scores. -/
def top (H : Fin 32) (t : Fin 2048) : EReal := Finset.univ.fold max ⊥ (masked x w k H t)

theorem v25_eq (H : Fin 32) (t : Fin 2048) : val_main_v25 (F := Ideal) x w k (ix3 (n0 := 1) 0 H t) = top x w k H t := by
  unfold val_main_v25
  refine (Host.reduce_eq_fold_single (a := 3) FloatOps.maximumf _ _ reducesTo_S1x32x2048x2048_S1x32x2048_d3 (by decide) h_S_ _).trans ?_
  have e : (val_main_cst_4 (F := Ideal)) (Shape.Idx.first h_S_) = ⊥ := f32_bot
  rw [e]
  refine congrArg (fun f : Fin 2048 → EReal => Finset.univ.fold max ⊥ f) (funext fun j => ?_)
  refine (congrArg (val_main_v24 (F := Ideal) x w k) (funext fun a => ?_)).trans (v24_eq x w k H t j)
  match a with | ⟨0, _⟩ => rfl | ⟨1, _⟩ => rfl | ⟨2, _⟩ => rfl | ⟨3, _⟩ => rfl

theorem v29_eq (H : Fin 32) (t j : Fin 2048) :
    val_main_v29 (F := Ideal) x w k (ix4 (n0 := 1) 0 H t j) = Ideal.exp (masked x w k H t j - top x w k H t) := by
  rw [val_main_v29_apply, val_main_v28_apply, val_main_v27_apply, val_main_v26_apply, v24_eq]
  refine congrArg (fun z => Ideal.exp (masked x w k H t j - z)) ?_
  refine (congrArg (val_main_v25 (F := Ideal) x w k) (funext fun a => ?_)).trans (v25_eq x w k H t)
  match a with | ⟨0, _⟩ => rfl | ⟨1, _⟩ => rfl | ⟨2, _⟩ => rfl

theorem v32_eq (H : Fin 32) (t : Fin 2048) :
    val_main_v32 (F := Ideal) x w k (ix3 (n0 := 1) 0 H t) = ∑ j : Fin 2048, Ideal.exp (masked x w k H t j - top x w k H t) := by
  rw [val_main_v32_apply]
  have e : (val_main_cst_6 (F := Ideal)) (Shape.Idx.first h_S_) = 0 := Ideal.ofBits_zero_f32
  rw [e, zero_add]
  refine Finset.sum_congr rfl fun j _ => ?_
  refine (congrArg (val_main_v29 (F := Ideal) x w k) (funext fun a => ?_)).trans (v29_eq x w k H t j)
  match a with | ⟨0, _⟩ => rfl | ⟨1, _⟩ => rfl | ⟨2, _⟩ => rfl | ⟨3, _⟩ => rfl

theorem select_one {α : Type} (a b : α) : Scalar.select 1#1 a b = a := if_pos rfl

theorem v38_eq (H : Fin 32) (t j : Fin 2048) :
    val_main_v38 (F := Ideal) x w k (ix4 (n0 := 1) 0 H t j)
      = Ideal.div (Ideal.exp (masked x w k H t j - top x w k H t)) (∑ j : Fin 2048, Ideal.exp (masked x w k H t j - top x w k H t)) := by
  rw [val_main_v38_apply, val_main_call6_v1_apply, val_main_v37_apply, rowKeep_apply, val_main_v36_apply, val_main_v35_apply, val_main_v34_apply,
    val_main_call5_v1_apply, val_main_v31_apply, rowKeep_apply, val_main_v33_apply, v29_eq]
  rw [select_one, select_one]
  refine congrArg (fun z => Ideal.div _ z) ?_
  refine (congrArg (val_main_v32 (F := Ideal) x w k) (funext fun a => ?_)).trans (v32_eq x w k H t)
  match a with | ⟨0, _⟩ => rfl | ⟨1, _⟩ => rfl | ⟨2, _⟩ => rfl

/-- The values of head `H`, column `d`, weighted by the softmax of query `t`. -/
theorem v40_eq (H : Fin 32) (d : Fin 128) (t : Fin 2048) :
    val_main_v40 (F := Ideal) x w k v (ix4 (n0 := 1) 0 H d t)
      = ∑ j : Fin 2048, v (ix4 (n0 := 1) 0 j H d) * Ideal.div (Ideal.exp (masked x w k H t j - top x w k H t)) (∑ j : Fin 2048, Ideal.exp (masked x w k H t j - top x w k H t)) := by
  rw [val_main_v40_apply]
  refine Finset.sum_congr rfl fun j _ => congr (congrArg HMul.hMul ?_) ?_
  · show v _ = _
    refine congrArg v (funext fun a => ?_)
    match a with | ⟨0, _⟩ => rfl | ⟨1, _⟩ => rfl | ⟨2, _⟩ => rfl | ⟨3, _⟩ => rfl
  · refine (congrArg (val_main_v38 (F := Ideal) x w k) (funext fun a => ?_)).trans (v38_eq x w k H t j)
    match a with | ⟨0, _⟩ => rfl | ⟨1, _⟩ => rfl | ⟨2, _⟩ => rfl | ⟨3, _⟩ => rfl

/-- The result, one entry. -/
theorem v44_eq (u : Fin 1) (t : Fin 2048) (n : Fin 1024) :
    val_main_v44 (F := Ideal) x w k v o (ix3 u t n)
      = ∑ A : Fin 4096, val_main_v40 (F := Ideal) x w k v (ix4 (n0 := 1) 0 ⟨A.val / 128, by omega⟩ ⟨A.val % 128, by omega⟩ t) * o (ix2 A n) := by
  rw [val_main_v44_apply]
  refine Finset.sum_congr rfl fun A _ => congr (congrArg HMul.hMul ?_) ?_
  · rw [val_main_v42_apply, val_main_v41_apply]
    refine congrArg (val_main_v40 (F := Ideal) x w k v) (funext fun a => ?_)
    have hu : u.val = 0 := by omega
    match a with
    | ⟨0, _⟩ => rfl
    | ⟨1, _⟩ => exact Fin.ext (show ((u.val * 2048 + t.val) * 4096 + A.val) / 128 % 32 = A.val / 128 by omega)
    | ⟨2, _⟩ => exact Fin.ext (show ((u.val * 2048 + t.val) * 4096 + A.val) % 128 = A.val % 128 by omega)
    | ⟨3, _⟩ => exact Fin.ext (show ((u.val * 2048 + t.val) * 4096 + A.val) / 4096 % 2048 = t.val by omega)
  · show o _ = _
    refine congrArg o (funext fun a => ?_)
    match a with | ⟨0, _⟩ => rfl | ⟨1, _⟩ => rfl

/-- The factor is a real number. -/
theorem sc_real : ∃ r : ℝ, sc = r := by
  show ∃ r : ℝ, Ideal.ieee 8 23 (0x3DB504F3#32) = r
  unfold Ideal.ieee
  dsimp only
  rw [if_neg (by decide), if_neg (by decide)]
  exact ⟨_, rfl⟩

end Cert.ReferenceIdeal.Value
end
-- ==== Proof.Value.Join.lean ====
module

public import proofs.«01_k».proof.Proof.Value.Device
public import proofs.«01_k».proof.Proof.Value.Ref

@[expose] public section

/-! One device's partial result is the reference's output projection summed over that device's 1024 columns. -/

noncomputable section

namespace Cert.Value

open Cert.ReferenceIdeal.Value (qd score Att masked top v40_eq sc_real)
open Cert.KernelIdeal.Value (key col ew part_apply qAll_apply)
open Cert.KernelIdeal.Ring (part ctx regroup qAll)
open Cert.ReferenceIdeal.Read (val_main_v40)
open Idealize.ShloMosaic

/-- Sums over the keys a query attends run over the 512 keys the kernel takes for it. -/
theorem sum_attended (t : Fin 2048) (f : Fin 2048 → EReal) : ∑ j ∈ Finset.univ.filter (Att t), f j = ∑ j : Fin 512, f (key t j) := by
  have ht : t.val / 64 % 4 < 4 := Nat.mod_lt _ (by decide)
  refine Finset.sum_nbij' (fun j => ⟨j.val / 256 * 64 + j.val % 64, by have := j.isLt; omega⟩) (key t) ?_ ?_ ?_ ?_ ?_
  · exact fun _ _ => Finset.mem_univ _
  · intro j _
    refine Finset.mem_filter.2 ⟨Finset.mem_univ _, ?_⟩
    show t.val / 64 % 4 = ((j.val / 64 * 4 + t.val / 64 % 4) * 64 + j.val % 64) / 64 % 4
    omega
  · intro j hj
    have h : t.val / 64 % 4 = j.val / 64 % 4 := (Finset.mem_filter.1 hj).2
    refine Fin.ext ?_
    show ((j.val / 256 * 64 + j.val % 64) / 64 * 4 + t.val / 64 % 4) * 64 + (j.val / 256 * 64 + j.val % 64) % 64 = j.val
    omega
  · intro j _
    refine Fin.ext ?_
    show ((j.val / 64 * 4 + t.val / 64 % 4) * 64 + j.val % 64) / 256 * 64 + ((j.val / 64 * 4 + t.val / 64 % 4) * 64 + j.val % 64) % 64 = j.val
    omega
  · intro j hj
    have h : t.val / 64 % 4 = j.val / 64 % 4 := (Finset.mem_filter.1 hj).2
    refine congrArg f (Fin.ext ?_)
    show j.val = ((j.val / 256 * 64 + j.val % 64) / 64 * 4 + t.val / 64 % 4) * 64 + (j.val / 256 * 64 + j.val % 64) % 64
    omega

/-- A product of real numbers is real. -/
theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

/-- A real factor goes from each product into the sum's place. -/
theorem sum_scale {n : ℕ} (p q : Fin n → EReal) (s : EReal) (hp : ∀ i, ∃ r : ℝ, p i = r) (hq : ∀ i, ∃ r : ℝ, q i = r) (hs : ∃ r : ℝ, s = r) :
    ∑ i, p i * s * q i = (∑ i, p i * q i) * s := by
  choose p' hp' using hp
  choose q' hq' using hq
  obtain ⟨s', rfl⟩ := hs
  have h1 : ∀ i, p i * (s' : EReal) * q i = ((p' i * s' * q' i : ℝ) : EReal) := fun i => by rw [hp', hq', EReal.coe_mul, EReal.coe_mul]
  have h2 : ∀ i, p i * q i = ((p' i * q' i : ℝ) : EReal) := fun i => by rw [hp', hq', EReal.coe_mul]
  simp only [h1, h2]
  rw [← coe_sum, ← coe_sum, ← EReal.coe_mul, Finset.sum_mul]
  exact congrArg _ (Finset.sum_congr rfl fun i _ => by ring)

variable (x : (⟨3, ![1, 2048, 1024]⟩ : Shape).Idx → EReal) (w : (⟨2, ![1024, 4096]⟩ : Shape).Idx → EReal)
  (k v : (⟨4, ![1, 2048, 32, 128]⟩ : Shape).Idx → EReal) (o : (⟨2, ![4096, 1024]⟩ : Shape).Idx → EReal)

section Real

variable (hx : ∀ i, ∃ r : ℝ, x i = r) (hw : ∀ i, ∃ r : ℝ, w i = r) (hk : ∀ i, ∃ r : ℝ, k i = r)

include hx hw

theorem qd_real (t : Fin 2048) (A : Fin 4096) : ∃ r : ℝ, qd x w t A = r :=
  exists_coe_sum _ fun _ => real_mul (hx _) (hw _)

include hk

theorem score_real (H : Fin 32) (t j : Fin 2048) : ∃ r : ℝ, score x w k H t j = r :=
  real_mul (exists_coe_sum _ fun _ => real_mul (qd_real x w hx hw t _) (hk _)) sc_real

/-- The reference's weighted values, with neither the maximum taken off nor the masked keys. -/
theorem v40_plain (H : Fin 32) (d : Fin 128) (t : Fin 2048) :
    val_main_v40 (F := Ideal) x w k v (ix4 (n0 := 1) 0 H d t)
      = (∑ j : Fin 512, Ideal.exp (score x w k H t (key t j)) * v (ix4 (n0 := 1) 0 (key t j) H d)) * Ideal.div 1 (∑ j : Fin 512, Ideal.exp (score x w k H t (key t j))) := by
  choose s hs using fun j => score_real x w k hx hw hk H t j
  have hm : ∀ j, masked x w k H t j = if Att t j then (s j : EReal) else ⊥ := fun j => by unfold masked; rw [hs]
  have htt : Att t t := rfl
  obtain ⟨M, hM⟩ : ∃ M : ℝ, top x w k H t = M := by
    refine real_max _ (fun j => ?_) (i₀ := t) ?_
    · rw [hm]; split
      · exact EReal.coe_ne_top _
      · exact bot_ne_top
    · rw [hm, if_pos htt]; exact EReal.coe_ne_bot _
  rw [v40_eq]
  simp only [hm, hM]
  rw [softmax_eq (Att t) s M (fun j => v (ix4 (n0 := 1) 0 j H d)) htt, sum_attended, sum_attended]
  simp only [hs]

/-- A device's partial result. -/
theorem device_eq (c : Fin 4) (xl : (⟨2, ![2048, 1024]⟩ : Shape).Idx → EReal) (wl : (⟨2, ![1024, 1024]⟩ : Shape).Idx → EReal)
    (kl vl : (⟨2, ![2048, 1024]⟩ : Shape).Idx → EReal) (ol : (⟨2, ![1024, 1024]⟩ : Shape).Idx → EReal)
    (exl : ∀ t e, xl (ix2 t e) = x (ix3 (n0 := 1) 0 t e))
    (ewl : ∀ e (a : Fin 1024), wl (ix2 e a) = w (ix2 e ⟨1024 * c.val + a.val, by omega⟩))
    (ekl : ∀ j (a : Fin 1024), kl (ix2 j a) = k (ix4 (n0 := 1) 0 j ⟨8 * c.val + a.val / 128, by omega⟩ ⟨a.val % 128, by omega⟩))
    (evl : ∀ j (a : Fin 1024), vl (ix2 j a) = v (ix4 (n0 := 1) 0 j ⟨8 * c.val + a.val / 128, by omega⟩ ⟨a.val % 128, by omega⟩))
    (eol : ∀ (a : Fin 1024) n, ol (ix2 a n) = o (ix2 ⟨1024 * c.val + a.val, by omega⟩ n))
    (u : Fin 1) (t : Fin 2048) (n : Fin 1024) :
    part (F := Ideal) (ctx (F := Ideal) (regroup (qAll (F := Ideal) xl wl)) (regroup kl) (regroup vl)) ol (ix3 u t n)
      = ∑ a : Fin 1024, val_main_v40 (F := Ideal) x w k v
          (ix4 (n0 := 1) 0 ⟨(1024 * c.val + a.val) / 128, by omega⟩ ⟨(1024 * c.val + a.val) % 128, by omega⟩ t) * o (ix2 ⟨1024 * c.val + a.val, by omega⟩ n) := by
  refine (part_apply _ _ _ _ u t n).trans (Finset.sum_congr rfl fun a _ => ?_)
  have hH : (⟨(1024 * c.val + a.val) / 128, by omega⟩ : Fin 32) = ⟨8 * c.val + a.val / 128, by omega⟩ := Fin.ext (by show _ / _ = _ + _; omega)
  have hD : (⟨(1024 * c.val + a.val) % 128, by omega⟩ : Fin 128) = ⟨a.val % 128, by omega⟩ := Fin.ext (by show _ % _ = _ % _; omega)
  have he : ∀ j, ew (qAll (F := Ideal) xl wl) kl t a j = Ideal.exp (score x w k ⟨8 * c.val + a.val / 128, by omega⟩ t (key t j)) := fun j => by
    refine congrArg Ideal.exp ?_
    refine Eq.trans (Finset.sum_congr rfl fun d _ => ?_)
      (sum_scale (fun d : Fin 128 => qd x w t ⟨128 * (8 * c.val + a.val / 128) + d.val, by omega⟩)
        (fun d => k (ix4 (n0 := 1) 0 (key t j) ⟨8 * c.val + a.val / 128, by omega⟩ d)) _ (fun d => qd_real x w hx hw t _) (fun d => hk _) sc_real)
    refine congr (congrArg HMul.hMul ?_) ?_
    · refine (qAll_apply xl wl t (col a d)).trans (congrArg (· * _) (Finset.sum_congr rfl fun e _ => ?_))
      rw [exl, ewl]
      refine congrArg (x _ * w ·) (congrArg (ix2 e) (Fin.ext ?_))
      show 1024 * c.val + (128 * (a.val / 128) + d.val) = 128 * (8 * c.val + a.val / 128) + d.val
      omega
    · rw [ekl]
      refine congrArg k (congr (congrArg (ix4 (n0 := 1) 0 (key t j)) (Fin.ext ?_)) (Fin.ext ?_))
      · show 8 * c.val + (128 * (a.val / 128) + d.val) / 128 = 8 * c.val + a.val / 128
        omega
      · show (128 * (a.val / 128) + d.val) % 128 = d.val
        omega
  rw [hH, hD, v40_plain x w k v hx hw hk]
  simp only [he, evl, eol]

end Real

/-- A sum over 4096 columns, device by device. -/
theorem sum_devices (g : Fin 4096 → EReal) : ∑ A, g A = ∑ c : Fin 4, ∑ a : Fin 1024, g ⟨1024 * c.val + a.val, by omega⟩ := by
  rw [← Equiv.sum_comp (finProdFinEquiv (m := 4) (n := 1024)) g, Fintype.sum_prod_type]
  refine Finset.sum_congr rfl fun c _ => Finset.sum_congr rfl fun a _ => congrArg g (Fin.ext ?_)
  show a.val + 1024 * c.val = 1024 * c.val + a.val
  omega

end Cert.Value
end
-- ==== Proof.Value.Result.lean ====
module

public import proofs.«01_k».proof.Proof.Value.Host
public import proofs.«01_k».proof.Proof.Value.Sum
public import proofs.«01_k».proof.Proof.Value.Join

@[expose] public section

/-! Every device's result is the reference's. -/

noncomputable section

namespace Cert.Value

open Cert.KernelIdeal Cert.KernelIdeal.Gen Cert.KernelIdeal.Ring
open Cert.KernelIdeal.Value (result_apply xIn_apply wIn_eq oIn_eq kIn_eq vIn_eq heads_apply)
open Cert.ReferenceIdeal.Value (v44_eq)
open Cert.ReferenceIdeal.Read (val_main_v44)
open Idealize.ShloMosaic Idealize.ShloMosaic.TcCoe

variable (m : (ℓ : Loc nD τ sig) → Buf (Elt Ideal) ℓ)
variable (x : (⟨3, ![1, 2048, 1024]⟩ : Shape).Idx → EReal) (w : (⟨2, ![1024, 4096]⟩ : Shape).Idx → EReal)
  (k v : (⟨4, ![1, 2048, 32, 128]⟩ : Shape).Idx → EReal) (o : (⟨2, ![4096, 1024]⟩ : Shape).Idx → EReal)

/-- Every entry of an array cut along its columns into four lies in some device's block. -/
theorem real_of_blocks (h : ∀ (c : Fin 4) i, ∃ r : ℝ, Layout.block ⟨2, ![1024, 1024]⟩ ⟨2, ![1024, 4096]⟩ 1 4 c w (by decide) i = r) (i : (⟨2, ![1024, 4096]⟩ : Shape).Idx) :
    ∃ r : ℝ, w i = r := by
  have h1 : (i 1).val < 4096 := (i 1).isLt
  obtain ⟨r, hr⟩ := h ⟨(i 1).val / 1024, by omega⟩ (ix2 (n0 := 1024) (n1 := 1024) (i 0) ⟨(i 1).val % 1024, by omega⟩)
  refine ⟨r, (congrArg w (funext fun a => ?_)).trans hr⟩
  match a with
  | ⟨0, _⟩ => rfl
  | ⟨1, _⟩ => exact Fin.ext (show (i 1).val = (i 1).val / 1024 * 1024 + (i 1).val % 1024 by omega)

theorem out_eq (hx : ∀ i, ∃ r : ℝ, x i = r) (hw : ∀ i, ∃ r : ℝ, w i = r) (hk : ∀ i, ∃ r : ℝ, k i = r)
    (h0 : ∀ c : Dev nD, m ((c.tc : Thread nD τ).loc main_arg0) = x)
    (h1 : ∀ c : Dev nD, m ((c.tc : Thread nD τ).loc main_arg1) = Layout.block ⟨2, ![1024, 1024]⟩ ⟨2, ![1024, 4096]⟩ 1 4 c w)
    (h2 : ∀ c : Dev nD, m ((c.tc : Thread nD τ).loc main_arg2) = k)
    (h3 : ∀ c : Dev nD, m ((c.tc : Thread nD τ).loc main_arg3) = v)
    (h4 : ∀ c : Dev nD, m ((c.tc : Thread nD τ).loc main_arg4) = Layout.block ⟨2, ![1024, 1024]⟩ ⟨2, ![4096, 1024]⟩ 0 4 c o)
    (c : Dev nD) : outOf m c = val_main_v44 (F := Ideal) x w k v o := by
  funext i
  obtain ⟨u, t, n, rfl⟩ : ∃ (u : Fin 1) (t : Fin 2048) (n : Fin 1024), i = ix3 u t n := ⟨i 0, i 1, i 2, by
    funext a
    match a with | ⟨0, _⟩ => rfl | ⟨1, _⟩ => rfl | ⟨2, _⟩ => rfl⟩
  rw [v44_eq, sum_devices]
  refine (result_apply (Pm m) c _).trans (Finset.sum_congr rfl fun e _ => ?_)
  refine device_eq x w k v o hx hw hk e (xIn m e) (wIn m e) (kIn m e) (vIn m e) (oIn m e) ?_ ?_ ?_ ?_ ?_ u t n
  · intro t e'
    rw [xIn_apply, h0]
  · intro e' a
    rw [wIn_eq, h1]
    refine congrArg w (funext fun b => ?_)
    match b with
    | ⟨0, _⟩ => rfl
    | ⟨1, _⟩ => exact Fin.ext (show e.val * 1024 + a.val = 1024 * e.val + a.val by omega)
  · intro j a
    rw [kIn_eq, h2]
    exact heads_apply _ e j a
  · intro j a
    rw [vIn_eq, h3]
    exact heads_apply _ e j a
  · intro a n
    rw [oIn_eq, h4]
    refine congrArg o (funext fun b => ?_)
    match b with
    | ⟨0, _⟩ => exact Fin.ext (show e.val * 1024 + a.val = 1024 * e.val + a.val by omega)
    | ⟨1, _⟩ => rfl

end Cert.Value
end
-- ==== Proof.lean ====
/- The proof of the claims: what each program leaves in memory, and how the results compare. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Ring.Same
public import proofs.«01_k».proof.Proof.Value.Result
public import Idealize.ShloMosaic.Lib.Quiescent
public import Idealize.ShloMosaic.Adequacy
public import Idealize.ShloMosaic.Init

@[expose] public section

noncomputable section

namespace Cert.Proof

open Idealize.ShloMosaic Idealize.SL.Sem

theorem frame_printed : Cert.quiescent_Kernel (hKernel := Cert.Kernel.Gen.facts) :=
  fun m g _ => Cert.KernelIdeal.Ring.run_printed m g

theorem frame_ideal : Cert.quiescent_KernelIdeal (hKernelIdeal := Cert.KernelIdeal.Gen.facts) :=
  fun m g _ => (θ_run (Cert.KernelIdeal.defs (F := Ideal)) _ _).mono (fun _ h => ⟨fun c => (h.1 c).2, h.2⟩) (Cert.KernelIdeal.Ring.run_main m g)

theorem frame_reference : Cert.quiescent_ReferenceIdeal (hReferenceIdeal := Cert.ReferenceIdeal.Gen.facts) :=
  fun m g _ => (θ_run (Cert.ReferenceIdeal.defs (F := Ideal)) _ _).mono
    (fun r h => ⟨fun c => (h c).2, sem_eq_zero_of_no_sems (by decide) r.2⟩) (Cert.ReferenceIdeal.Value.run m g)

theorem frame_ideal_pre : Cert.quiescent_KernelIdeal_pre_finite_inputs_KernelIdeal (hKernelIdeal := Cert.KernelIdeal.Gen.facts)
    (hPre_finite_inputs_KernelIdeal := Cert.Value.facts_kernel) :=
  fun m g _ => frame_ideal m g trivial

theorem frame_reference_pre : Cert.quiescent_ReferenceIdeal_pre_finite_inputs_ReferenceIdeal (hReferenceIdeal := Cert.ReferenceIdeal.Gen.facts)
    (hPre_finite_inputs_ReferenceIdeal := Cert.Value.facts_reference) :=
  fun m g _ => frame_reference m g trivial

/-- On every device the kernel leaves what the reference leaves. -/
theorem algebraic : Cert.algebraic_KernelIdeal_ReferenceIdeal_pre_finite_inputs_KernelIdeal (hKernelIdeal := Cert.KernelIdeal.Gen.facts)
    (hReferenceIdeal := Cert.ReferenceIdeal.Gen.facts) (hPre_finite_inputs_KernelIdeal := Cert.Value.facts_kernel) := by
  intro m g m' g' hpre hin
  have hfin := fun c => Cert.Value.finite_of_pre Cert.Value.facts_kernel _ _ _ _ _ (hpre c)
  have hx : ∀ i, ∃ r : ℝ, @Eq EReal (m' (((0 : Dev Cert.ReferenceIdeal.nD).tc : Thread Cert.ReferenceIdeal.nD Cert.ReferenceIdeal.τ).loc Cert.ReferenceIdeal.main_arg0) i) r :=
    (hin 0).1 ▸ (hfin 0).1
  have hk : ∀ i, ∃ r : ℝ, @Eq EReal (m' (((0 : Dev Cert.ReferenceIdeal.nD).tc : Thread Cert.ReferenceIdeal.nD Cert.ReferenceIdeal.τ).loc Cert.ReferenceIdeal.main_arg2) i) r :=
    (hin 0).2.2.1 ▸ (hfin 0).2.2
  have hw : ∀ i, ∃ r : ℝ, @Eq EReal (m' (((0 : Dev Cert.ReferenceIdeal.nD).tc : Thread Cert.ReferenceIdeal.nD Cert.ReferenceIdeal.τ).loc Cert.ReferenceIdeal.main_arg1) i) r :=
    Cert.Value.real_of_blocks _ fun c => (hin c).2.1 ▸ (hfin c).2.1
  refine ⟨_, (θ_run (Cert.KernelIdeal.defs (F := Ideal)) _ _).mono (fun _ h c => ⟨(h.1 c).1.trans ?_, (h.1 c).2⟩) (Cert.KernelIdeal.Ring.run_main m g),
    (θ_run (Cert.ReferenceIdeal.defs (F := Ideal)) _ _).mono
      (fun _ h => ⟨(h 0).1.trans (Cert.ReferenceIdeal.Read.val_main_v44_eq m' 0), (h 0).2⟩) (Cert.ReferenceIdeal.Value.run m' g')⟩
  exact Cert.Value.out_eq m _ _ _ _ _ hx hw hk (fun c => (hin c).1) (fun c => (hin c).2.1) (fun c => (hin c).2.2.1)
    (fun c => (hin c).2.2.2.1) (fun c => (hin c).2.2.2.2) c

theorem claim : Cert.Claim :=
  ⟨Cert.Kernel.Gen.facts, Cert.KernelIdeal.Gen.facts, Cert.ReferenceIdeal.Gen.facts, Cert.Value.facts_kernel, Cert.Value.facts_reference,
    frame_printed, frame_ideal, frame_ideal_pre, frame_reference, frame_reference_pre, trivial, algebraic⟩

end Cert.Proof

end
